-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.1 = (fun _ => 1#1)
    ∧ (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.1 = (fun _ => 1#1)
    ∧ (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.2.1 = (fun _ => 1#1)
    ∧ (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2.2.2 = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e_over_temperature" .f32 0x4003E74F#32 ((((11744051 / 16777216) * (Real.log 2))⁻¹ : ℝ) : EReal)
  ∧ IdealRules.named_const.Statement Cert.KernelIdeal.κ "min_exponent" .f32 0xC61C4000#32 ⊥
  ∧ IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal (hKernelIdeal := hKernelIdeal) (hReferenceIdeal := hReferenceIdeal) (hPre_valid := hPre_valid)
-- ==== Pre_valid.lean ====
abbrev S8x26x8192 : Shape := ⟨3, ![8, 26, 8192]⟩
abbrev S8x26 : Shape := ⟨2, ![8, 26]⟩
abbrev S32000x8192 : Shape := ⟨2, ![32000, 8192]⟩
abbrev S32000 : Shape := ⟨1, ![32000]⟩
abbrev S_ : Shape := ⟨0, ![]⟩

class Facts : Prop where
  bcast_S_S8x26 : S_.BroadcastsInDim S8x26 (![] : Fin 0 → Fin S8x26.rank)
  reducesTo_S8x26_S_d0_1 : S8x26.ReducesTo [0, 1] S_
  h_S_ : 0 < S_.numel
  bcast_S_S8x26x8192 : S_.BroadcastsInDim S8x26x8192 (![] : Fin 0 → Fin S8x26x8192.rank)
  reducesTo_S8x26x8192_S_d0_1_2 : S8x26x8192.ReducesTo [0, 1, 2] S_
  bcast_S_S32000x8192 : S_.BroadcastsInDim S32000x8192 (![] : Fin 0 → Fin S32000x8192.rank)
  reducesTo_S32000x8192_S_d0_1 : S32000x8192.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg1 : FVec F S8x26 .f32) (main_arg5 : FVec F S32000 .f32) (main_v5 : IVec S_ 1) (main_v11 : IVec S_ 1) (main_v13 : IVec S32000x8192 1) (main_v15 : IVec S32000x8192 1) : IVec S_ 1 × IVec S_ 1 × IVec S_ 1 × IVec S_ 1 × IVec S_ 1 :=
  let main_v16 : IVec S32000x8192 1 := andi main_v13 main_v15
  let main_c_7 : IVec S_ 1 := constantI S_ 1 1#1
  let main_v17 : IVec S_ 1 := (fun x v => Host.reduce IntOp.andi x v reducesTo_S32000x8192_S_d0_1 h_S_) main_v16 main_c_7
  let main_v18 : FVec F S8x26 .f32 := Host.absf main_arg1
  let main_cst : FVec F S_ .f32 := constant S_ .f32 0x7F800000#32
  let main_v19 : FVec F S8x26 .f32 := broadcastInDim S8x26 ![] bcast_S_S8x26 main_cst
  let main_v20 : IVec S8x26 1 := cmpf .olt main_v18 main_v19
  let main_c_8 : IVec S_ 1 := constantI S_ 1 1#1
  let main_v21 : IVec S_ 1 := (fun x v => Host.reduce IntOp.andi x v reducesTo_S8x26_S_d0_1 h_S_) main_v20 main_c_8
  let main_v22 : FVec F S32000 .f32 := Host.absf main_arg5
  let main_cst_9 : FVec F S_ .f32 := constant S_ .f32 0x7F800000#32
  let main_v23 : FVec F S32000 .f32 := broadcastInDim S32000 ![] bcast_S_S32000 main_cst_9
  let main_v24 : IVec S32000 1 := cmpf .olt main_v22 main_v23
  let main_c_10 : IVec S_ 1 := constantI S_ 1 1#1
  let main_v25 : IVec S_ 1 := (fun x v => Host.reduce IntOp.andi x v reducesTo_S32000_S_d0 h_S_) main_v24 main_c_10
  (main_v5, main_v11, main_v17, main_v21, main_v25)

def fn {F : FTy → Type} [FloatOps F] (main_arg0 : IVec S8x26x8192 8) (main_arg1 : FVec F S8x26 .f32) (main_arg2 : IVec S8x26 32) (main_arg3 : IVec S8x26 32) (main_arg4 : IVec S32000x8192 8) (main_arg5 : FVec F S32000 .f32) : IVec S_ 1 × IVec S_ 1 × IVec S_ 1 × IVec S_ 1 × IVec S_ 1 :=
  let main_c : IVec S_ 32 := constantI S_ 32 0#32
  let main_v0 : IVec S8x26 32 := broadcastInDim S8x26 ![] bcast_S_S8x26 main_c
  let main_v1 : IVec S8x26 1 := cmpi .sge main_arg3 main_v0
  let main_c_0 : IVec S_ 32 := constantI S_ 32 32000#32
  let main_v2 : IVec S8x26 32 := broadcastInDim S8x26 ![] bcast_S_S8x26 main_c_0
  let main_v3 : IVec S8x26 1 := cmpi .slt main_arg3 main_v2
  let main_v4 : IVec S8x26 1 := andi main_v1 main_v3
  let main_c_1 : IVec S_ 1 := constantI S_ 1 1#1
  let main_v5 : IVec S_ 1 := (fun x v => Host.reduce IntOp.andi x v reducesTo_S8x26_S_d0_1 h_S_) main_v4 main_c_1
  let main_c_2 : IVec S_ 8 := constantI S_ 8 127#8
  let main_v6 : IVec S8x26x8192 8 := broadcastInDim S8x26x8192 ![] bcast_S_S8x26x8192 main_c_2
  let main_v7 : IVec S8x26x8192 1 := cmpi .ne main_arg0 main_v6
  let main_c_3 : IVec S_ 8 := constantI S_ 8 255#8
  let main_v8 : IVec S8x26x8192 8 := broadcastInDim S8x26x8192 ![] bcast_S_S8x26x8192 main_c_3
  let main_v9 : IVec S8x26x8192 1 := cmpi .ne main_arg0 main_v8
  let main_v10 : IVec S8x26x8192 1 := andi main_v7 main_v9
  let main_c_4 : IVec S_ 1 := constantI S_ 1 1#1
  let main_v11 : IVec S_ 1 := (fun x v => Host.reduce IntOp.andi x v reducesTo_S8x26x8192_S_d0_1_2 h_S_) main_v10 main_c_4
  let main_c_5 : IVec S_ 8 := constantI S_ 8 127#8
  let main_v12 : IVec S32000x8192 8 := broadcastInDim S32000x8192 ![] bcast_S_S32000x8192 main_c_5
  let main_v13 : IVec S32000x8192 1 := cmpi .ne main_arg4 main_v12
  let main_c_6 : IVec S_ 8 := constantI S_ 8 255#8
  let main_v14 : IVec S32000x8192 8 := broadcastInDim S32000x8192 ![] bcast_S_S32000x8192 main_c_6
  let main_v15 : IVec S32000x8192 1 := cmpi .ne main_arg4 main_v14
  fn_part1 (F := F) main_arg1 main_arg5 main_v5 main_v11 main_v13 main_v15
-- ==== Kernel.lean ====
abbrev S8x26x8192 : Shape := ⟨3, ![8, 26, 8192]⟩
abbrev S8x26 : Shape := ⟨2, ![8, 26]⟩
abbrev S32000x8192 : Shape := ⟨2, ![32000, 8192]⟩
abbrev S32000 : Shape := ⟨1, ![32000]⟩
abbrev S_ : Shape := ⟨0, ![]⟩
abbrev S8x32x8192 : Shape := ⟨3, ![8, 32, 8192]⟩
abbrev S256x8192 : Shape := ⟨2, ![256, 8192]⟩
abbrev S8x32 : Shape := ⟨2, ![8, 32]⟩
abbrev S1x256 : Shape := ⟨2, ![1, 256]⟩
abbrev S8 : Shape := ⟨1, ![8]⟩
abbrev S8x1 : Shape := ⟨2, ![8, 1]⟩
abbrev S125x2x128 : Shape := ⟨3, ![125, 2, 128]⟩
abbrev S5x256x8192 : Shape := ⟨3, ![5, 256, 8192]⟩
abbrev S2x32000x128 : Shape := ⟨3, ![2, 32000, 128]⟩
abbrev S2x128x128 : Shape := ⟨3, ![2, 128, 128]⟩
abbrev S5 : Shape := ⟨1, ![5]⟩
abbrev S1 : Shape := ⟨1, ![1]⟩
abbrev S1x256x8192 : Shape := ⟨3, ![1, 256, 8192]⟩
abbrev S8x256 : Shape := ⟨2, ![8, 256]⟩
abbrev S256x256 : Shape := ⟨2, ![256, 256]⟩
abbrev S1x2x128 : Shape := ⟨3, ![1, 2, 128]⟩
abbrev S2x128 : Shape := ⟨2, ![2, 128]⟩
abbrev S128x2 : Shape := ⟨2, ![128, 2]⟩
abbrev S128x1 : Shape := ⟨2, ![128, 1]⟩
abbrev S128x256 : Shape := ⟨2, ![128, 256]⟩
abbrev S256x128 : Shape := ⟨2, ![256, 128]⟩
abbrev S1x256x128 : Shape := ⟨3, ![1, 256, 128]⟩
abbrev S32x8x256 : Shape := ⟨3, ![32, 8, 256]⟩
abbrev S1x8x256 : Shape := ⟨3, ![1, 8, 256]⟩
abbrev S256 : Shape := ⟨1, ![256]⟩
abbrev S1x1 : Shape := ⟨2, ![1, 1]⟩
abbrev S1x1x128 : Shape := ⟨3, ![1, 1, 128]⟩
abbrev S1x128 : Shape := ⟨2, ![1, 128]⟩
abbrev S128x128 : Shape := ⟨2, ![128, 128]⟩
abbrev S8x128 : Shape := ⟨2, ![8, 128]⟩
abbrev S8x128x1 : Shape := ⟨3, ![8, 128, 1]⟩
abbrev S1x128x128 : Shape := ⟨3, ![1, 128, 128]⟩
abbrev S128 : Shape := ⟨1, ![128]⟩
abbrev S1x26 : Shape := ⟨2, ![1, 26]⟩

abbrev nBuf : Space → Nat
  | .hbm => 54
  | .vmem => 11
  | .smem => 1
  | _ => 0

abbrev bufTy : (tb : Table) → Fin (tcTables nBuf tb) → BufTy
  | .hbm, ⟨0, _⟩ => ⟨S8x26x8192, .i8⟩
  | .hbm, ⟨1, _⟩ => ⟨S8x26, .f32⟩
  | .hbm, ⟨2, _⟩ => ⟨S8x26, .i32⟩
  | .hbm, ⟨3, _⟩ => ⟨S8x26, .i32⟩
  | .hbm, ⟨4, _⟩ => ⟨S32000x8192, .i8⟩
  | .hbm, ⟨5, _⟩ => ⟨S32000, .f32⟩
  | .hbm, ⟨6, _⟩ => ⟨S8x26x8192, .fp8e4m3⟩
  | .hbm, ⟨7, _⟩ => ⟨S32000x8192, .fp8e4m3⟩
  | .hbm, ⟨8, _⟩ => ⟨S_, .i8⟩
  | .hbm, ⟨9, _⟩ => ⟨S_, .fp8e4m3⟩
  | .hbm, ⟨10, _⟩ => ⟨S8x32x8192, .fp8e4m3⟩
  | .hbm, ⟨11, _⟩ => ⟨S256x8192, .fp8e4m3⟩
  | .hbm, ⟨12, _⟩ => ⟨S_, .i32⟩
  | .hbm, ⟨13, _⟩ => ⟨S_, .f32⟩
  | .hbm, ⟨14, _⟩ => ⟨S8x32, .f32⟩
  | .hbm, ⟨15, _⟩ => ⟨S1x256, .f32⟩
  | .hbm, ⟨16, _⟩ => ⟨S8, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S_, .i32⟩
  | .hbm, ⟨32, _⟩ => ⟨S_, .i1⟩
  | .hbm, ⟨33, _⟩ => ⟨S8, .i1⟩
  | .hbm, ⟨34, _⟩ => ⟨S8, .i1⟩
  | .hbm, ⟨35, _⟩ => ⟨S8, .i1⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S_, .i32⟩
  | .hbm, ⟨44, _⟩ => ⟨S8x32, .i32⟩
  | .hbm, ⟨45, _⟩ => ⟨S8x1, .i32⟩
  | .hbm, ⟨46, _⟩ => ⟨S8x32, .i32⟩
  | .hbm, ⟨47, _⟩ => ⟨S8x32, .i32⟩
  | .hbm, ⟨48, _⟩ => ⟨S1x256, .i32⟩
  | .hbm, ⟨49, _⟩ => ⟨S125x2x128, .f32⟩
  | .hbm, ⟨50, _⟩ => ⟨S8x26, .f32⟩
  | .hbm, ⟨51, _⟩ => ⟨S8x26, .f32⟩
  | .hbm, ⟨52, _⟩ => ⟨S8x26, .f32⟩
  | .hbm, ⟨53, _⟩ => ⟨S8x26, .f32⟩
  | .local _ .vmem, ⟨0, _⟩ => ⟨S256x8192, .fp8e4m3⟩
  | .local _ .vmem, ⟨1, _⟩ => ⟨S1x256, .f32⟩
  | .local _ .vmem, ⟨2, _⟩ => ⟨S1x256, .i32⟩
  | .local _ .vmem, ⟨3, _⟩ => ⟨S125x2x128, .f32⟩
  | .local _ .vmem, ⟨4, _⟩ => ⟨S8x26, .f32⟩
  | .local _ .vmem, ⟨5, _⟩ => ⟨S8x26, .f32⟩
  | .local _ .vmem, ⟨6, _⟩ => ⟨S8x26, .f32⟩
  | .local _ .vmem, ⟨7, _⟩ => ⟨S8x26, .f32⟩
  | .local _ .vmem, ⟨8, _⟩ => ⟨S5x256x8192, .fp8e4m3⟩
  | .local _ .vmem, ⟨9, _⟩ => ⟨S2x32000x128, .f32⟩
  | .local _ .vmem, ⟨10, _⟩ => ⟨S2x128x128, .f32⟩
  | .local _ .smem, ⟨0, _⟩ => ⟨S8x26, .i32⟩
  | _, _ => ⟨S8x26x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_v5 : Ref sig .tc := ⟨.hbm, 26, rfl⟩
abbrev main_call1_v6 : Ref sig .tc := ⟨.hbm, 27, rfl⟩
abbrev main_call1_c_2 : Ref sig .tc := ⟨.hbm, 28, rfl⟩
abbrev main_call1_v7 : Ref sig .tc := ⟨.hbm, 29, rfl⟩
abbrev main_call1_v8 : Ref sig .tc := ⟨.hbm, 30, rfl⟩
abbrev main_call1_c_3 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_c_3 : Ref sig .tc := ⟨.hbm, 42, rfl⟩
abbrev main_call2_v0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17_0 : Ref sig .tc := ⟨.hbm, 50, rfl⟩
abbrev main_v17_1 : Ref sig .tc := ⟨.hbm, 51, rfl⟩
abbrev main_v17_2 : Ref sig .tc := ⟨.hbm, 52, rfl⟩
abbrev main_v17_3 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_25 : BitVec 32 := 0#32
  let c25_i32 : BitVec 32 := 25#32
  let v32 : BitVec 32 := Scalar.addi c0_i32_25 c25_i32
  let c1_i32_26 : BitVec 32 := 1#32
  ⟨c0_i32_25, v32, c1_i32_26⟩
def k0_off1 (k0_t1 : Fin k0_t1_loop.trips) (c0_i32_1551 : BitVec 32) : Fin 2 → Nat :=
  let c0_i32_25 : BitVec 32 := 0#32
  let c1_i32_26 : BitVec 32 := 1#32
  let arg14 : BitVec 32 := Scf.iv c0_i32_25 c1_i32_26 k0_t1
  let c5_i32 : BitVec 32 := 5#32
  let v1925 : BitVec 32 := Scalar.muli arg14 c5_i32
  let v1926 : BitVec 32 := Scalar.addi v1925 c0_i32_1551
  let c256_i32_1552 : BitVec 32 := 256#32
  let v1927 : BitVec 32 := Scalar.muli v1926 c256_i32_1552
  let c0_i32_1557 : BitVec 32 := 0#32
  ![v1927.toNat, 0]
def k0_off2 (k0_t1 : Fin k0_t1_loop.trips) (c0_i32_1551 : BitVec 32) : Fin 3 → Nat :=
  let c0_i32_25 : BitVec 32 := 0#32
  let c1_i32_26 : BitVec 32 := 1#32
  let arg14 : BitVec 32 := Scf.iv c0_i32_25 c1_i32_26 k0_t1
  let c5_i32 : BitVec 32 := 5#32
  let v1925 : BitVec 32 := Scalar.muli arg14 c5_i32
  let v1926 : BitVec 32 := Scalar.addi v1925 c0_i32_1551
  let v1938 : Index := Scalar.indexCast v1926
  let c0_1564 : Index := 0#32
  let c0_1565 : Index := 0#32
  ![v1938.toNat, 0, 0]
def k0_off3 (k0_t1 : Fin k0_t1_loop.trips) (c0_i32_1551 : BitVec 32) : Fin 3 → Nat :=
  let c0_1567 : Index := 0#32
  let c0_i32_25 : BitVec 32 := 0#32
  let c1_i32_26 : BitVec 32 := 1#32
  let arg14 : BitVec 32 := Scf.iv c0_i32_25 c1_i32_26 k0_t1
  let c5_i32 : BitVec 32 := 5#32
  let v1925 : BitVec 32 := Scalar.muli arg14 c5_i32
  let v1926 : BitVec 32 := Scalar.addi v1925 c0_i32_1551
  let c256_i32_1566 : BitVec 32 := 256#32
  let v1953 : BitVec 32 := Scalar.muli v1926 c256_i32_1566
  let v1954 : Index := Scalar.indexCast v1953
  let c0_1568 : Index := 0#32
  ![0, v1954.toNat, 0]
def k0_off4 (k0_t1 : Fin k0_t1_loop.trips) (c0_i32_1551 : BitVec 32) : Fin 3 → Nat :=
  let c1_1570 : Index := 1#32
  let c0_i32_25 : BitVec 32 := 0#32
  let c1_i32_26 : BitVec 32 := 1#32
  let arg14 : BitVec 32 := Scf.iv c0_i32_25 c1_i32_26 k0_t1
  let c5_i32 : BitVec 32 := 5#32
  let v1925 : BitVec 32 := Scalar.muli arg14 c5_i32
  let v1926 : BitVec 32 := Scalar.addi v1925 c0_i32_1551
  let c256_i32_1569 : BitVec 32 := 256#32
  let v1959 : BitVec 32 := Scalar.muli v1926 c256_i32_1569
  let v1960 : Index := Scalar.indexCast v1959
  let c0_1571 : Index := 0#32
  ![1, v1960.toNat, 0]
def k0_cond1 (k0_t1 : Fin k0_t1_loop.trips) : BitVec 1 :=
  let c0_i32_25 : BitVec 32 := 0#32
  let c1_i32_26 : BitVec 32 := 1#32
  let arg14 : BitVec 32 := Scf.iv c0_i32_25 c1_i32_26 k0_t1
  let c5_i32 : BitVec 32 := 5#32
  let v1925 : BitVec 32 := Scalar.muli arg14 c5_i32
  let c0_i32_1551 : BitVec 32 := 0#32
  let v1926 : BitVec 32 := Scalar.addi v1925 c0_i32_1551
  let c5_i32_1576 : BitVec 32 := 5#32
  let v1984 : BitVec 32 := Scalar.addi v1926 c5_i32_1576
  let c125_i32 : BitVec 32 := 125#32
  let v1985 : BitVec 1 := Scalar.cmpi .slt v1984 c125_i32
  let v1986 : BitVec 32 := Scalar.extui v1985
  let c0_i32_1577 : BitVec 32 := 0#32
  let v1987 : BitVec 1 := Scalar.cmpi .ne v1986 c0_i32_1577
  v1987

def k0_off5 (k0_t1 : Fin k0_t1_loop.trips) : Fin 2 → Nat :=
  let c0_i32_25 : BitVec 32 := 0#32
  let c1_i32_26 : BitVec 32 := 1#32
  let arg14 : BitVec 32 := Scf.iv c0_i32_25 c1_i32_26 k0_t1
  let c5_i32 : BitVec 32 := 5#32
  let v1925 : BitVec 32 := Scalar.muli arg14 c5_i32
  let c0_i32_1551 : BitVec 32 := 0#32
  let v1926 : BitVec 32 := Scalar.addi v1925 c0_i32_1551
  let c5_i32_1694 : BitVec 32 := 5#32
  let v2240 : BitVec 32 := Scalar.addi v1926 c5_i32_1694
  let c256_i32_1695 : BitVec 32 := 256#32
  let v2241 : BitVec 32 := Scalar.muli v2240 c256_i32_1695
  let c0_i32_1700 : BitVec 32 := 0#32
  ![v2241.toNat, 0]
def k0_cond2 (k0_t1 : Fin k0_t1_loop.trips) : BitVec 1 :=
  let c0_i32_25 : BitVec 32 := 0#32
  let c1_i32_26 : BitVec 32 := 1#32
  let arg14 : BitVec 32 := Scf.iv c0_i32_25 c1_i32_26 k0_t1
  let c5_i32_1578 : BitVec 32 := 5#32
  let v1988 : BitVec 32 := Scalar.muli arg14 c5_i32_1578
  let c1_i32_1579 : BitVec 32 := 1#32
  let v1989 : BitVec 32 := Scalar.addi v1988 c1_i32_1579
  let c5_i32_1604 : BitVec 32 := 5#32
  let v2047 : BitVec 32 := Scalar.addi v1989 c5_i32_1604
  let c125_i32_1605 : BitVec 32 := 125#32
  let v2048 : BitVec 1 := Scalar.cmpi .slt v2047 c125_i32_1605
  let v2049 : BitVec 32 := Scalar.extui v2048
  let c0_i32_1606 : BitVec 32 := 0#32
  let v2050 : BitVec 1 := Scalar.cmpi .ne v2049 c0_i32_1606
  v2050

def k0_off6 (k0_t1 : Fin k0_t1_loop.trips) : Fin 2 → Nat :=
  let c0_i32_25 : BitVec 32 := 0#32
  let c1_i32_26 : BitVec 32 := 1#32
  let arg14 : BitVec 32 := Scf.iv c0_i32_25 c1_i32_26 k0_t1
  let c5_i32_1578 : BitVec 32 := 5#32
  let v1988 : BitVec 32 := Scalar.muli arg14 c5_i32_1578
  let c1_i32_1579 : BitVec 32 := 1#32
  let v1989 : BitVec 32 := Scalar.addi v1988 c1_i32_1579
  let c5_i32_1694 : BitVec 32 := 5#32
  let v2240 : BitVec 32 := Scalar.addi v1989 c5_i32_1694
  let c256_i32_1695 : BitVec 32 := 256#32
  let v2241 : BitVec 32 := Scalar.muli v2240 c256_i32_1695
  let c0_i32_1700 : BitVec 32 := 0#32
  ![v2241.toNat, 0]
def k0_cond3 (k0_t1 : Fin k0_t1_loop.trips) : BitVec 1 :=
  let c0_i32_25 : BitVec 32 := 0#32
  let c1_i32_26 : BitVec 32 := 1#32
  let arg14 : BitVec 32 := Scf.iv c0_i32_25 c1_i32_26 k0_t1
  let c5_i32_1607 : BitVec 32 := 5#32
  let v2051 : BitVec 32 := Scalar.muli arg14 c5_i32_1607
  let c2_i32_1608 : BitVec 32 := 2#32
  let v2052 : BitVec 32 := Scalar.addi v2051 c2_i32_1608
  let c5_i32_1633 : BitVec 32 := 5#32
  let v2110 : BitVec 32 := Scalar.addi v2052 c5_i32_1633
  let c125_i32_1634 : BitVec 32 := 125#32
  let v2111 : BitVec 1 := Scalar.cmpi .slt v2110 c125_i32_1634
  let v2112 : BitVec 32 := Scalar.extui v2111
  let c0_i32_1635 : BitVec 32 := 0#32
  let v2113 : BitVec 1 := Scalar.cmpi .ne v2112 c0_i32_1635
  v2113

def k0_off7 (k0_t1 : Fin k0_t1_loop.trips) : Fin 2 → Nat :=
  let c0_i32_25 : BitVec 32 := 0#32
  let c1_i32_26 : BitVec 32 := 1#32
  let arg14 : BitVec 32 := Scf.iv c0_i32_25 c1_i32_26 k0_t1
  let c5_i32_1607 : BitVec 32 := 5#32
  let v2051 : BitVec 32 := Scalar.muli arg14 c5_i32_1607
  let c2_i32_1608 : BitVec 32 := 2#32
  let v2052 : BitVec 32 := Scalar.addi v2051 c2_i32_1608
  let c5_i32_1694 : BitVec 32 := 5#32
  let v2240 : BitVec 32 := Scalar.addi v2052 c5_i32_1694
  let c256_i32_1695 : BitVec 32 := 256#32
  let v2241 : BitVec 32 := Scalar.muli v2240 c256_i32_1695
  let c0_i32_1700 : BitVec 32 := 0#32
  ![v2241.toNat, 0]
def k0_cond4 (k0_t1 : Fin k0_t1_loop.trips) : BitVec 1 :=
  let c0_i32_25 : BitVec 32 := 0#32
  let c1_i32_26 : BitVec 32 := 1#32
  let arg14 : BitVec 32 := Scf.iv c0_i32_25 c1_i32_26 k0_t1
  let c5_i32_1636 : BitVec 32 := 5#32
  let v2114 : BitVec 32 := Scalar.muli arg14 c5_i32_1636
  let c3_i32_1637 : BitVec 32 := 3#32
  let v2115 : BitVec 32 := Scalar.addi v2114 c3_i32_1637
  let c5_i32_1662 : BitVec 32 := 5#32
  let v2173 : BitVec 32 := Scalar.addi v2115 c5_i32_1662
  let c125_i32_1663 : BitVec 32 := 125#32
  let v2174 : BitVec 1 := Scalar.cmpi .slt v2173 c125_i32_1663
  let v2175 : BitVec 32 := Scalar.extui v2174
  let c0_i32_1664 : BitVec 32 := 0#32
  let v2176 : BitVec 1 := Scalar.cmpi .ne v2175 c0_i32_1664
  v2176

def k0_off8 (k0_t1 : Fin k0_t1_loop.trips) : Fin 2 → Nat :=
  let c0_i32_25 : BitVec 32 := 0#32
  let c1_i32_26 : BitVec 32 := 1#32
  let arg14 : BitVec 32 := Scf.iv c0_i32_25 c1_i32_26 k0_t1
  let c5_i32_1636 : BitVec 32 := 5#32
  let v2114 : BitVec 32 := Scalar.muli arg14 c5_i32_1636
  let c3_i32_1637 : BitVec 32 := 3#32
  let v2115 : BitVec 32 := Scalar.addi v2114 c3_i32_1637
  let c5_i32_1694 : BitVec 32 := 5#32
  let v2240 : BitVec 32 := Scalar.addi v2115 c5_i32_1694
  let c256_i32_1695 : BitVec 32 := 256#32
  let v2241 : BitVec 32 := Scalar.muli v2240 c256_i32_1695
  let c0_i32_1700 : BitVec 32 := 0#32
  ![v2241.toNat, 0]
def k0_cond5 (k0_t1 : Fin k0_t1_loop.trips) : BitVec 1 :=
  let c0_i32_25 : BitVec 32 := 0#32
  let c1_i32_26 : BitVec 32 := 1#32
  let arg14 : BitVec 32 := Scf.iv c0_i32_25 c1_i32_26 k0_t1
  let c5_i32_1665 : BitVec 32 := 5#32
  let v2177 : BitVec 32 := Scalar.muli arg14 c5_i32_1665
  let c4_i32_1666 : BitVec 32 := 4#32
  let v2178 : BitVec 32 := Scalar.addi v2177 c4_i32_1666
  let c5_i32_1691 : BitVec 32 := 5#32
  let v2236 : BitVec 32 := Scalar.addi v2178 c5_i32_1691
  let c125_i32_1692 : BitVec 32 := 125#32
  let v2237 : BitVec 1 := Scalar.cmpi .slt v2236 c125_i32_1692
  let v2238 : BitVec 32 := Scalar.extui v2237
  let c0_i32_1693 : BitVec 32 := 0#32
  let v2239 : BitVec 1 := Scalar.cmpi .ne v2238 c0_i32_1693
  v2239

def k0_off9 (k0_t1 : Fin k0_t1_loop.trips) : Fin 2 → Nat :=
  let c0_i32_25 : BitVec 32 := 0#32
  let c1_i32_26 : BitVec 32 := 1#32
  let arg14 : BitVec 32 := Scf.iv c0_i32_25 c1_i32_26 k0_t1
  let c5_i32_1665 : BitVec 32 := 5#32
  let v2177 : BitVec 32 := Scalar.muli arg14 c5_i32_1665
  let c4_i32_1666 : BitVec 32 := 4#32
  let v2178 : BitVec 32 := Scalar.addi v2177 c4_i32_1666
  let c5_i32_1694 : BitVec 32 := 5#32
  let v2240 : BitVec 32 := Scalar.addi v2178 c5_i32_1694
  let c256_i32_1695 : BitVec 32 := 256#32
  let v2241 : BitVec 32 := Scalar.muli v2240 c256_i32_1695
  let c0_i32_1700 : BitVec 32 := 0#32
  ![v2241.toNat, 0]
def k0_off10 (v61 : BitVec 32) : Fin 3 → Nat :=
  let c0_40 : Index := 0#32
  let v62 : Index := Scalar.indexCast v61
  let c0_41 : Index := 0#32
  ![0, v62.toNat, 0]

def k0_chk1 (v61 : BitVec 32) : Prop :=
  (∀ a, (k0_off10 v61) a + S1x1x128.size a ≤ S2x32000x128.size a)
theorem k0_off10_inb : ∀ (v61 : BitVec 32) (k0_hw1 : k0_chk1 v61), ∀ a, (k0_off10 v61) a + S1x1x128.size a ≤ S2x32000x128.size a := fun v61 k0_hw1 => k0_hw1

def k0_off11 (v68 : BitVec 32) : Fin 3 → Nat :=
  let c0_46 : Index := 0#32
  let v69 : Index := Scalar.indexCast v68
  let c0_47 : Index := 0#32
  ![0, v69.toNat, 0]

def k0_chk2 (v68 : BitVec 32) : Prop :=
  (∀ a, (k0_off11 v68) a + S1x1x128.size a ≤ S2x32000x128.size a)
theorem k0_off11_inb : ∀ (v68 : BitVec 32) (k0_hw2 : k0_chk2 v68), ∀ a, (k0_off11 v68) a + S1x1x128.size a ≤ S2x32000x128.size a := fun v68 k0_hw2 => k0_hw2

def k0_off12 (v75 : BitVec 32) : Fin 3 → Nat :=
  let c0_52 : Index := 0#32
  let v76 : Index := Scalar.indexCast v75
  let c0_53 : Index := 0#32
  ![0, v76.toNat, 0]

def k0_chk3 (v75 : BitVec 32) : Prop :=
  (∀ a, (k0_off12 v75) a + S1x1x128.size a ≤ S2x32000x128.size a)
theorem k0_off12_inb : ∀ (v75 : BitVec 32) (k0_hw3 : k0_chk3 v75), ∀ a, (k0_off12 v75) a + S1x1x128.size a ≤ S2x32000x128.size a := fun v75 k0_hw3 => k0_hw3

def k0_off13 (v82 : BitVec 32) : Fin 3 → Nat :=
  let c0_58 : Index := 0#32
  let v83 : Index := Scalar.indexCast v82
  let c0_59 : Index := 0#32
  ![0, v83.toNat, 0]

def k0_chk4 (v82 : BitVec 32) : Prop :=
  (∀ a, (k0_off13 v82) a + S1x1x128.size a ≤ S2x32000x128.size a)
theorem k0_off13_inb : ∀ (v82 : BitVec 32) (k0_hw4 : k0_chk4 v82), ∀ a, (k0_off13 v82) a + S1x1x128.size a ≤ S2x32000x128.size a := fun v82 k0_hw4 => k0_hw4

def k0_off14 (v89 : BitVec 32) : Fin 3 → Nat :=
  let c0_64 : Index := 0#32
  let v90 : Index := Scalar.indexCast v89
  let c0_65 : Index := 0#32
  ![0, v90.toNat, 0]

def k0_chk5 (v89 : BitVec 32) : Prop :=
  (∀ a, (k0_off14 v89) a + S1x1x128.size a ≤ S2x32000x128.size a)
theorem k0_off14_inb : ∀ (v89 : BitVec 32) (k0_hw5 : k0_chk5 v89), ∀ a, (k0_off14 v89) a + S1x1x128.size a ≤ S2x32000x128.size a := fun v89 k0_hw5 => k0_hw5

def k0_off15 (v96 : BitVec 32) : Fin 3 → Nat :=
  let c0_70 : Index := 0#32
  let v97 : Index := Scalar.indexCast v96
  let c0_71 : Index := 0#32
  ![0, v97.toNat, 0]

def k0_chk6 (v96 : BitVec 32) : Prop :=
  (∀ a, (k0_off15 v96) a + S1x1x128.size a ≤ S2x32000x128.size a)
theorem k0_off15_inb : ∀ (v96 : BitVec 32) (k0_hw6 : k0_chk6 v96), ∀ a, (k0_off15 v96) a + S1x1x128.size a ≤ S2x32000x128.size a := fun v96 k0_hw6 => k0_hw6

def k0_off16 (v103 : BitVec 32) : Fin 3 → Nat :=
  let c0_76 : Index := 0#32
  let v104 : Index := Scalar.indexCast v103
  let c0_77 : Index := 0#32
  ![0, v104.toNat, 0]

def k0_chk7 (v103 : BitVec 32) : Prop :=
  (∀ a, (k0_off16 v103) a + S1x1x128.size a ≤ S2x32000x128.size a)
theorem k0_off16_inb : ∀ (v103 : BitVec 32) (k0_hw7 : k0_chk7 v103), ∀ a, (k0_off16 v103) a + S1x1x128.size a ≤ S2x32000x128.size a := fun v103 k0_hw7 => k0_hw7

def k0_off17 (v110 : BitVec 32) : Fin 3 → Nat :=
  let c0_82 : Index := 0#32
  let v111 : Index := Scalar.indexCast v110
  let c0_83 : Index := 0#32
  ![0, v111.toNat, 0]

def k0_chk8 (v110 : BitVec 32) : Prop :=
  (∀ a, (k0_off17 v110) a + S1x1x128.size a ≤ S2x32000x128.size a)
theorem k0_off17_inb : ∀ (v110 : BitVec 32) (k0_hw8 : k0_chk8 v110), ∀ a, (k0_off17 v110) a + S1x1x128.size a ≤ S2x32000x128.size a := fun v110 k0_hw8 => k0_hw8

def k0_off18 (v117 : BitVec 32) : Fin 3 → Nat :=
  let c0_88 : Index := 0#32
  let v118 : Index := Scalar.indexCast v117
  let c0_89 : Index := 0#32
  ![0, v118.toNat, 0]

def k0_chk9 (v117 : BitVec 32) : Prop :=
  (∀ a, (k0_off18 v117) a + S1x1x128.size a ≤ S2x32000x128.size a)
theorem k0_off18_inb : ∀ (v117 : BitVec 32) (k0_hw9 : k0_chk9 v117), ∀ a, (k0_off18 v117) a + S1x1x128.size a ≤ S2x32000x128.size a := fun v117 k0_hw9 => k0_hw9

def k0_off19 (v124 : BitVec 32) : Fin 3 → Nat :=
  let c0_94 : Index := 0#32
  let v125 : Index := Scalar.indexCast v124
  let c0_95 : Index := 0#32
  ![0, v125.toNat, 0]

def k0_chk10 (v124 : BitVec 32) : Prop :=
  (∀ a, (k0_off19 v124) a + S1x1x128.size a ≤ S2x32000x128.size a)
theorem k0_off19_inb : ∀ (v124 : BitVec 32) (k0_hw10 : k0_chk10 v124), ∀ a, (k0_off19 v124) a + S1x1x128.size a ≤ S2x32000x128.size a := fun v124 k0_hw10 => k0_hw10

def k0_off20 (v131 : BitVec 32) : Fin 3 → Nat :=
  let c0_100 : Index := 0#32
  let v132 : Index := Scalar.indexCast v131
  let c0_101 : Index := 0#32
  ![0, v132.toNat, 0]

def k0_chk11 (v131 : BitVec 32) : Prop :=
  (∀ a, (k0_off20 v131) a + S1x1x128.size a ≤ S2x32000x128.size a)
theorem k0_off20_inb : ∀ (v131 : BitVec 32) (k0_hw11 : k0_chk11 v131), ∀ a, (k0_off20 v131) a + S1x1x128.size a ≤ S2x32000x128.size a := fun v131 k0_hw11 => k0_hw11

def k0_off21 (v138 : BitVec 32) : Fin 3 → Nat :=
  let c0_106 : Index := 0#32
  let v139 : Index := Scalar.indexCast v138
  let c0_107 : Index := 0#32
  ![0, v139.toNat, 0]

def k0_chk12 (v138 : BitVec 32) : Prop :=
  (∀ a, (k0_off21 v138) a + S1x1x128.size a ≤ S2x32000x128.size a)
theorem k0_off21_inb : ∀ (v138 : BitVec 32) (k0_hw12 : k0_chk12 v138), ∀ a, (k0_off21 v138) a + S1x1x128.size a ≤ S2x32000x128.size a := fun v138 k0_hw12 => k0_hw12

def k0_off22 (v145 : BitVec 32) : Fin 3 → Nat :=
  let c0_112 : Index := 0#32
  let v146 : Index := Scalar.indexCast v145
  let c0_113 : Index := 0#32
  ![0, v146.toNat, 0]

def k0_chk13 (v145 : BitVec 32) : Prop :=
  (∀ a, (k0_off22 v145) a + S1x1x128.size a ≤ S2x32000x128.size a)
theorem k0_off22_inb : ∀ (v145 : BitVec 32) (k0_hw13 : k0_chk13 v145), ∀ a, (k0_off22 v145) a + S1x1x128.size a ≤ S2x32000x128.size a := fun v145 k0_hw13 => k0_hw13

def k0_off23 (v152 : BitVec 32) : Fin 3 → Nat :=
  let c0_118 : Index := 0#32
  let v153 : Index := Scalar.indexCast v152
  let c0_119 : Index := 0#32
  ![0, v153.toNat, 0]

def k0_chk14 (v152 : BitVec 32) : Prop :=
  (∀ a, (k0_off23 v152) a + S1x1x128.size a ≤ S2x32000x128.size a)
theorem k0_off23_inb : ∀ (v152 : BitVec 32) (k0_hw14 : k0_chk14 v152), ∀ a, (k0_off23 v152) a + S1x1x128.size a ≤ S2x32000x128.size a := fun v152 k0_hw14 => k0_hw14

def k0_off24 (v159 : BitVec 32) : Fin 3 → Nat :=
  let c0_124 : Index := 0#32
  let v160 : Index := Scalar.indexCast v159
  let c0_125 : Index := 0#32
  ![0, v160.toNat, 0]

def k0_chk15 (v159 : BitVec 32) : Prop :=
  (∀ a, (k0_off24 v159) a + S1x1x128.size a ≤ S2x32000x128.size a)
theorem k0_off24_inb : ∀ (v159 : BitVec 32) (k0_hw15 : k0_chk15 v159), ∀ a, (k0_off24 v159) a + S1x1x128.size a ≤ S2x32000x128.size a := fun v159 k0_hw15 => k0_hw15

def k0_off25 (v166 : BitVec 32) : Fin 3 → Nat :=
  let c0_130 : Index := 0#32
  let v167 : Index := Scalar.indexCast v166
  let c0_131 : Index := 0#32
  ![0, v167.toNat, 0]

def k0_chk16 (v166 : BitVec 32) : Prop :=
  (∀ a, (k0_off25 v166) a + S1x1x128.size a ≤ S2x32000x128.size a)
theorem k0_off25_inb : ∀ (v166 : BitVec 32) (k0_hw16 : k0_chk16 v166), ∀ a, (k0_off25 v166) a + S1x1x128.size a ≤ S2x32000x128.size a := fun v166 k0_hw16 => k0_hw16

def k0_off26 (v173 : BitVec 32) : Fin 3 → Nat :=
  let c0_136 : Index := 0#32
  let v174 : Index := Scalar.indexCast v173
  let c0_137 : Index := 0#32
  ![0, v174.toNat, 0]

def k0_chk17 (v173 : BitVec 32) : Prop :=
  (∀ a, (k0_off26 v173) a + S1x1x128.size a ≤ S2x32000x128.size a)
theorem k0_off26_inb : ∀ (v173 : BitVec 32) (k0_hw17 : k0_chk17 v173), ∀ a, (k0_off26 v173) a + S1x1x128.size a ≤ S2x32000x128.size a := fun v173 k0_hw17 => k0_hw17

def k0_off27 (v180 : BitVec 32) : Fin 3 → Nat :=
  let c0_142 : Index := 0#32
  let v181 : Index := Scalar.indexCast v180
  let c0_143 : Index := 0#32
  ![0, v181.toNat, 0]

def k0_chk18 (v180 : BitVec 32) : Prop :=
  (∀ a, (k0_off27 v180) a + S1x1x128.size a ≤ S2x32000x128.size a)
theorem k0_off27_inb : ∀ (v180 : BitVec 32) (k0_hw18 : k0_chk18 v180), ∀ a, (k0_off27 v180) a + S1x1x128.size a ≤ S2x32000x128.size a := fun v180 k0_hw18 => k0_hw18

def k0_off28 (v187 : BitVec 32) : Fin 3 → Nat :=
  let c0_148 : Index := 0#32
  let v188 : Index := Scalar.indexCast v187
  let c0_149 : Index := 0#32
  ![0, v188.toNat, 0]

def k0_chk19 (v187 : BitVec 32) : Prop :=
  (∀ a, (k0_off28 v187) a + S1x1x128.size a ≤ S2x32000x128.size a)
theorem k0_off28_inb : ∀ (v187 : BitVec 32) (k0_hw19 : k0_chk19 v187), ∀ a, (k0_off28 v187) a + S1x1x128.size a ≤ S2x32000x128.size a := fun v187 k0_hw19 => k0_hw19

def k0_off29 (v194 : BitVec 32) : Fin 3 → Nat :=
  let c0_154 : Index := 0#32
  let v195 : Index := Scalar.indexCast v194
  let c0_155 : Index := 0#32
  ![0, v195.toNat, 0]

def k0_chk20 (v194 : BitVec 32) : Prop :=
  (∀ a, (k0_off29 v194) a + S1x1x128.size a ≤ S2x32000x128.size a)
theorem k0_off29_inb : ∀ (v194 : BitVec 32) (k0_hw20 : k0_chk20 v194), ∀ a, (k0_off29 v194) a + S1x1x128.size a ≤ S2x32000x128.size a := fun v194 k0_hw20 => k0_hw20

def k0_off30 (v201 : BitVec 32) : Fin 3 → Nat :=
  let c0_160 : Index := 0#32
  let v202 : Index := Scalar.indexCast v201
  let c0_161 : Index := 0#32
  ![0, v202.toNat, 0]

def k0_chk21 (v201 : BitVec 32) : Prop :=
  (∀ a, (k0_off30 v201) a + S1x1x128.size a ≤ S2x32000x128.size a)
theorem k0_off30_inb : ∀ (v201 : BitVec 32) (k0_hw21 : k0_chk21 v201), ∀ a, (k0_off30 v201) a + S1x1x128.size a ≤ S2x32000x128.size a := fun v201 k0_hw21 => k0_hw21

def k0_off31 (v208 : BitVec 32) : Fin 3 → Nat :=
  let c0_166 : Index := 0#32
  let v209 : Index := Scalar.indexCast v208
  let c0_167 : Index := 0#32
  ![0, v209.toNat, 0]

def k0_chk22 (v208 : BitVec 32) : Prop :=
  (∀ a, (k0_off31 v208) a + S1x1x128.size a ≤ S2x32000x128.size a)
theorem k0_off31_inb : ∀ (v208 : BitVec 32) (k0_hw22 : k0_chk22 v208), ∀ a, (k0_off31 v208) a + S1x1x128.size a ≤ S2x32000x128.size a := fun v208 k0_hw22 => k0_hw22

def k0_off32 (v215 : BitVec 32) : Fin 3 → Nat :=
  let c0_172 : Index := 0#32
  let v216 : Index := Scalar.indexCast v215
  let c0_173 : Index := 0#32
  ![0, v216.toNat, 0]

def k0_chk23 (v215 : BitVec 32) : Prop :=
  (∀ a, (k0_off32 v215) a + S1x1x128.size a ≤ S2x32000x128.size a)
theorem k0_off32_inb : ∀ (v215 : BitVec 32) (k0_hw23 : k0_chk23 v215), ∀ a, (k0_off32 v215) a + S1x1x128.size a ≤ S2x32000x128.size a := fun v215 k0_hw23 => k0_hw23

def k0_off33 (v222 : BitVec 32) : Fin 3 → Nat :=
  let c0_178 : Index := 0#32
  let v223 : Index := Scalar.indexCast v222
  let c0_179 : Index := 0#32
  ![0, v223.toNat, 0]

def k0_chk24 (v222 : BitVec 32) : Prop :=
  (∀ a, (k0_off33 v222) a + S1x1x128.size a ≤ S2x32000x128.size a)
theorem k0_off33_inb : ∀ (v222 : BitVec 32) (k0_hw24 : k0_chk24 v222), ∀ a, (k0_off33 v222) a + S1x1x128.size a ≤ S2x32000x128.size a := fun v222 k0_hw24 => k0_hw24

def k0_off34 (v229 : BitVec 32) : Fin 3 → Nat :=
  let c0_184 : Index := 0#32
  let v230 : Index := Scalar.indexCast v229
  let c0_185 : Index := 0#32
  ![0, v230.toNat, 0]

def k0_chk25 (v229 : BitVec 32) : Prop :=
  (∀ a, (k0_off34 v229) a + S1x1x128.size a ≤ S2x32000x128.size a)
theorem k0_off34_inb : ∀ (v229 : BitVec 32) (k0_hw25 : k0_chk25 v229), ∀ a, (k0_off34 v229) a + S1x1x128.size a ≤ S2x32000x128.size a := fun v229 k0_hw25 => k0_hw25

def k0_off35 (v236 : BitVec 32) : Fin 3 → Nat :=
  let c0_190 : Index := 0#32
  let v237 : Index := Scalar.indexCast v236
  let c0_191 : Index := 0#32
  ![0, v237.toNat, 0]

def k0_chk26 (v236 : BitVec 32) : Prop :=
  (∀ a, (k0_off35 v236) a + S1x1x128.size a ≤ S2x32000x128.size a)
theorem k0_off35_inb : ∀ (v236 : BitVec 32) (k0_hw26 : k0_chk26 v236), ∀ a, (k0_off35 v236) a + S1x1x128.size a ≤ S2x32000x128.size a := fun v236 k0_hw26 => k0_hw26

def k0_off36 (v243 : BitVec 32) : Fin 3 → Nat :=
  let c0_197 : Index := 0#32
  let v244 : Index := Scalar.indexCast v243
  let c0_198 : Index := 0#32
  ![0, v244.toNat, 0]

def k0_chk27 (v243 : BitVec 32) : Prop :=
  (∀ a, (k0_off36 v243) a + S1x1x128.size a ≤ S2x32000x128.size a)
theorem k0_off36_inb : ∀ (v243 : BitVec 32) (k0_hw27 : k0_chk27 v243), ∀ a, (k0_off36 v243) a + S1x1x128.size a ≤ S2x32000x128.size a := fun v243 k0_hw27 => k0_hw27

def k0_off37 (v250 : BitVec 32) : Fin 3 → Nat :=
  let c0_203 : Index := 0#32
  let v251 : Index := Scalar.indexCast v250
  let c0_204 : Index := 0#32
  ![0, v251.toNat, 0]

def k0_chk28 (v250 : BitVec 32) : Prop :=
  (∀ a, (k0_off37 v250) a + S1x1x128.size a ≤ S2x32000x128.size a)
theorem k0_off37_inb : ∀ (v250 : BitVec 32) (k0_hw28 : k0_chk28 v250), ∀ a, (k0_off37 v250) a + S1x1x128.size a ≤ S2x32000x128.size a := fun v250 k0_hw28 => k0_hw28

def k0_off38 (v257 : BitVec 32) : Fin 3 → Nat :=
  let c0_209 : Index := 0#32
  let v258 : Index := Scalar.indexCast v257
  let c0_210 : Index := 0#32
  ![0, v258.toNat, 0]

def k0_chk29 (v257 : BitVec 32) : Prop :=
  (∀ a, (k0_off38 v257) a + S1x1x128.size a ≤ S2x32000x128.size a)
theorem k0_off38_inb : ∀ (v257 : BitVec 32) (k0_hw29 : k0_chk29 v257), ∀ a, (k0_off38 v257) a + S1x1x128.size a ≤ S2x32000x128.size a := fun v257 k0_hw29 => k0_hw29

def k0_off39 (v264 : BitVec 32) : Fin 3 → Nat :=
  let c0_215 : Index := 0#32
  let v265 : Index := Scalar.indexCast v264
  let c0_216 : Index := 0#32
  ![0, v265.toNat, 0]

def k0_chk30 (v264 : BitVec 32) : Prop :=
  (∀ a, (k0_off39 v264) a + S1x1x128.size a ≤ S2x32000x128.size a)
theorem k0_off39_inb : ∀ (v264 : BitVec 32) (k0_hw30 : k0_chk30 v264), ∀ a, (k0_off39 v264) a + S1x1x128.size a ≤ S2x32000x128.size a := fun v264 k0_hw30 => k0_hw30

def k0_off40 (v271 : BitVec 32) : Fin 3 → Nat :=
  let c0_221 : Index := 0#32
  let v272 : Index := Scalar.indexCast v271
  let c0_222 : Index := 0#32
  ![0, v272.toNat, 0]

def k0_chk31 (v271 : BitVec 32) : Prop :=
  (∀ a, (k0_off40 v271) a + S1x1x128.size a ≤ S2x32000x128.size a)
theorem k0_off40_inb : ∀ (v271 : BitVec 32) (k0_hw31 : k0_chk31 v271), ∀ a, (k0_off40 v271) a + S1x1x128.size a ≤ S2x32000x128.size a := fun v271 k0_hw31 => k0_hw31

def k0_off41 (v278 : BitVec 32) : Fin 3 → Nat :=
  let c0_227 : Index := 0#32
  let v279 : Index := Scalar.indexCast v278
  let c0_228 : Index := 0#32
  ![0, v279.toNat, 0]

def k0_chk32 (v278 : BitVec 32) : Prop :=
  (∀ a, (k0_off41 v278) a + S1x1x128.size a ≤ S2x32000x128.size a)
theorem k0_off41_inb : ∀ (v278 : BitVec 32) (k0_hw32 : k0_chk32 v278), ∀ a, (k0_off41 v278) a + S1x1x128.size a ≤ S2x32000x128.size a := fun v278 k0_hw32 => k0_hw32

def k0_off42 (v285 : BitVec 32) : Fin 3 → Nat :=
  let c0_233 : Index := 0#32
  let v286 : Index := Scalar.indexCast v285
  let c0_234 : Index := 0#32
  ![0, v286.toNat, 0]

def k0_chk33 (v285 : BitVec 32) : Prop :=
  (∀ a, (k0_off42 v285) a + S1x1x128.size a ≤ S2x32000x128.size a)
theorem k0_off42_inb : ∀ (v285 : BitVec 32) (k0_hw33 : k0_chk33 v285), ∀ a, (k0_off42 v285) a + S1x1x128.size a ≤ S2x32000x128.size a := fun v285 k0_hw33 => k0_hw33

def k0_off43 (v292 : BitVec 32) : Fin 3 → Nat :=
  let c0_239 : Index := 0#32
  let v293 : Index := Scalar.indexCast v292
  let c0_240 : Index := 0#32
  ![0, v293.toNat, 0]

def k0_chk34 (v292 : BitVec 32) : Prop :=
  (∀ a, (k0_off43 v292) a + S1x1x128.size a ≤ S2x32000x128.size a)
theorem k0_off43_inb : ∀ (v292 : BitVec 32) (k0_hw34 : k0_chk34 v292), ∀ a, (k0_off43 v292) a + S1x1x128.size a ≤ S2x32000x128.size a := fun v292 k0_hw34 => k0_hw34

def k0_off44 (v299 : BitVec 32) : Fin 3 → Nat :=
  let c0_245 : Index := 0#32
  let v300 : Index := Scalar.indexCast v299
  let c0_246 : Index := 0#32
  ![0, v300.toNat, 0]

def k0_chk35 (v299 : BitVec 32) : Prop :=
  (∀ a, (k0_off44 v299) a + S1x1x128.size a ≤ S2x32000x128.size a)
theorem k0_off44_inb : ∀ (v299 : BitVec 32) (k0_hw35 : k0_chk35 v299), ∀ a, (k0_off44 v299) a + S1x1x128.size a ≤ S2x32000x128.size a := fun v299 k0_hw35 => k0_hw35

def k0_off45 (v306 : BitVec 32) : Fin 3 → Nat :=
  let c0_251 : Index := 0#32
  let v307 : Index := Scalar.indexCast v306
  let c0_252 : Index := 0#32
  ![0, v307.toNat, 0]

def k0_chk36 (v306 : BitVec 32) : Prop :=
  (∀ a, (k0_off45 v306) a + S1x1x128.size a ≤ S2x32000x128.size a)
theorem k0_off45_inb : ∀ (v306 : BitVec 32) (k0_hw36 : k0_chk36 v306), ∀ a, (k0_off45 v306) a + S1x1x128.size a ≤ S2x32000x128.size a := fun v306 k0_hw36 => k0_hw36

def k0_off46 (v313 : BitVec 32) : Fin 3 → Nat :=
  let c0_257 : Index := 0#32
  let v314 : Index := Scalar.indexCast v313
  let c0_258 : Index := 0#32
  ![0, v314.toNat, 0]

def k0_chk37 (v313 : BitVec 32) : Prop :=
  (∀ a, (k0_off46 v313) a + S1x1x128.size a ≤ S2x32000x128.size a)
theorem k0_off46_inb : ∀ (v313 : BitVec 32) (k0_hw37 : k0_chk37 v313), ∀ a, (k0_off46 v313) a + S1x1x128.size a ≤ S2x32000x128.size a := fun v313 k0_hw37 => k0_hw37

def k0_off47 (v320 : BitVec 32) : Fin 3 → Nat :=
  let c0_263 : Index := 0#32
  let v321 : Index := Scalar.indexCast v320
  let c0_264 : Index := 0#32
  ![0, v321.toNat, 0]

def k0_chk38 (v320 : BitVec 32) : Prop :=
  (∀ a, (k0_off47 v320) a + S1x1x128.size a ≤ S2x32000x128.size a)
theorem k0_off47_inb : ∀ (v320 : BitVec 32) (k0_hw38 : k0_chk38 v320), ∀ a, (k0_off47 v320) a + S1x1x128.size a ≤ S2x32000x128.size a := fun v320 k0_hw38 => k0_hw38

def k0_off48 (v327 : BitVec 32) : Fin 3 → Nat :=
  let c0_269 : Index := 0#32
  let v328 : Index := Scalar.indexCast v327
  let c0_270 : Index := 0#32
  ![0, v328.toNat, 0]

def k0_chk39 (v327 : BitVec 32) : Prop :=
  (∀ a, (k0_off48 v327) a + S1x1x128.size a ≤ S2x32000x128.size a)
theorem k0_off48_inb : ∀ (v327 : BitVec 32) (k0_hw39 : k0_chk39 v327), ∀ a, (k0_off48 v327) a + S1x1x128.size a ≤ S2x32000x128.size a := fun v327 k0_hw39 => k0_hw39

def k0_off49 (v334 : BitVec 32) : Fin 3 → Nat :=
  let c0_275 : Index := 0#32
  let v335 : Index := Scalar.indexCast v334
  let c0_276 : Index := 0#32
  ![0, v335.toNat, 0]

def k0_chk40 (v334 : BitVec 32) : Prop :=
  (∀ a, (k0_off49 v334) a + S1x1x128.size a ≤ S2x32000x128.size a)
theorem k0_off49_inb : ∀ (v334 : BitVec 32) (k0_hw40 : k0_chk40 v334), ∀ a, (k0_off49 v334) a + S1x1x128.size a ≤ S2x32000x128.size a := fun v334 k0_hw40 => k0_hw40

def k0_off50 (v341 : BitVec 32) : Fin 3 → Nat :=
  let c0_281 : Index := 0#32
  let v342 : Index := Scalar.indexCast v341
  let c0_282 : Index := 0#32
  ![0, v342.toNat, 0]

def k0_chk41 (v341 : BitVec 32) : Prop :=
  (∀ a, (k0_off50 v341) a + S1x1x128.size a ≤ S2x32000x128.size a)
theorem k0_off50_inb : ∀ (v341 : BitVec 32) (k0_hw41 : k0_chk41 v341), ∀ a, (k0_off50 v341) a + S1x1x128.size a ≤ S2x32000x128.size a := fun v341 k0_hw41 => k0_hw41

def k0_off51 (v348 : BitVec 32) : Fin 3 → Nat :=
  let c0_287 : Index := 0#32
  let v349 : Index := Scalar.indexCast v348
  let c0_288 : Index := 0#32
  ![0, v349.toNat, 0]

def k0_chk42 (v348 : BitVec 32) : Prop :=
  (∀ a, (k0_off51 v348) a + S1x1x128.size a ≤ S2x32000x128.size a)
theorem k0_off51_inb : ∀ (v348 : BitVec 32) (k0_hw42 : k0_chk42 v348), ∀ a, (k0_off51 v348) a + S1x1x128.size a ≤ S2x32000x128.size a := fun v348 k0_hw42 => k0_hw42

def k0_off52 (v355 : BitVec 32) : Fin 3 → Nat :=
  let c0_293 : Index := 0#32
  let v356 : Index := Scalar.indexCast v355
  let c0_294 : Index := 0#32
  ![0, v356.toNat, 0]

def k0_chk43 (v355 : BitVec 32) : Prop :=
  (∀ a, (k0_off52 v355) a + S1x1x128.size a ≤ S2x32000x128.size a)
theorem k0_off52_inb : ∀ (v355 : BitVec 32) (k0_hw43 : k0_chk43 v355), ∀ a, (k0_off52 v355) a + S1x1x128.size a ≤ S2x32000x128.size a := fun v355 k0_hw43 => k0_hw43

def k0_off53 (v362 : BitVec 32) : Fin 3 → Nat :=
  let c0_299 : Index := 0#32
  let v363 : Index := Scalar.indexCast v362
  let c0_300 : Index := 0#32
  ![0, v363.toNat, 0]

def k0_chk44 (v362 : BitVec 32) : Prop :=
  (∀ a, (k0_off53 v362) a + S1x1x128.size a ≤ S2x32000x128.size a)
theorem k0_off53_inb : ∀ (v362 : BitVec 32) (k0_hw44 : k0_chk44 v362), ∀ a, (k0_off53 v362) a + S1x1x128.size a ≤ S2x32000x128.size a := fun v362 k0_hw44 => k0_hw44

def k0_off54 (v369 : BitVec 32) : Fin 3 → Nat :=
  let c0_305 : Index := 0#32
  let v370 : Index := Scalar.indexCast v369
  let c0_306 : Index := 0#32
  ![0, v370.toNat, 0]

def k0_chk45 (v369 : BitVec 32) : Prop :=
  (∀ a, (k0_off54 v369) a + S1x1x128.size a ≤ S2x32000x128.size a)
theorem k0_off54_inb : ∀ (v369 : BitVec 32) (k0_hw45 : k0_chk45 v369), ∀ a, (k0_off54 v369) a + S1x1x128.size a ≤ S2x32000x128.size a := fun v369 k0_hw45 => k0_hw45

def k0_off55 (v376 : BitVec 32) : Fin 3 → Nat :=
  let c0_311 : Index := 0#32
  let v377 : Index := Scalar.indexCast v376
  let c0_312 : Index := 0#32
  ![0, v377.toNat, 0]

def k0_chk46 (v376 : BitVec 32) : Prop :=
  (∀ a, (k0_off55 v376) a + S1x1x128.size a ≤ S2x32000x128.size a)
theorem k0_off55_inb : ∀ (v376 : BitVec 32) (k0_hw46 : k0_chk46 v376), ∀ a, (k0_off55 v376) a + S1x1x128.size a ≤ S2x32000x128.size a := fun v376 k0_hw46 => k0_hw46

def k0_off56 (v383 : BitVec 32) : Fin 3 → Nat :=
  let c0_317 : Index := 0#32
  let v384 : Index := Scalar.indexCast v383
  let c0_318 : Index := 0#32
  ![0, v384.toNat, 0]

def k0_chk47 (v383 : BitVec 32) : Prop :=
  (∀ a, (k0_off56 v383) a + S1x1x128.size a ≤ S2x32000x128.size a)
theorem k0_off56_inb : ∀ (v383 : BitVec 32) (k0_hw47 : k0_chk47 v383), ∀ a, (k0_off56 v383) a + S1x1x128.size a ≤ S2x32000x128.size a := fun v383 k0_hw47 => k0_hw47

def k0_off57 (v390 : BitVec 32) : Fin 3 → Nat :=
  let c0_323 : Index := 0#32
  let v391 : Index := Scalar.indexCast v390
  let c0_324 : Index := 0#32
  ![0, v391.toNat, 0]

def k0_chk48 (v390 : BitVec 32) : Prop :=
  (∀ a, (k0_off57 v390) a + S1x1x128.size a ≤ S2x32000x128.size a)
theorem k0_off57_inb : ∀ (v390 : BitVec 32) (k0_hw48 : k0_chk48 v390), ∀ a, (k0_off57 v390) a + S1x1x128.size a ≤ S2x32000x128.size a := fun v390 k0_hw48 => k0_hw48

def k0_off58 (v397 : BitVec 32) : Fin 3 → Nat :=
  let c0_329 : Index := 0#32
  let v398 : Index := Scalar.indexCast v397
  let c0_330 : Index := 0#32
  ![0, v398.toNat, 0]

def k0_chk49 (v397 : BitVec 32) : Prop :=
  (∀ a, (k0_off58 v397) a + S1x1x128.size a ≤ S2x32000x128.size a)
theorem k0_off58_inb : ∀ (v397 : BitVec 32) (k0_hw49 : k0_chk49 v397), ∀ a, (k0_off58 v397) a + S1x1x128.size a ≤ S2x32000x128.size a := fun v397 k0_hw49 => k0_hw49

def k0_off59 (v404 : BitVec 32) : Fin 3 → Nat :=
  let c0_335 : Index := 0#32
  let v405 : Index := Scalar.indexCast v404
  let c0_336 : Index := 0#32
  ![0, v405.toNat, 0]

def k0_chk50 (v404 : BitVec 32) : Prop :=
  (∀ a, (k0_off59 v404) a + S1x1x128.size a ≤ S2x32000x128.size a)
theorem k0_off59_inb : ∀ (v404 : BitVec 32) (k0_hw50 : k0_chk50 v404), ∀ a, (k0_off59 v404) a + S1x1x128.size a ≤ S2x32000x128.size a := fun v404 k0_hw50 => k0_hw50

def k0_off60 (v411 : BitVec 32) : Fin 3 → Nat :=
  let c0_341 : Index := 0#32
  let v412 : Index := Scalar.indexCast v411
  let c0_342 : Index := 0#32
  ![0, v412.toNat, 0]

def k0_chk51 (v411 : BitVec 32) : Prop :=
  (∀ a, (k0_off60 v411) a + S1x1x128.size a ≤ S2x32000x128.size a)
theorem k0_off60_inb : ∀ (v411 : BitVec 32) (k0_hw51 : k0_chk51 v411), ∀ a, (k0_off60 v411) a + S1x1x128.size a ≤ S2x32000x128.size a := fun v411 k0_hw51 => k0_hw51

def k0_off61 (v418 : BitVec 32) : Fin 3 → Nat :=
  let c0_347 : Index := 0#32
  let v419 : Index := Scalar.indexCast v418
  let c0_348 : Index := 0#32
  ![0, v419.toNat, 0]

def k0_chk52 (v418 : BitVec 32) : Prop :=
  (∀ a, (k0_off61 v418) a + S1x1x128.size a ≤ S2x32000x128.size a)
theorem k0_off61_inb : ∀ (v418 : BitVec 32) (k0_hw52 : k0_chk52 v418), ∀ a, (k0_off61 v418) a + S1x1x128.size a ≤ S2x32000x128.size a := fun v418 k0_hw52 => k0_hw52

def k0_off62 (v425 : BitVec 32) : Fin 3 → Nat :=
  let c0_353 : Index := 0#32
  let v426 : Index := Scalar.indexCast v425
  let c0_354 : Index := 0#32
  ![0, v426.toNat, 0]

def k0_chk53 (v425 : BitVec 32) : Prop :=
  (∀ a, (k0_off62 v425) a + S1x1x128.size a ≤ S2x32000x128.size a)
theorem k0_off62_inb : ∀ (v425 : BitVec 32) (k0_hw53 : k0_chk53 v425), ∀ a, (k0_off62 v425) a + S1x1x128.size a ≤ S2x32000x128.size a := fun v425 k0_hw53 => k0_hw53

def k0_off63 (v432 : BitVec 32) : Fin 3 → Nat :=
  let c0_359 : Index := 0#32
  let v433 : Index := Scalar.indexCast v432
  let c0_360 : Index := 0#32
  ![0, v433.toNat, 0]

def k0_chk54 (v432 : BitVec 32) : Prop :=
  (∀ a, (k0_off63 v432) a + S1x1x128.size a ≤ S2x32000x128.size a)
theorem k0_off63_inb : ∀ (v432 : BitVec 32) (k0_hw54 : k0_chk54 v432), ∀ a, (k0_off63 v432) a + S1x1x128.size a ≤ S2x32000x128.size a := fun v432 k0_hw54 => k0_hw54

def k0_off64 (v439 : BitVec 32) : Fin 3 → Nat :=
  let c0_365 : Index := 0#32
  let v440 : Index := Scalar.indexCast v439
  let c0_366 : Index := 0#32
  ![0, v440.toNat, 0]

def k0_chk55 (v439 : BitVec 32) : Prop :=
  (∀ a, (k0_off64 v439) a + S1x1x128.size a ≤ S2x32000x128.size a)
theorem k0_off64_inb : ∀ (v439 : BitVec 32) (k0_hw55 : k0_chk55 v439), ∀ a, (k0_off64 v439) a + S1x1x128.size a ≤ S2x32000x128.size a := fun v439 k0_hw55 => k0_hw55

def k0_off65 (v446 : BitVec 32) : Fin 3 → Nat :=
  let c0_371 : Index := 0#32
  let v447 : Index := Scalar.indexCast v446
  let c0_372 : Index := 0#32
  ![0, v447.toNat, 0]

def k0_chk56 (v446 : BitVec 32) : Prop :=
  (∀ a, (k0_off65 v446) a + S1x1x128.size a ≤ S2x32000x128.size a)
theorem k0_off65_inb : ∀ (v446 : BitVec 32) (k0_hw56 : k0_chk56 v446), ∀ a, (k0_off65 v446) a + S1x1x128.size a ≤ S2x32000x128.size a := fun v446 k0_hw56 => k0_hw56

def k0_off66 (v453 : BitVec 32) : Fin 3 → Nat :=
  let c0_377 : Index := 0#32
  let v454 : Index := Scalar.indexCast v453
  let c0_378 : Index := 0#32
  ![0, v454.toNat, 0]

def k0_chk57 (v453 : BitVec 32) : Prop :=
  (∀ a, (k0_off66 v453) a + S1x1x128.size a ≤ S2x32000x128.size a)
theorem k0_off66_inb : ∀ (v453 : BitVec 32) (k0_hw57 : k0_chk57 v453), ∀ a, (k0_off66 v453) a + S1x1x128.size a ≤ S2x32000x128.size a := fun v453 k0_hw57 => k0_hw57

def k0_off67 (v460 : BitVec 32) : Fin 3 → Nat :=
  let c0_383 : Index := 0#32
  let v461 : Index := Scalar.indexCast v460
  let c0_384 : Index := 0#32
  ![0, v461.toNat, 0]

def k0_chk58 (v460 : BitVec 32) : Prop :=
  (∀ a, (k0_off67 v460) a + S1x1x128.size a ≤ S2x32000x128.size a)
theorem k0_off67_inb : ∀ (v460 : BitVec 32) (k0_hw58 : k0_chk58 v460), ∀ a, (k0_off67 v460) a + S1x1x128.size a ≤ S2x32000x128.size a := fun v460 k0_hw58 => k0_hw58

def k0_off68 (v467 : BitVec 32) : Fin 3 → Nat :=
  let c0_389 : Index := 0#32
  let v468 : Index := Scalar.indexCast v467
  let c0_390 : Index := 0#32
  ![0, v468.toNat, 0]

def k0_chk59 (v467 : BitVec 32) : Prop :=
  (∀ a, (k0_off68 v467) a + S1x1x128.size a ≤ S2x32000x128.size a)
theorem k0_off68_inb : ∀ (v467 : BitVec 32) (k0_hw59 : k0_chk59 v467), ∀ a, (k0_off68 v467) a + S1x1x128.size a ≤ S2x32000x128.size a := fun v467 k0_hw59 => k0_hw59

def k0_off69 (v474 : BitVec 32) : Fin 3 → Nat :=
  let c0_395 : Index := 0#32
  let v475 : Index := Scalar.indexCast v474
  let c0_396 : Index := 0#32
  ![0, v475.toNat, 0]

def k0_chk60 (v474 : BitVec 32) : Prop :=
  (∀ a, (k0_off69 v474) a + S1x1x128.size a ≤ S2x32000x128.size a)
theorem k0_off69_inb : ∀ (v474 : BitVec 32) (k0_hw60 : k0_chk60 v474), ∀ a, (k0_off69 v474) a + S1x1x128.size a ≤ S2x32000x128.size a := fun v474 k0_hw60 => k0_hw60

def k0_off70 (v481 : BitVec 32) : Fin 3 → Nat :=
  let c0_401 : Index := 0#32
  let v482 : Index := Scalar.indexCast v481
  let c0_402 : Index := 0#32
  ![0, v482.toNat, 0]

def k0_chk61 (v481 : BitVec 32) : Prop :=
  (∀ a, (k0_off70 v481) a + S1x1x128.size a ≤ S2x32000x128.size a)
theorem k0_off70_inb : ∀ (v481 : BitVec 32) (k0_hw61 : k0_chk61 v481), ∀ a, (k0_off70 v481) a + S1x1x128.size a ≤ S2x32000x128.size a := fun v481 k0_hw61 => k0_hw61

def k0_off71 (v488 : BitVec 32) : Fin 3 → Nat :=
  let c0_407 : Index := 0#32
  let v489 : Index := Scalar.indexCast v488
  let c0_408 : Index := 0#32
  ![0, v489.toNat, 0]

def k0_chk62 (v488 : BitVec 32) : Prop :=
  (∀ a, (k0_off71 v488) a + S1x1x128.size a ≤ S2x32000x128.size a)
theorem k0_off71_inb : ∀ (v488 : BitVec 32) (k0_hw62 : k0_chk62 v488), ∀ a, (k0_off71 v488) a + S1x1x128.size a ≤ S2x32000x128.size a := fun v488 k0_hw62 => k0_hw62

def k0_off72 (v495 : BitVec 32) : Fin 3 → Nat :=
  let c0_413 : Index := 0#32
  let v496 : Index := Scalar.indexCast v495
  let c0_414 : Index := 0#32
  ![0, v496.toNat, 0]

def k0_chk63 (v495 : BitVec 32) : Prop :=
  (∀ a, (k0_off72 v495) a + S1x1x128.size a ≤ S2x32000x128.size a)
theorem k0_off72_inb : ∀ (v495 : BitVec 32) (k0_hw63 : k0_chk63 v495), ∀ a, (k0_off72 v495) a + S1x1x128.size a ≤ S2x32000x128.size a := fun v495 k0_hw63 => k0_hw63

def k0_off73 (v502 : BitVec 32) : Fin 3 → Nat :=
  let c0_419 : Index := 0#32
  let v503 : Index := Scalar.indexCast v502
  let c0_420 : Index := 0#32
  ![0, v503.toNat, 0]

def k0_chk64 (v502 : BitVec 32) : Prop :=
  (∀ a, (k0_off73 v502) a + S1x1x128.size a ≤ S2x32000x128.size a)
theorem k0_off73_inb : ∀ (v502 : BitVec 32) (k0_hw64 : k0_chk64 v502), ∀ a, (k0_off73 v502) a + S1x1x128.size a ≤ S2x32000x128.size a := fun v502 k0_hw64 => k0_hw64

def k0_off74 (v509 : BitVec 32) : Fin 3 → Nat :=
  let c0_425 : Index := 0#32
  let v510 : Index := Scalar.indexCast v509
  let c0_426 : Index := 0#32
  ![0, v510.toNat, 0]

def k0_chk65 (v509 : BitVec 32) : Prop :=
  (∀ a, (k0_off74 v509) a + S1x1x128.size a ≤ S2x32000x128.size a)
theorem k0_off74_inb : ∀ (v509 : BitVec 32) (k0_hw65 : k0_chk65 v509), ∀ a, (k0_off74 v509) a + S1x1x128.size a ≤ S2x32000x128.size a := fun v509 k0_hw65 => k0_hw65

def k0_off75 (v516 : BitVec 32) : Fin 3 → Nat :=
  let c0_431 : Index := 0#32
  let v517 : Index := Scalar.indexCast v516
  let c0_432 : Index := 0#32
  ![0, v517.toNat, 0]

def k0_chk66 (v516 : BitVec 32) : Prop :=
  (∀ a, (k0_off75 v516) a + S1x1x128.size a ≤ S2x32000x128.size a)
theorem k0_off75_inb : ∀ (v516 : BitVec 32) (k0_hw66 : k0_chk66 v516), ∀ a, (k0_off75 v516) a + S1x1x128.size a ≤ S2x32000x128.size a := fun v516 k0_hw66 => k0_hw66

def k0_off76 (v523 : BitVec 32) : Fin 3 → Nat :=
  let c0_437 : Index := 0#32
  let v524 : Index := Scalar.indexCast v523
  let c0_438 : Index := 0#32
  ![0, v524.toNat, 0]

def k0_chk67 (v523 : BitVec 32) : Prop :=
  (∀ a, (k0_off76 v523) a + S1x1x128.size a ≤ S2x32000x128.size a)
theorem k0_off76_inb : ∀ (v523 : BitVec 32) (k0_hw67 : k0_chk67 v523), ∀ a, (k0_off76 v523) a + S1x1x128.size a ≤ S2x32000x128.size a := fun v523 k0_hw67 => k0_hw67

def k0_off77 (v530 : BitVec 32) : Fin 3 → Nat :=
  let c0_443 : Index := 0#32
  let v531 : Index := Scalar.indexCast v530
  let c0_444 : Index := 0#32
  ![0, v531.toNat, 0]

def k0_chk68 (v530 : BitVec 32) : Prop :=
  (∀ a, (k0_off77 v530) a + S1x1x128.size a ≤ S2x32000x128.size a)
theorem k0_off77_inb : ∀ (v530 : BitVec 32) (k0_hw68 : k0_chk68 v530), ∀ a, (k0_off77 v530) a + S1x1x128.size a ≤ S2x32000x128.size a := fun v530 k0_hw68 => k0_hw68

def k0_off78 (v537 : BitVec 32) : Fin 3 → Nat :=
  let c0_449 : Index := 0#32
  let v538 : Index := Scalar.indexCast v537
  let c0_450 : Index := 0#32
  ![0, v538.toNat, 0]

def k0_chk69 (v537 : BitVec 32) : Prop :=
  (∀ a, (k0_off78 v537) a + S1x1x128.size a ≤ S2x32000x128.size a)
theorem k0_off78_inb : ∀ (v537 : BitVec 32) (k0_hw69 : k0_chk69 v537), ∀ a, (k0_off78 v537) a + S1x1x128.size a ≤ S2x32000x128.size a := fun v537 k0_hw69 => k0_hw69

def k0_off79 (v544 : BitVec 32) : Fin 3 → Nat :=
  let c0_455 : Index := 0#32
  let v545 : Index := Scalar.indexCast v544
  let c0_456 : Index := 0#32
  ![0, v545.toNat, 0]

def k0_chk70 (v544 : BitVec 32) : Prop :=
  (∀ a, (k0_off79 v544) a + S1x1x128.size a ≤ S2x32000x128.size a)
theorem k0_off79_inb : ∀ (v544 : BitVec 32) (k0_hw70 : k0_chk70 v544), ∀ a, (k0_off79 v544) a + S1x1x128.size a ≤ S2x32000x128.size a := fun v544 k0_hw70 => k0_hw70

def k0_off80 (v551 : BitVec 32) : Fin 3 → Nat :=
  let c0_461 : Index := 0#32
  let v552 : Index := Scalar.indexCast v551
  let c0_462 : Index := 0#32
  ![0, v552.toNat, 0]

def k0_chk71 (v551 : BitVec 32) : Prop :=
  (∀ a, (k0_off80 v551) a + S1x1x128.size a ≤ S2x32000x128.size a)
theorem k0_off80_inb : ∀ (v551 : BitVec 32) (k0_hw71 : k0_chk71 v551), ∀ a, (k0_off80 v551) a + S1x1x128.size a ≤ S2x32000x128.size a := fun v551 k0_hw71 => k0_hw71

def k0_off81 (v558 : BitVec 32) : Fin 3 → Nat :=
  let c0_467 : Index := 0#32
  let v559 : Index := Scalar.indexCast v558
  let c0_468 : Index := 0#32
  ![0, v559.toNat, 0]

def k0_chk72 (v558 : BitVec 32) : Prop :=
  (∀ a, (k0_off81 v558) a + S1x1x128.size a ≤ S2x32000x128.size a)
theorem k0_off81_inb : ∀ (v558 : BitVec 32) (k0_hw72 : k0_chk72 v558), ∀ a, (k0_off81 v558) a + S1x1x128.size a ≤ S2x32000x128.size a := fun v558 k0_hw72 => k0_hw72

def k0_off82 (v565 : BitVec 32) : Fin 3 → Nat :=
  let c0_473 : Index := 0#32
  let v566 : Index := Scalar.indexCast v565
  let c0_474 : Index := 0#32
  ![0, v566.toNat, 0]

def k0_chk73 (v565 : BitVec 32) : Prop :=
  (∀ a, (k0_off82 v565) a + S1x1x128.size a ≤ S2x32000x128.size a)
theorem k0_off82_inb : ∀ (v565 : BitVec 32) (k0_hw73 : k0_chk73 v565), ∀ a, (k0_off82 v565) a + S1x1x128.size a ≤ S2x32000x128.size a := fun v565 k0_hw73 => k0_hw73

def k0_off83 (v572 : BitVec 32) : Fin 3 → Nat :=
  let c0_479 : Index := 0#32
  let v573 : Index := Scalar.indexCast v572
  let c0_480 : Index := 0#32
  ![0, v573.toNat, 0]

def k0_chk74 (v572 : BitVec 32) : Prop :=
  (∀ a, (k0_off83 v572) a + S1x1x128.size a ≤ S2x32000x128.size a)
theorem k0_off83_inb : ∀ (v572 : BitVec 32) (k0_hw74 : k0_chk74 v572), ∀ a, (k0_off83 v572) a + S1x1x128.size a ≤ S2x32000x128.size a := fun v572 k0_hw74 => k0_hw74

def k0_off84 (v579 : BitVec 32) : Fin 3 → Nat :=
  let c0_485 : Index := 0#32
  let v580 : Index := Scalar.indexCast v579
  let c0_486 : Index := 0#32
  ![0, v580.toNat, 0]

def k0_chk75 (v579 : BitVec 32) : Prop :=
  (∀ a, (k0_off84 v579) a + S1x1x128.size a ≤ S2x32000x128.size a)
theorem k0_off84_inb : ∀ (v579 : BitVec 32) (k0_hw75 : k0_chk75 v579), ∀ a, (k0_off84 v579) a + S1x1x128.size a ≤ S2x32000x128.size a := fun v579 k0_hw75 => k0_hw75

def k0_off85 (v586 : BitVec 32) : Fin 3 → Nat :=
  let c0_491 : Index := 0#32
  let v587 : Index := Scalar.indexCast v586
  let c0_492 : Index := 0#32
  ![0, v587.toNat, 0]

def k0_chk76 (v586 : BitVec 32) : Prop :=
  (∀ a, (k0_off85 v586) a + S1x1x128.size a ≤ S2x32000x128.size a)
theorem k0_off85_inb : ∀ (v586 : BitVec 32) (k0_hw76 : k0_chk76 v586), ∀ a, (k0_off85 v586) a + S1x1x128.size a ≤ S2x32000x128.size a := fun v586 k0_hw76 => k0_hw76

def k0_off86 (v593 : BitVec 32) : Fin 3 → Nat :=
  let c0_497 : Index := 0#32
  let v594 : Index := Scalar.indexCast v593
  let c0_498 : Index := 0#32
  ![0, v594.toNat, 0]

def k0_chk77 (v593 : BitVec 32) : Prop :=
  (∀ a, (k0_off86 v593) a + S1x1x128.size a ≤ S2x32000x128.size a)
theorem k0_off86_inb : ∀ (v593 : BitVec 32) (k0_hw77 : k0_chk77 v593), ∀ a, (k0_off86 v593) a + S1x1x128.size a ≤ S2x32000x128.size a := fun v593 k0_hw77 => k0_hw77

def k0_off87 (v600 : BitVec 32) : Fin 3 → Nat :=
  let c0_503 : Index := 0#32
  let v601 : Index := Scalar.indexCast v600
  let c0_504 : Index := 0#32
  ![0, v601.toNat, 0]

def k0_chk78 (v600 : BitVec 32) : Prop :=
  (∀ a, (k0_off87 v600) a + S1x1x128.size a ≤ S2x32000x128.size a)
theorem k0_off87_inb : ∀ (v600 : BitVec 32) (k0_hw78 : k0_chk78 v600), ∀ a, (k0_off87 v600) a + S1x1x128.size a ≤ S2x32000x128.size a := fun v600 k0_hw78 => k0_hw78

def k0_off88 (v607 : BitVec 32) : Fin 3 → Nat :=
  let c0_509 : Index := 0#32
  let v608 : Index := Scalar.indexCast v607
  let c0_510 : Index := 0#32
  ![0, v608.toNat, 0]

def k0_chk79 (v607 : BitVec 32) : Prop :=
  (∀ a, (k0_off88 v607) a + S1x1x128.size a ≤ S2x32000x128.size a)
theorem k0_off88_inb : ∀ (v607 : BitVec 32) (k0_hw79 : k0_chk79 v607), ∀ a, (k0_off88 v607) a + S1x1x128.size a ≤ S2x32000x128.size a := fun v607 k0_hw79 => k0_hw79

def k0_off89 (v614 : BitVec 32) : Fin 3 → Nat :=
  let c0_515 : Index := 0#32
  let v615 : Index := Scalar.indexCast v614
  let c0_516 : Index := 0#32
  ![0, v615.toNat, 0]

def k0_chk80 (v614 : BitVec 32) : Prop :=
  (∀ a, (k0_off89 v614) a + S1x1x128.size a ≤ S2x32000x128.size a)
theorem k0_off89_inb : ∀ (v614 : BitVec 32) (k0_hw80 : k0_chk80 v614), ∀ a, (k0_off89 v614) a + S1x1x128.size a ≤ S2x32000x128.size a := fun v614 k0_hw80 => k0_hw80

def k0_off90 (v621 : BitVec 32) : Fin 3 → Nat :=
  let c0_521 : Index := 0#32
  let v622 : Index := Scalar.indexCast v621
  let c0_522 : Index := 0#32
  ![0, v622.toNat, 0]

def k0_chk81 (v621 : BitVec 32) : Prop :=
  (∀ a, (k0_off90 v621) a + S1x1x128.size a ≤ S2x32000x128.size a)
theorem k0_off90_inb : ∀ (v621 : BitVec 32) (k0_hw81 : k0_chk81 v621), ∀ a, (k0_off90 v621) a + S1x1x128.size a ≤ S2x32000x128.size a := fun v621 k0_hw81 => k0_hw81

def k0_off91 (v628 : BitVec 32) : Fin 3 → Nat :=
  let c0_527 : Index := 0#32
  let v629 : Index := Scalar.indexCast v628
  let c0_528 : Index := 0#32
  ![0, v629.toNat, 0]

def k0_chk82 (v628 : BitVec 32) : Prop :=
  (∀ a, (k0_off91 v628) a + S1x1x128.size a ≤ S2x32000x128.size a)
theorem k0_off91_inb : ∀ (v628 : BitVec 32) (k0_hw82 : k0_chk82 v628), ∀ a, (k0_off91 v628) a + S1x1x128.size a ≤ S2x32000x128.size a := fun v628 k0_hw82 => k0_hw82

def k0_off92 (v635 : BitVec 32) : Fin 3 → Nat :=
  let c0_533 : Index := 0#32
  let v636 : Index := Scalar.indexCast v635
  let c0_534 : Index := 0#32
  ![0, v636.toNat, 0]

def k0_chk83 (v635 : BitVec 32) : Prop :=
  (∀ a, (k0_off92 v635) a + S1x1x128.size a ≤ S2x32000x128.size a)
theorem k0_off92_inb : ∀ (v635 : BitVec 32) (k0_hw83 : k0_chk83 v635), ∀ a, (k0_off92 v635) a + S1x1x128.size a ≤ S2x32000x128.size a := fun v635 k0_hw83 => k0_hw83

def k0_off93 (v642 : BitVec 32) : Fin 3 → Nat :=
  let c0_539 : Index := 0#32
  let v643 : Index := Scalar.indexCast v642
  let c0_540 : Index := 0#32
  ![0, v643.toNat, 0]

def k0_chk84 (v642 : BitVec 32) : Prop :=
  (∀ a, (k0_off93 v642) a + S1x1x128.size a ≤ S2x32000x128.size a)
theorem k0_off93_inb : ∀ (v642 : BitVec 32) (k0_hw84 : k0_chk84 v642), ∀ a, (k0_off93 v642) a + S1x1x128.size a ≤ S2x32000x128.size a := fun v642 k0_hw84 => k0_hw84

def k0_off94 (v649 : BitVec 32) : Fin 3 → Nat :=
  let c0_545 : Index := 0#32
  let v650 : Index := Scalar.indexCast v649
  let c0_546 : Index := 0#32
  ![0, v650.toNat, 0]

def k0_chk85 (v649 : BitVec 32) : Prop :=
  (∀ a, (k0_off94 v649) a + S1x1x128.size a ≤ S2x32000x128.size a)
theorem k0_off94_inb : ∀ (v649 : BitVec 32) (k0_hw85 : k0_chk85 v649), ∀ a, (k0_off94 v649) a + S1x1x128.size a ≤ S2x32000x128.size a := fun v649 k0_hw85 => k0_hw85

def k0_off95 (v656 : BitVec 32) : Fin 3 → Nat :=
  let c0_551 : Index := 0#32
  let v657 : Index := Scalar.indexCast v656
  let c0_552 : Index := 0#32
  ![0, v657.toNat, 0]

def k0_chk86 (v656 : BitVec 32) : Prop :=
  (∀ a, (k0_off95 v656) a + S1x1x128.size a ≤ S2x32000x128.size a)
theorem k0_off95_inb : ∀ (v656 : BitVec 32) (k0_hw86 : k0_chk86 v656), ∀ a, (k0_off95 v656) a + S1x1x128.size a ≤ S2x32000x128.size a := fun v656 k0_hw86 => k0_hw86

def k0_off96 (v663 : BitVec 32) : Fin 3 → Nat :=
  let c0_557 : Index := 0#32
  let v664 : Index := Scalar.indexCast v663
  let c0_558 : Index := 0#32
  ![0, v664.toNat, 0]

def k0_chk87 (v663 : BitVec 32) : Prop :=
  (∀ a, (k0_off96 v663) a + S1x1x128.size a ≤ S2x32000x128.size a)
theorem k0_off96_inb : ∀ (v663 : BitVec 32) (k0_hw87 : k0_chk87 v663), ∀ a, (k0_off96 v663) a + S1x1x128.size a ≤ S2x32000x128.size a := fun v663 k0_hw87 => k0_hw87

def k0_off97 (v670 : BitVec 32) : Fin 3 → Nat :=
  let c0_563 : Index := 0#32
  let v671 : Index := Scalar.indexCast v670
  let c0_564 : Index := 0#32
  ![0, v671.toNat, 0]

def k0_chk88 (v670 : BitVec 32) : Prop :=
  (∀ a, (k0_off97 v670) a + S1x1x128.size a ≤ S2x32000x128.size a)
theorem k0_off97_inb : ∀ (v670 : BitVec 32) (k0_hw88 : k0_chk88 v670), ∀ a, (k0_off97 v670) a + S1x1x128.size a ≤ S2x32000x128.size a := fun v670 k0_hw88 => k0_hw88

def k0_off98 (v677 : BitVec 32) : Fin 3 → Nat :=
  let c0_569 : Index := 0#32
  let v678 : Index := Scalar.indexCast v677
  let c0_570 : Index := 0#32
  ![0, v678.toNat, 0]

def k0_chk89 (v677 : BitVec 32) : Prop :=
  (∀ a, (k0_off98 v677) a + S1x1x128.size a ≤ S2x32000x128.size a)
theorem k0_off98_inb : ∀ (v677 : BitVec 32) (k0_hw89 : k0_chk89 v677), ∀ a, (k0_off98 v677) a + S1x1x128.size a ≤ S2x32000x128.size a := fun v677 k0_hw89 => k0_hw89

def k0_off99 (v684 : BitVec 32) : Fin 3 → Nat :=
  let c0_575 : Index := 0#32
  let v685 : Index := Scalar.indexCast v684
  let c0_576 : Index := 0#32
  ![0, v685.toNat, 0]

def k0_chk90 (v684 : BitVec 32) : Prop :=
  (∀ a, (k0_off99 v684) a + S1x1x128.size a ≤ S2x32000x128.size a)
theorem k0_off99_inb : ∀ (v684 : BitVec 32) (k0_hw90 : k0_chk90 v684), ∀ a, (k0_off99 v684) a + S1x1x128.size a ≤ S2x32000x128.size a := fun v684 k0_hw90 => k0_hw90

def k0_off100 (v691 : BitVec 32) : Fin 3 → Nat :=
  let c0_581 : Index := 0#32
  let v692 : Index := Scalar.indexCast v691
  let c0_582 : Index := 0#32
  ![0, v692.toNat, 0]

def k0_chk91 (v691 : BitVec 32) : Prop :=
  (∀ a, (k0_off100 v691) a + S1x1x128.size a ≤ S2x32000x128.size a)
theorem k0_off100_inb : ∀ (v691 : BitVec 32) (k0_hw91 : k0_chk91 v691), ∀ a, (k0_off100 v691) a + S1x1x128.size a ≤ S2x32000x128.size a := fun v691 k0_hw91 => k0_hw91

def k0_off101 (v698 : BitVec 32) : Fin 3 → Nat :=
  let c0_587 : Index := 0#32
  let v699 : Index := Scalar.indexCast v698
  let c0_588 : Index := 0#32
  ![0, v699.toNat, 0]

def k0_chk92 (v698 : BitVec 32) : Prop :=
  (∀ a, (k0_off101 v698) a + S1x1x128.size a ≤ S2x32000x128.size a)
theorem k0_off101_inb : ∀ (v698 : BitVec 32) (k0_hw92 : k0_chk92 v698), ∀ a, (k0_off101 v698) a + S1x1x128.size a ≤ S2x32000x128.size a := fun v698 k0_hw92 => k0_hw92

def k0_off102 (v705 : BitVec 32) : Fin 3 → Nat :=
  let c0_593 : Index := 0#32
  let v706 : Index := Scalar.indexCast v705
  let c0_594 : Index := 0#32
  ![0, v706.toNat, 0]

def k0_chk93 (v705 : BitVec 32) : Prop :=
  (∀ a, (k0_off102 v705) a + S1x1x128.size a ≤ S2x32000x128.size a)
theorem k0_off102_inb : ∀ (v705 : BitVec 32) (k0_hw93 : k0_chk93 v705), ∀ a, (k0_off102 v705) a + S1x1x128.size a ≤ S2x32000x128.size a := fun v705 k0_hw93 => k0_hw93

def k0_off103 (v712 : BitVec 32) : Fin 3 → Nat :=
  let c0_599 : Index := 0#32
  let v713 : Index := Scalar.indexCast v712
  let c0_600 : Index := 0#32
  ![0, v713.toNat, 0]

def k0_chk94 (v712 : BitVec 32) : Prop :=
  (∀ a, (k0_off103 v712) a + S1x1x128.size a ≤ S2x32000x128.size a)
theorem k0_off103_inb : ∀ (v712 : BitVec 32) (k0_hw94 : k0_chk94 v712), ∀ a, (k0_off103 v712) a + S1x1x128.size a ≤ S2x32000x128.size a := fun v712 k0_hw94 => k0_hw94

def k0_off104 (v719 : BitVec 32) : Fin 3 → Nat :=
  let c0_605 : Index := 0#32
  let v720 : Index := Scalar.indexCast v719
  let c0_606 : Index := 0#32
  ![0, v720.toNat, 0]

def k0_chk95 (v719 : BitVec 32) : Prop :=
  (∀ a, (k0_off104 v719) a + S1x1x128.size a ≤ S2x32000x128.size a)
theorem k0_off104_inb : ∀ (v719 : BitVec 32) (k0_hw95 : k0_chk95 v719), ∀ a, (k0_off104 v719) a + S1x1x128.size a ≤ S2x32000x128.size a := fun v719 k0_hw95 => k0_hw95

def k0_off105 (v726 : BitVec 32) : Fin 3 → Nat :=
  let c0_611 : Index := 0#32
  let v727 : Index := Scalar.indexCast v726
  let c0_612 : Index := 0#32
  ![0, v727.toNat, 0]

def k0_chk96 (v726 : BitVec 32) : Prop :=
  (∀ a, (k0_off105 v726) a + S1x1x128.size a ≤ S2x32000x128.size a)
theorem k0_off105_inb : ∀ (v726 : BitVec 32) (k0_hw96 : k0_chk96 v726), ∀ a, (k0_off105 v726) a + S1x1x128.size a ≤ S2x32000x128.size a := fun v726 k0_hw96 => k0_hw96

def k0_off106 (v733 : BitVec 32) : Fin 3 → Nat :=
  let c0_617 : Index := 0#32
  let v734 : Index := Scalar.indexCast v733
  let c0_618 : Index := 0#32
  ![0, v734.toNat, 0]

def k0_chk97 (v733 : BitVec 32) : Prop :=
  (∀ a, (k0_off106 v733) a + S1x1x128.size a ≤ S2x32000x128.size a)
theorem k0_off106_inb : ∀ (v733 : BitVec 32) (k0_hw97 : k0_chk97 v733), ∀ a, (k0_off106 v733) a + S1x1x128.size a ≤ S2x32000x128.size a := fun v733 k0_hw97 => k0_hw97

def k0_off107 (v740 : BitVec 32) : Fin 3 → Nat :=
  let c0_623 : Index := 0#32
  let v741 : Index := Scalar.indexCast v740
  let c0_624 : Index := 0#32
  ![0, v741.toNat, 0]

def k0_chk98 (v740 : BitVec 32) : Prop :=
  (∀ a, (k0_off107 v740) a + S1x1x128.size a ≤ S2x32000x128.size a)
theorem k0_off107_inb : ∀ (v740 : BitVec 32) (k0_hw98 : k0_chk98 v740), ∀ a, (k0_off107 v740) a + S1x1x128.size a ≤ S2x32000x128.size a := fun v740 k0_hw98 => k0_hw98

def k0_off108 (v747 : BitVec 32) : Fin 3 → Nat :=
  let c0_629 : Index := 0#32
  let v748 : Index := Scalar.indexCast v747
  let c0_630 : Index := 0#32
  ![0, v748.toNat, 0]

def k0_chk99 (v747 : BitVec 32) : Prop :=
  (∀ a, (k0_off108 v747) a + S1x1x128.size a ≤ S2x32000x128.size a)
theorem k0_off108_inb : ∀ (v747 : BitVec 32) (k0_hw99 : k0_chk99 v747), ∀ a, (k0_off108 v747) a + S1x1x128.size a ≤ S2x32000x128.size a := fun v747 k0_hw99 => k0_hw99

def k0_off109 (v754 : BitVec 32) : Fin 3 → Nat :=
  let c0_635 : Index := 0#32
  let v755 : Index := Scalar.indexCast v754
  let c0_636 : Index := 0#32
  ![0, v755.toNat, 0]

def k0_chk100 (v754 : BitVec 32) : Prop :=
  (∀ a, (k0_off109 v754) a + S1x1x128.size a ≤ S2x32000x128.size a)
theorem k0_off109_inb : ∀ (v754 : BitVec 32) (k0_hw100 : k0_chk100 v754), ∀ a, (k0_off109 v754) a + S1x1x128.size a ≤ S2x32000x128.size a := fun v754 k0_hw100 => k0_hw100

def k0_off110 (v761 : BitVec 32) : Fin 3 → Nat :=
  let c0_641 : Index := 0#32
  let v762 : Index := Scalar.indexCast v761
  let c0_642 : Index := 0#32
  ![0, v762.toNat, 0]

def k0_chk101 (v761 : BitVec 32) : Prop :=
  (∀ a, (k0_off110 v761) a + S1x1x128.size a ≤ S2x32000x128.size a)
theorem k0_off110_inb : ∀ (v761 : BitVec 32) (k0_hw101 : k0_chk101 v761), ∀ a, (k0_off110 v761) a + S1x1x128.size a ≤ S2x32000x128.size a := fun v761 k0_hw101 => k0_hw101

def k0_off111 (v768 : BitVec 32) : Fin 3 → Nat :=
  let c0_647 : Index := 0#32
  let v769 : Index := Scalar.indexCast v768
  let c0_648 : Index := 0#32
  ![0, v769.toNat, 0]

def k0_chk102 (v768 : BitVec 32) : Prop :=
  (∀ a, (k0_off111 v768) a + S1x1x128.size a ≤ S2x32000x128.size a)
theorem k0_off111_inb : ∀ (v768 : BitVec 32) (k0_hw102 : k0_chk102 v768), ∀ a, (k0_off111 v768) a + S1x1x128.size a ≤ S2x32000x128.size a := fun v768 k0_hw102 => k0_hw102

def k0_off112 (v775 : BitVec 32) : Fin 3 → Nat :=
  let c0_653 : Index := 0#32
  let v776 : Index := Scalar.indexCast v775
  let c0_654 : Index := 0#32
  ![0, v776.toNat, 0]

def k0_chk103 (v775 : BitVec 32) : Prop :=
  (∀ a, (k0_off112 v775) a + S1x1x128.size a ≤ S2x32000x128.size a)
theorem k0_off112_inb : ∀ (v775 : BitVec 32) (k0_hw103 : k0_chk103 v775), ∀ a, (k0_off112 v775) a + S1x1x128.size a ≤ S2x32000x128.size a := fun v775 k0_hw103 => k0_hw103

def k0_off113 (v782 : BitVec 32) : Fin 3 → Nat :=
  let c0_659 : Index := 0#32
  let v783 : Index := Scalar.indexCast v782
  let c0_660 : Index := 0#32
  ![0, v783.toNat, 0]

def k0_chk104 (v782 : BitVec 32) : Prop :=
  (∀ a, (k0_off113 v782) a + S1x1x128.size a ≤ S2x32000x128.size a)
theorem k0_off113_inb : ∀ (v782 : BitVec 32) (k0_hw104 : k0_chk104 v782), ∀ a, (k0_off113 v782) a + S1x1x128.size a ≤ S2x32000x128.size a := fun v782 k0_hw104 => k0_hw104

def k0_off114 (v789 : BitVec 32) : Fin 3 → Nat :=
  let c1_665 : Index := 1#32
  let v790 : Index := Scalar.indexCast v789
  let c0_666 : Index := 0#32
  ![1, v790.toNat, 0]

def k0_chk105 (v789 : BitVec 32) : Prop :=
  (∀ a, (k0_off114 v789) a + S1x1x128.size a ≤ S2x32000x128.size a)
theorem k0_off114_inb : ∀ (v789 : BitVec 32) (k0_hw105 : k0_chk105 v789), ∀ a, (k0_off114 v789) a + S1x1x128.size a ≤ S2x32000x128.size a := fun v789 k0_hw105 => k0_hw105

def k0_off115 (v796 : BitVec 32) : Fin 3 → Nat :=
  let c1_672 : Index := 1#32
  let v797 : Index := Scalar.indexCast v796
  let c0_673 : Index := 0#32
  ![1, v797.toNat, 0]

def k0_chk106 (v796 : BitVec 32) : Prop :=
  (∀ a, (k0_off115 v796) a + S1x1x128.size a ≤ S2x32000x128.size a)
theorem k0_off115_inb : ∀ (v796 : BitVec 32) (k0_hw106 : k0_chk106 v796), ∀ a, (k0_off115 v796) a + S1x1x128.size a ≤ S2x32000x128.size a := fun v796 k0_hw106 => k0_hw106

def k0_off116 (v803 : BitVec 32) : Fin 3 → Nat :=
  let c1_679 : Index := 1#32
  let v804 : Index := Scalar.indexCast v803
  let c0_680 : Index := 0#32
  ![1, v804.toNat, 0]

def k0_chk107 (v803 : BitVec 32) : Prop :=
  (∀ a, (k0_off116 v803) a + S1x1x128.size a ≤ S2x32000x128.size a)
theorem k0_off116_inb : ∀ (v803 : BitVec 32) (k0_hw107 : k0_chk107 v803), ∀ a, (k0_off116 v803) a + S1x1x128.size a ≤ S2x32000x128.size a := fun v803 k0_hw107 => k0_hw107

def k0_off117 (v810 : BitVec 32) : Fin 3 → Nat :=
  let c1_686 : Index := 1#32
  let v811 : Index := Scalar.indexCast v810
  let c0_687 : Index := 0#32
  ![1, v811.toNat, 0]

def k0_chk108 (v810 : BitVec 32) : Prop :=
  (∀ a, (k0_off117 v810) a + S1x1x128.size a ≤ S2x32000x128.size a)
theorem k0_off117_inb : ∀ (v810 : BitVec 32) (k0_hw108 : k0_chk108 v810), ∀ a, (k0_off117 v810) a + S1x1x128.size a ≤ S2x32000x128.size a := fun v810 k0_hw108 => k0_hw108

def k0_off118 (v817 : BitVec 32) : Fin 3 → Nat :=
  let c1_693 : Index := 1#32
  let v818 : Index := Scalar.indexCast v817
  let c0_694 : Index := 0#32
  ![1, v818.toNat, 0]

def k0_chk109 (v817 : BitVec 32) : Prop :=
  (∀ a, (k0_off118 v817) a + S1x1x128.size a ≤ S2x32000x128.size a)
theorem k0_off118_inb : ∀ (v817 : BitVec 32) (k0_hw109 : k0_chk109 v817), ∀ a, (k0_off118 v817) a + S1x1x128.size a ≤ S2x32000x128.size a := fun v817 k0_hw109 => k0_hw109

def k0_off119 (v824 : BitVec 32) : Fin 3 → Nat :=
  let c1_700 : Index := 1#32
  let v825 : Index := Scalar.indexCast v824
  let c0_701 : Index := 0#32
  ![1, v825.toNat, 0]

def k0_chk110 (v824 : BitVec 32) : Prop :=
  (∀ a, (k0_off119 v824) a + S1x1x128.size a ≤ S2x32000x128.size a)
theorem k0_off119_inb : ∀ (v824 : BitVec 32) (k0_hw110 : k0_chk110 v824), ∀ a, (k0_off119 v824) a + S1x1x128.size a ≤ S2x32000x128.size a := fun v824 k0_hw110 => k0_hw110

def k0_off120 (v831 : BitVec 32) : Fin 3 → Nat :=
  let c1_707 : Index := 1#32
  let v832 : Index := Scalar.indexCast v831
  let c0_708 : Index := 0#32
  ![1, v832.toNat, 0]

def k0_chk111 (v831 : BitVec 32) : Prop :=
  (∀ a, (k0_off120 v831) a + S1x1x128.size a ≤ S2x32000x128.size a)
theorem k0_off120_inb : ∀ (v831 : BitVec 32) (k0_hw111 : k0_chk111 v831), ∀ a, (k0_off120 v831) a + S1x1x128.size a ≤ S2x32000x128.size a := fun v831 k0_hw111 => k0_hw111

def k0_off121 (v838 : BitVec 32) : Fin 3 → Nat :=
  let c1_714 : Index := 1#32
  let v839 : Index := Scalar.indexCast v838
  let c0_715 : Index := 0#32
  ![1, v839.toNat, 0]

def k0_chk112 (v838 : BitVec 32) : Prop :=
  (∀ a, (k0_off121 v838) a + S1x1x128.size a ≤ S2x32000x128.size a)
theorem k0_off121_inb : ∀ (v838 : BitVec 32) (k0_hw112 : k0_chk112 v838), ∀ a, (k0_off121 v838) a + S1x1x128.size a ≤ S2x32000x128.size a := fun v838 k0_hw112 => k0_hw112

def k0_off122 (v845 : BitVec 32) : Fin 3 → Nat :=
  let c1_721 : Index := 1#32
  let v846 : Index := Scalar.indexCast v845
  let c0_722 : Index := 0#32
  ![1, v846.toNat, 0]

def k0_chk113 (v845 : BitVec 32) : Prop :=
  (∀ a, (k0_off122 v845) a + S1x1x128.size a ≤ S2x32000x128.size a)
theorem k0_off122_inb : ∀ (v845 : BitVec 32) (k0_hw113 : k0_chk113 v845), ∀ a, (k0_off122 v845) a + S1x1x128.size a ≤ S2x32000x128.size a := fun v845 k0_hw113 => k0_hw113

def k0_off123 (v852 : BitVec 32) : Fin 3 → Nat :=
  let c1_728 : Index := 1#32
  let v853 : Index := Scalar.indexCast v852
  let c0_729 : Index := 0#32
  ![1, v853.toNat, 0]

def k0_chk114 (v852 : BitVec 32) : Prop :=
  (∀ a, (k0_off123 v852) a + S1x1x128.size a ≤ S2x32000x128.size a)
theorem k0_off123_inb : ∀ (v852 : BitVec 32) (k0_hw114 : k0_chk114 v852), ∀ a, (k0_off123 v852) a + S1x1x128.size a ≤ S2x32000x128.size a := fun v852 k0_hw114 => k0_hw114

def k0_off124 (v859 : BitVec 32) : Fin 3 → Nat :=
  let c1_735 : Index := 1#32
  let v860 : Index := Scalar.indexCast v859
  let c0_736 : Index := 0#32
  ![1, v860.toNat, 0]

def k0_chk115 (v859 : BitVec 32) : Prop :=
  (∀ a, (k0_off124 v859) a + S1x1x128.size a ≤ S2x32000x128.size a)
theorem k0_off124_inb : ∀ (v859 : BitVec 32) (k0_hw115 : k0_chk115 v859), ∀ a, (k0_off124 v859) a + S1x1x128.size a ≤ S2x32000x128.size a := fun v859 k0_hw115 => k0_hw115

def k0_off125 (v866 : BitVec 32) : Fin 3 → Nat :=
  let c1_742 : Index := 1#32
  let v867 : Index := Scalar.indexCast v866
  let c0_743 : Index := 0#32
  ![1, v867.toNat, 0]

def k0_chk116 (v866 : BitVec 32) : Prop :=
  (∀ a, (k0_off125 v866) a + S1x1x128.size a ≤ S2x32000x128.size a)
theorem k0_off125_inb : ∀ (v866 : BitVec 32) (k0_hw116 : k0_chk116 v866), ∀ a, (k0_off125 v866) a + S1x1x128.size a ≤ S2x32000x128.size a := fun v866 k0_hw116 => k0_hw116

def k0_off126 (v873 : BitVec 32) : Fin 3 → Nat :=
  let c1_749 : Index := 1#32
  let v874 : Index := Scalar.indexCast v873
  let c0_750 : Index := 0#32
  ![1, v874.toNat, 0]

def k0_chk117 (v873 : BitVec 32) : Prop :=
  (∀ a, (k0_off126 v873) a + S1x1x128.size a ≤ S2x32000x128.size a)
theorem k0_off126_inb : ∀ (v873 : BitVec 32) (k0_hw117 : k0_chk117 v873), ∀ a, (k0_off126 v873) a + S1x1x128.size a ≤ S2x32000x128.size a := fun v873 k0_hw117 => k0_hw117

def k0_off127 (v880 : BitVec 32) : Fin 3 → Nat :=
  let c1_756 : Index := 1#32
  let v881 : Index := Scalar.indexCast v880
  let c0_757 : Index := 0#32
  ![1, v881.toNat, 0]

def k0_chk118 (v880 : BitVec 32) : Prop :=
  (∀ a, (k0_off127 v880) a + S1x1x128.size a ≤ S2x32000x128.size a)
theorem k0_off127_inb : ∀ (v880 : BitVec 32) (k0_hw118 : k0_chk118 v880), ∀ a, (k0_off127 v880) a + S1x1x128.size a ≤ S2x32000x128.size a := fun v880 k0_hw118 => k0_hw118

def k0_off128 (v887 : BitVec 32) : Fin 3 → Nat :=
  let c1_763 : Index := 1#32
  let v888 : Index := Scalar.indexCast v887
  let c0_764 : Index := 0#32
  ![1, v888.toNat, 0]

def k0_chk119 (v887 : BitVec 32) : Prop :=
  (∀ a, (k0_off128 v887) a + S1x1x128.size a ≤ S2x32000x128.size a)
theorem k0_off128_inb : ∀ (v887 : BitVec 32) (k0_hw119 : k0_chk119 v887), ∀ a, (k0_off128 v887) a + S1x1x128.size a ≤ S2x32000x128.size a := fun v887 k0_hw119 => k0_hw119

def k0_off129 (v894 : BitVec 32) : Fin 3 → Nat :=
  let c1_770 : Index := 1#32
  let v895 : Index := Scalar.indexCast v894
  let c0_771 : Index := 0#32
  ![1, v895.toNat, 0]

def k0_chk120 (v894 : BitVec 32) : Prop :=
  (∀ a, (k0_off129 v894) a + S1x1x128.size a ≤ S2x32000x128.size a)
theorem k0_off129_inb : ∀ (v894 : BitVec 32) (k0_hw120 : k0_chk120 v894), ∀ a, (k0_off129 v894) a + S1x1x128.size a ≤ S2x32000x128.size a := fun v894 k0_hw120 => k0_hw120

def k0_off130 (v901 : BitVec 32) : Fin 3 → Nat :=
  let c1_777 : Index := 1#32
  let v902 : Index := Scalar.indexCast v901
  let c0_778 : Index := 0#32
  ![1, v902.toNat, 0]

def k0_chk121 (v901 : BitVec 32) : Prop :=
  (∀ a, (k0_off130 v901) a + S1x1x128.size a ≤ S2x32000x128.size a)
theorem k0_off130_inb : ∀ (v901 : BitVec 32) (k0_hw121 : k0_chk121 v901), ∀ a, (k0_off130 v901) a + S1x1x128.size a ≤ S2x32000x128.size a := fun v901 k0_hw121 => k0_hw121

def k0_off131 (v908 : BitVec 32) : Fin 3 → Nat :=
  let c1_784 : Index := 1#32
  let v909 : Index := Scalar.indexCast v908
  let c0_785 : Index := 0#32
  ![1, v909.toNat, 0]

def k0_chk122 (v908 : BitVec 32) : Prop :=
  (∀ a, (k0_off131 v908) a + S1x1x128.size a ≤ S2x32000x128.size a)
theorem k0_off131_inb : ∀ (v908 : BitVec 32) (k0_hw122 : k0_chk122 v908), ∀ a, (k0_off131 v908) a + S1x1x128.size a ≤ S2x32000x128.size a := fun v908 k0_hw122 => k0_hw122

def k0_off132 (v915 : BitVec 32) : Fin 3 → Nat :=
  let c1_791 : Index := 1#32
  let v916 : Index := Scalar.indexCast v915
  let c0_792 : Index := 0#32
  ![1, v916.toNat, 0]

def k0_chk123 (v915 : BitVec 32) : Prop :=
  (∀ a, (k0_off132 v915) a + S1x1x128.size a ≤ S2x32000x128.size a)
theorem k0_off132_inb : ∀ (v915 : BitVec 32) (k0_hw123 : k0_chk123 v915), ∀ a, (k0_off132 v915) a + S1x1x128.size a ≤ S2x32000x128.size a := fun v915 k0_hw123 => k0_hw123

def k0_off133 (v922 : BitVec 32) : Fin 3 → Nat :=
  let c1_798 : Index := 1#32
  let v923 : Index := Scalar.indexCast v922
  let c0_799 : Index := 0#32
  ![1, v923.toNat, 0]

def k0_chk124 (v922 : BitVec 32) : Prop :=
  (∀ a, (k0_off133 v922) a + S1x1x128.size a ≤ S2x32000x128.size a)
theorem k0_off133_inb : ∀ (v922 : BitVec 32) (k0_hw124 : k0_chk124 v922), ∀ a, (k0_off133 v922) a + S1x1x128.size a ≤ S2x32000x128.size a := fun v922 k0_hw124 => k0_hw124

def k0_off134 (v929 : BitVec 32) : Fin 3 → Nat :=
  let c1_805 : Index := 1#32
  let v930 : Index := Scalar.indexCast v929
  let c0_806 : Index := 0#32
  ![1, v930.toNat, 0]

def k0_chk125 (v929 : BitVec 32) : Prop :=
  (∀ a, (k0_off134 v929) a + S1x1x128.size a ≤ S2x32000x128.size a)
theorem k0_off134_inb : ∀ (v929 : BitVec 32) (k0_hw125 : k0_chk125 v929), ∀ a, (k0_off134 v929) a + S1x1x128.size a ≤ S2x32000x128.size a := fun v929 k0_hw125 => k0_hw125

def k0_off135 (v936 : BitVec 32) : Fin 3 → Nat :=
  let c1_812 : Index := 1#32
  let v937 : Index := Scalar.indexCast v936
  let c0_813 : Index := 0#32
  ![1, v937.toNat, 0]

def k0_chk126 (v936 : BitVec 32) : Prop :=
  (∀ a, (k0_off135 v936) a + S1x1x128.size a ≤ S2x32000x128.size a)
theorem k0_off135_inb : ∀ (v936 : BitVec 32) (k0_hw126 : k0_chk126 v936), ∀ a, (k0_off135 v936) a + S1x1x128.size a ≤ S2x32000x128.size a := fun v936 k0_hw126 => k0_hw126

def k0_off136 (v943 : BitVec 32) : Fin 3 → Nat :=
  let c1_819 : Index := 1#32
  let v944 : Index := Scalar.indexCast v943
  let c0_820 : Index := 0#32
  ![1, v944.toNat, 0]

def k0_chk127 (v943 : BitVec 32) : Prop :=
  (∀ a, (k0_off136 v943) a + S1x1x128.size a ≤ S2x32000x128.size a)
theorem k0_off136_inb : ∀ (v943 : BitVec 32) (k0_hw127 : k0_chk127 v943), ∀ a, (k0_off136 v943) a + S1x1x128.size a ≤ S2x32000x128.size a := fun v943 k0_hw127 => k0_hw127

def k0_off137 (v950 : BitVec 32) : Fin 3 → Nat :=
  let c1_826 : Index := 1#32
  let v951 : Index := Scalar.indexCast v950
  let c0_827 : Index := 0#32
  ![1, v951.toNat, 0]

def k0_chk128 (v950 : BitVec 32) : Prop :=
  (∀ a, (k0_off137 v950) a + S1x1x128.size a ≤ S2x32000x128.size a)
theorem k0_off137_inb : ∀ (v950 : BitVec 32) (k0_hw128 : k0_chk128 v950), ∀ a, (k0_off137 v950) a + S1x1x128.size a ≤ S2x32000x128.size a := fun v950 k0_hw128 => k0_hw128

def k0_off138 (v957 : BitVec 32) : Fin 3 → Nat :=
  let c1_833 : Index := 1#32
  let v958 : Index := Scalar.indexCast v957
  let c0_834 : Index := 0#32
  ![1, v958.toNat, 0]

def k0_chk129 (v957 : BitVec 32) : Prop :=
  (∀ a, (k0_off138 v957) a + S1x1x128.size a ≤ S2x32000x128.size a)
theorem k0_off138_inb : ∀ (v957 : BitVec 32) (k0_hw129 : k0_chk129 v957), ∀ a, (k0_off138 v957) a + S1x1x128.size a ≤ S2x32000x128.size a := fun v957 k0_hw129 => k0_hw129

def k0_off139 (v964 : BitVec 32) : Fin 3 → Nat :=
  let c1_840 : Index := 1#32
  let v965 : Index := Scalar.indexCast v964
  let c0_841 : Index := 0#32
  ![1, v965.toNat, 0]

def k0_chk130 (v964 : BitVec 32) : Prop :=
  (∀ a, (k0_off139 v964) a + S1x1x128.size a ≤ S2x32000x128.size a)
theorem k0_off139_inb : ∀ (v964 : BitVec 32) (k0_hw130 : k0_chk130 v964), ∀ a, (k0_off139 v964) a + S1x1x128.size a ≤ S2x32000x128.size a := fun v964 k0_hw130 => k0_hw130

def k0_off140 (v971 : BitVec 32) : Fin 3 → Nat :=
  let c1_847 : Index := 1#32
  let v972 : Index := Scalar.indexCast v971
  let c0_848 : Index := 0#32
  ![1, v972.toNat, 0]

def k0_chk131 (v971 : BitVec 32) : Prop :=
  (∀ a, (k0_off140 v971) a + S1x1x128.size a ≤ S2x32000x128.size a)
theorem k0_off140_inb : ∀ (v971 : BitVec 32) (k0_hw131 : k0_chk131 v971), ∀ a, (k0_off140 v971) a + S1x1x128.size a ≤ S2x32000x128.size a := fun v971 k0_hw131 => k0_hw131

def k0_off141 (v978 : BitVec 32) : Fin 3 → Nat :=
  let c1_854 : Index := 1#32
  let v979 : Index := Scalar.indexCast v978
  let c0_855 : Index := 0#32
  ![1, v979.toNat, 0]

def k0_chk132 (v978 : BitVec 32) : Prop :=
  (∀ a, (k0_off141 v978) a + S1x1x128.size a ≤ S2x32000x128.size a)
theorem k0_off141_inb : ∀ (v978 : BitVec 32) (k0_hw132 : k0_chk132 v978), ∀ a, (k0_off141 v978) a + S1x1x128.size a ≤ S2x32000x128.size a := fun v978 k0_hw132 => k0_hw132

def k0_off142 (v985 : BitVec 32) : Fin 3 → Nat :=
  let c1_861 : Index := 1#32
  let v986 : Index := Scalar.indexCast v985
  let c0_862 : Index := 0#32
  ![1, v986.toNat, 0]

def k0_chk133 (v985 : BitVec 32) : Prop :=
  (∀ a, (k0_off142 v985) a + S1x1x128.size a ≤ S2x32000x128.size a)
theorem k0_off142_inb : ∀ (v985 : BitVec 32) (k0_hw133 : k0_chk133 v985), ∀ a, (k0_off142 v985) a + S1x1x128.size a ≤ S2x32000x128.size a := fun v985 k0_hw133 => k0_hw133

def k0_off143 (v992 : BitVec 32) : Fin 3 → Nat :=
  let c1_868 : Index := 1#32
  let v993 : Index := Scalar.indexCast v992
  let c0_869 : Index := 0#32
  ![1, v993.toNat, 0]

def k0_chk134 (v992 : BitVec 32) : Prop :=
  (∀ a, (k0_off143 v992) a + S1x1x128.size a ≤ S2x32000x128.size a)
theorem k0_off143_inb : ∀ (v992 : BitVec 32) (k0_hw134 : k0_chk134 v992), ∀ a, (k0_off143 v992) a + S1x1x128.size a ≤ S2x32000x128.size a := fun v992 k0_hw134 => k0_hw134

def k0_off144 (v999 : BitVec 32) : Fin 3 → Nat :=
  let c1_875 : Index := 1#32
  let v1000 : Index := Scalar.indexCast v999
  let c0_876 : Index := 0#32
  ![1, v1000.toNat, 0]

def k0_chk135 (v999 : BitVec 32) : Prop :=
  (∀ a, (k0_off144 v999) a + S1x1x128.size a ≤ S2x32000x128.size a)
theorem k0_off144_inb : ∀ (v999 : BitVec 32) (k0_hw135 : k0_chk135 v999), ∀ a, (k0_off144 v999) a + S1x1x128.size a ≤ S2x32000x128.size a := fun v999 k0_hw135 => k0_hw135

def k0_off145 (v1006 : BitVec 32) : Fin 3 → Nat :=
  let c1_882 : Index := 1#32
  let v1007 : Index := Scalar.indexCast v1006
  let c0_883 : Index := 0#32
  ![1, v1007.toNat, 0]

def k0_chk136 (v1006 : BitVec 32) : Prop :=
  (∀ a, (k0_off145 v1006) a + S1x1x128.size a ≤ S2x32000x128.size a)
theorem k0_off145_inb : ∀ (v1006 : BitVec 32) (k0_hw136 : k0_chk136 v1006), ∀ a, (k0_off145 v1006) a + S1x1x128.size a ≤ S2x32000x128.size a := fun v1006 k0_hw136 => k0_hw136

def k0_off146 (v1013 : BitVec 32) : Fin 3 → Nat :=
  let c1_889 : Index := 1#32
  let v1014 : Index := Scalar.indexCast v1013
  let c0_890 : Index := 0#32
  ![1, v1014.toNat, 0]

def k0_chk137 (v1013 : BitVec 32) : Prop :=
  (∀ a, (k0_off146 v1013) a + S1x1x128.size a ≤ S2x32000x128.size a)
theorem k0_off146_inb : ∀ (v1013 : BitVec 32) (k0_hw137 : k0_chk137 v1013), ∀ a, (k0_off146 v1013) a + S1x1x128.size a ≤ S2x32000x128.size a := fun v1013 k0_hw137 => k0_hw137

def k0_off147 (v1020 : BitVec 32) : Fin 3 → Nat :=
  let c1_896 : Index := 1#32
  let v1021 : Index := Scalar.indexCast v1020
  let c0_897 : Index := 0#32
  ![1, v1021.toNat, 0]

def k0_chk138 (v1020 : BitVec 32) : Prop :=
  (∀ a, (k0_off147 v1020) a + S1x1x128.size a ≤ S2x32000x128.size a)
theorem k0_off147_inb : ∀ (v1020 : BitVec 32) (k0_hw138 : k0_chk138 v1020), ∀ a, (k0_off147 v1020) a + S1x1x128.size a ≤ S2x32000x128.size a := fun v1020 k0_hw138 => k0_hw138

def k0_off148 (v1027 : BitVec 32) : Fin 3 → Nat :=
  let c1_903 : Index := 1#32
  let v1028 : Index := Scalar.indexCast v1027
  let c0_904 : Index := 0#32
  ![1, v1028.toNat, 0]

def k0_chk139 (v1027 : BitVec 32) : Prop :=
  (∀ a, (k0_off148 v1027) a + S1x1x128.size a ≤ S2x32000x128.size a)
theorem k0_off148_inb : ∀ (v1027 : BitVec 32) (k0_hw139 : k0_chk139 v1027), ∀ a, (k0_off148 v1027) a + S1x1x128.size a ≤ S2x32000x128.size a := fun v1027 k0_hw139 => k0_hw139

def k0_off149 (v1034 : BitVec 32) : Fin 3 → Nat :=
  let c1_910 : Index := 1#32
  let v1035 : Index := Scalar.indexCast v1034
  let c0_911 : Index := 0#32
  ![1, v1035.toNat, 0]

def k0_chk140 (v1034 : BitVec 32) : Prop :=
  (∀ a, (k0_off149 v1034) a + S1x1x128.size a ≤ S2x32000x128.size a)
theorem k0_off149_inb : ∀ (v1034 : BitVec 32) (k0_hw140 : k0_chk140 v1034), ∀ a, (k0_off149 v1034) a + S1x1x128.size a ≤ S2x32000x128.size a := fun v1034 k0_hw140 => k0_hw140

def k0_off150 (v1041 : BitVec 32) : Fin 3 → Nat :=
  let c1_917 : Index := 1#32
  let v1042 : Index := Scalar.indexCast v1041
  let c0_918 : Index := 0#32
  ![1, v1042.toNat, 0]

def k0_chk141 (v1041 : BitVec 32) : Prop :=
  (∀ a, (k0_off150 v1041) a + S1x1x128.size a ≤ S2x32000x128.size a)
theorem k0_off150_inb : ∀ (v1041 : BitVec 32) (k0_hw141 : k0_chk141 v1041), ∀ a, (k0_off150 v1041) a + S1x1x128.size a ≤ S2x32000x128.size a := fun v1041 k0_hw141 => k0_hw141

def k0_off151 (v1048 : BitVec 32) : Fin 3 → Nat :=
  let c1_924 : Index := 1#32
  let v1049 : Index := Scalar.indexCast v1048
  let c0_925 : Index := 0#32
  ![1, v1049.toNat, 0]

def k0_chk142 (v1048 : BitVec 32) : Prop :=
  (∀ a, (k0_off151 v1048) a + S1x1x128.size a ≤ S2x32000x128.size a)
theorem k0_off151_inb : ∀ (v1048 : BitVec 32) (k0_hw142 : k0_chk142 v1048), ∀ a, (k0_off151 v1048) a + S1x1x128.size a ≤ S2x32000x128.size a := fun v1048 k0_hw142 => k0_hw142

def k0_off152 (v1055 : BitVec 32) : Fin 3 → Nat :=
  let c1_931 : Index := 1#32
  let v1056 : Index := Scalar.indexCast v1055
  let c0_932 : Index := 0#32
  ![1, v1056.toNat, 0]

def k0_chk143 (v1055 : BitVec 32) : Prop :=
  (∀ a, (k0_off152 v1055) a + S1x1x128.size a ≤ S2x32000x128.size a)
theorem k0_off152_inb : ∀ (v1055 : BitVec 32) (k0_hw143 : k0_chk143 v1055), ∀ a, (k0_off152 v1055) a + S1x1x128.size a ≤ S2x32000x128.size a := fun v1055 k0_hw143 => k0_hw143

def k0_off153 (v1062 : BitVec 32) : Fin 3 → Nat :=
  let c1_938 : Index := 1#32
  let v1063 : Index := Scalar.indexCast v1062
  let c0_939 : Index := 0#32
  ![1, v1063.toNat, 0]

def k0_chk144 (v1062 : BitVec 32) : Prop :=
  (∀ a, (k0_off153 v1062) a + S1x1x128.size a ≤ S2x32000x128.size a)
theorem k0_off153_inb : ∀ (v1062 : BitVec 32) (k0_hw144 : k0_chk144 v1062), ∀ a, (k0_off153 v1062) a + S1x1x128.size a ≤ S2x32000x128.size a := fun v1062 k0_hw144 => k0_hw144

def k0_off154 (v1069 : BitVec 32) : Fin 3 → Nat :=
  let c1_945 : Index := 1#32
  let v1070 : Index := Scalar.indexCast v1069
  let c0_946 : Index := 0#32
  ![1, v1070.toNat, 0]

def k0_chk145 (v1069 : BitVec 32) : Prop :=
  (∀ a, (k0_off154 v1069) a + S1x1x128.size a ≤ S2x32000x128.size a)
theorem k0_off154_inb : ∀ (v1069 : BitVec 32) (k0_hw145 : k0_chk145 v1069), ∀ a, (k0_off154 v1069) a + S1x1x128.size a ≤ S2x32000x128.size a := fun v1069 k0_hw145 => k0_hw145

def k0_off155 (v1076 : BitVec 32) : Fin 3 → Nat :=
  let c1_952 : Index := 1#32
  let v1077 : Index := Scalar.indexCast v1076
  let c0_953 : Index := 0#32
  ![1, v1077.toNat, 0]

def k0_chk146 (v1076 : BitVec 32) : Prop :=
  (∀ a, (k0_off155 v1076) a + S1x1x128.size a ≤ S2x32000x128.size a)
theorem k0_off155_inb : ∀ (v1076 : BitVec 32) (k0_hw146 : k0_chk146 v1076), ∀ a, (k0_off155 v1076) a + S1x1x128.size a ≤ S2x32000x128.size a := fun v1076 k0_hw146 => k0_hw146

def k0_off156 (v1083 : BitVec 32) : Fin 3 → Nat :=
  let c1_959 : Index := 1#32
  let v1084 : Index := Scalar.indexCast v1083
  let c0_960 : Index := 0#32
  ![1, v1084.toNat, 0]

def k0_chk147 (v1083 : BitVec 32) : Prop :=
  (∀ a, (k0_off156 v1083) a + S1x1x128.size a ≤ S2x32000x128.size a)
theorem k0_off156_inb : ∀ (v1083 : BitVec 32) (k0_hw147 : k0_chk147 v1083), ∀ a, (k0_off156 v1083) a + S1x1x128.size a ≤ S2x32000x128.size a := fun v1083 k0_hw147 => k0_hw147

def k0_off157 (v1090 : BitVec 32) : Fin 3 → Nat :=
  let c1_966 : Index := 1#32
  let v1091 : Index := Scalar.indexCast v1090
  let c0_967 : Index := 0#32
  ![1, v1091.toNat, 0]

def k0_chk148 (v1090 : BitVec 32) : Prop :=
  (∀ a, (k0_off157 v1090) a + S1x1x128.size a ≤ S2x32000x128.size a)
theorem k0_off157_inb : ∀ (v1090 : BitVec 32) (k0_hw148 : k0_chk148 v1090), ∀ a, (k0_off157 v1090) a + S1x1x128.size a ≤ S2x32000x128.size a := fun v1090 k0_hw148 => k0_hw148

def k0_off158 (v1097 : BitVec 32) : Fin 3 → Nat :=
  let c1_973 : Index := 1#32
  let v1098 : Index := Scalar.indexCast v1097
  let c0_974 : Index := 0#32
  ![1, v1098.toNat, 0]

def k0_chk149 (v1097 : BitVec 32) : Prop :=
  (∀ a, (k0_off158 v1097) a + S1x1x128.size a ≤ S2x32000x128.size a)
theorem k0_off158_inb : ∀ (v1097 : BitVec 32) (k0_hw149 : k0_chk149 v1097), ∀ a, (k0_off158 v1097) a + S1x1x128.size a ≤ S2x32000x128.size a := fun v1097 k0_hw149 => k0_hw149

def k0_off159 (v1104 : BitVec 32) : Fin 3 → Nat :=
  let c1_980 : Index := 1#32
  let v1105 : Index := Scalar.indexCast v1104
  let c0_981 : Index := 0#32
  ![1, v1105.toNat, 0]

def k0_chk150 (v1104 : BitVec 32) : Prop :=
  (∀ a, (k0_off159 v1104) a + S1x1x128.size a ≤ S2x32000x128.size a)
theorem k0_off159_inb : ∀ (v1104 : BitVec 32) (k0_hw150 : k0_chk150 v1104), ∀ a, (k0_off159 v1104) a + S1x1x128.size a ≤ S2x32000x128.size a := fun v1104 k0_hw150 => k0_hw150

def k0_off160 (v1111 : BitVec 32) : Fin 3 → Nat :=
  let c1_987 : Index := 1#32
  let v1112 : Index := Scalar.indexCast v1111
  let c0_988 : Index := 0#32
  ![1, v1112.toNat, 0]

def k0_chk151 (v1111 : BitVec 32) : Prop :=
  (∀ a, (k0_off160 v1111) a + S1x1x128.size a ≤ S2x32000x128.size a)
theorem k0_off160_inb : ∀ (v1111 : BitVec 32) (k0_hw151 : k0_chk151 v1111), ∀ a, (k0_off160 v1111) a + S1x1x128.size a ≤ S2x32000x128.size a := fun v1111 k0_hw151 => k0_hw151

def k0_off161 (v1118 : BitVec 32) : Fin 3 → Nat :=
  let c1_994 : Index := 1#32
  let v1119 : Index := Scalar.indexCast v1118
  let c0_995 : Index := 0#32
  ![1, v1119.toNat, 0]

def k0_chk152 (v1118 : BitVec 32) : Prop :=
  (∀ a, (k0_off161 v1118) a + S1x1x128.size a ≤ S2x32000x128.size a)
theorem k0_off161_inb : ∀ (v1118 : BitVec 32) (k0_hw152 : k0_chk152 v1118), ∀ a, (k0_off161 v1118) a + S1x1x128.size a ≤ S2x32000x128.size a := fun v1118 k0_hw152 => k0_hw152

def k0_off162 (v1125 : BitVec 32) : Fin 3 → Nat :=
  let c1_1001 : Index := 1#32
  let v1126 : Index := Scalar.indexCast v1125
  let c0_1002 : Index := 0#32
  ![1, v1126.toNat, 0]

def k0_chk153 (v1125 : BitVec 32) : Prop :=
  (∀ a, (k0_off162 v1125) a + S1x1x128.size a ≤ S2x32000x128.size a)
theorem k0_off162_inb : ∀ (v1125 : BitVec 32) (k0_hw153 : k0_chk153 v1125), ∀ a, (k0_off162 v1125) a + S1x1x128.size a ≤ S2x32000x128.size a := fun v1125 k0_hw153 => k0_hw153

def k0_off163 (v1132 : BitVec 32) : Fin 3 → Nat :=
  let c1_1008 : Index := 1#32
  let v1133 : Index := Scalar.indexCast v1132
  let c0_1009 : Index := 0#32
  ![1, v1133.toNat, 0]

def k0_chk154 (v1132 : BitVec 32) : Prop :=
  (∀ a, (k0_off163 v1132) a + S1x1x128.size a ≤ S2x32000x128.size a)
theorem k0_off163_inb : ∀ (v1132 : BitVec 32) (k0_hw154 : k0_chk154 v1132), ∀ a, (k0_off163 v1132) a + S1x1x128.size a ≤ S2x32000x128.size a := fun v1132 k0_hw154 => k0_hw154

def k0_off164 (v1139 : BitVec 32) : Fin 3 → Nat :=
  let c1_1015 : Index := 1#32
  let v1140 : Index := Scalar.indexCast v1139
  let c0_1016 : Index := 0#32
  ![1, v1140.toNat, 0]

def k0_chk155 (v1139 : BitVec 32) : Prop :=
  (∀ a, (k0_off164 v1139) a + S1x1x128.size a ≤ S2x32000x128.size a)
theorem k0_off164_inb : ∀ (v1139 : BitVec 32) (k0_hw155 : k0_chk155 v1139), ∀ a, (k0_off164 v1139) a + S1x1x128.size a ≤ S2x32000x128.size a := fun v1139 k0_hw155 => k0_hw155

def k0_off165 (v1146 : BitVec 32) : Fin 3 → Nat :=
  let c1_1022 : Index := 1#32
  let v1147 : Index := Scalar.indexCast v1146
  let c0_1023 : Index := 0#32
  ![1, v1147.toNat, 0]

def k0_chk156 (v1146 : BitVec 32) : Prop :=
  (∀ a, (k0_off165 v1146) a + S1x1x128.size a ≤ S2x32000x128.size a)
theorem k0_off165_inb : ∀ (v1146 : BitVec 32) (k0_hw156 : k0_chk156 v1146), ∀ a, (k0_off165 v1146) a + S1x1x128.size a ≤ S2x32000x128.size a := fun v1146 k0_hw156 => k0_hw156

def k0_off166 (v1153 : BitVec 32) : Fin 3 → Nat :=
  let c1_1029 : Index := 1#32
  let v1154 : Index := Scalar.indexCast v1153
  let c0_1030 : Index := 0#32
  ![1, v1154.toNat, 0]

def k0_chk157 (v1153 : BitVec 32) : Prop :=
  (∀ a, (k0_off166 v1153) a + S1x1x128.size a ≤ S2x32000x128.size a)
theorem k0_off166_inb : ∀ (v1153 : BitVec 32) (k0_hw157 : k0_chk157 v1153), ∀ a, (k0_off166 v1153) a + S1x1x128.size a ≤ S2x32000x128.size a := fun v1153 k0_hw157 => k0_hw157

def k0_off167 (v1160 : BitVec 32) : Fin 3 → Nat :=
  let c1_1036 : Index := 1#32
  let v1161 : Index := Scalar.indexCast v1160
  let c0_1037 : Index := 0#32
  ![1, v1161.toNat, 0]

def k0_chk158 (v1160 : BitVec 32) : Prop :=
  (∀ a, (k0_off167 v1160) a + S1x1x128.size a ≤ S2x32000x128.size a)
theorem k0_off167_inb : ∀ (v1160 : BitVec 32) (k0_hw158 : k0_chk158 v1160), ∀ a, (k0_off167 v1160) a + S1x1x128.size a ≤ S2x32000x128.size a := fun v1160 k0_hw158 => k0_hw158

def k0_off168 (v1167 : BitVec 32) : Fin 3 → Nat :=
  let c1_1043 : Index := 1#32
  let v1168 : Index := Scalar.indexCast v1167
  let c0_1044 : Index := 0#32
  ![1, v1168.toNat, 0]

def k0_chk159 (v1167 : BitVec 32) : Prop :=
  (∀ a, (k0_off168 v1167) a + S1x1x128.size a ≤ S2x32000x128.size a)
theorem k0_off168_inb : ∀ (v1167 : BitVec 32) (k0_hw159 : k0_chk159 v1167), ∀ a, (k0_off168 v1167) a + S1x1x128.size a ≤ S2x32000x128.size a := fun v1167 k0_hw159 => k0_hw159

def k0_off169 (v1174 : BitVec 32) : Fin 3 → Nat :=
  let c1_1050 : Index := 1#32
  let v1175 : Index := Scalar.indexCast v1174
  let c0_1051 : Index := 0#32
  ![1, v1175.toNat, 0]

def k0_chk160 (v1174 : BitVec 32) : Prop :=
  (∀ a, (k0_off169 v1174) a + S1x1x128.size a ≤ S2x32000x128.size a)
theorem k0_off169_inb : ∀ (v1174 : BitVec 32) (k0_hw160 : k0_chk160 v1174), ∀ a, (k0_off169 v1174) a + S1x1x128.size a ≤ S2x32000x128.size a := fun v1174 k0_hw160 => k0_hw160

def k0_off170 (v1181 : BitVec 32) : Fin 3 → Nat :=
  let c1_1057 : Index := 1#32
  let v1182 : Index := Scalar.indexCast v1181
  let c0_1058 : Index := 0#32
  ![1, v1182.toNat, 0]

def k0_chk161 (v1181 : BitVec 32) : Prop :=
  (∀ a, (k0_off170 v1181) a + S1x1x128.size a ≤ S2x32000x128.size a)
theorem k0_off170_inb : ∀ (v1181 : BitVec 32) (k0_hw161 : k0_chk161 v1181), ∀ a, (k0_off170 v1181) a + S1x1x128.size a ≤ S2x32000x128.size a := fun v1181 k0_hw161 => k0_hw161

def k0_off171 (v1188 : BitVec 32) : Fin 3 → Nat :=
  let c1_1064 : Index := 1#32
  let v1189 : Index := Scalar.indexCast v1188
  let c0_1065 : Index := 0#32
  ![1, v1189.toNat, 0]

def k0_chk162 (v1188 : BitVec 32) : Prop :=
  (∀ a, (k0_off171 v1188) a + S1x1x128.size a ≤ S2x32000x128.size a)
theorem k0_off171_inb : ∀ (v1188 : BitVec 32) (k0_hw162 : k0_chk162 v1188), ∀ a, (k0_off171 v1188) a + S1x1x128.size a ≤ S2x32000x128.size a := fun v1188 k0_hw162 => k0_hw162

def k0_off172 (v1195 : BitVec 32) : Fin 3 → Nat :=
  let c1_1071 : Index := 1#32
  let v1196 : Index := Scalar.indexCast v1195
  let c0_1072 : Index := 0#32
  ![1, v1196.toNat, 0]

def k0_chk163 (v1195 : BitVec 32) : Prop :=
  (∀ a, (k0_off172 v1195) a + S1x1x128.size a ≤ S2x32000x128.size a)
theorem k0_off172_inb : ∀ (v1195 : BitVec 32) (k0_hw163 : k0_chk163 v1195), ∀ a, (k0_off172 v1195) a + S1x1x128.size a ≤ S2x32000x128.size a := fun v1195 k0_hw163 => k0_hw163

def k0_off173 (v1202 : BitVec 32) : Fin 3 → Nat :=
  let c1_1078 : Index := 1#32
  let v1203 : Index := Scalar.indexCast v1202
  let c0_1079 : Index := 0#32
  ![1, v1203.toNat, 0]

def k0_chk164 (v1202 : BitVec 32) : Prop :=
  (∀ a, (k0_off173 v1202) a + S1x1x128.size a ≤ S2x32000x128.size a)
theorem k0_off173_inb : ∀ (v1202 : BitVec 32) (k0_hw164 : k0_chk164 v1202), ∀ a, (k0_off173 v1202) a + S1x1x128.size a ≤ S2x32000x128.size a := fun v1202 k0_hw164 => k0_hw164

def k0_off174 (v1209 : BitVec 32) : Fin 3 → Nat :=
  let c1_1085 : Index := 1#32
  let v1210 : Index := Scalar.indexCast v1209
  let c0_1086 : Index := 0#32
  ![1, v1210.toNat, 0]

def k0_chk165 (v1209 : BitVec 32) : Prop :=
  (∀ a, (k0_off174 v1209) a + S1x1x128.size a ≤ S2x32000x128.size a)
theorem k0_off174_inb : ∀ (v1209 : BitVec 32) (k0_hw165 : k0_chk165 v1209), ∀ a, (k0_off174 v1209) a + S1x1x128.size a ≤ S2x32000x128.size a := fun v1209 k0_hw165 => k0_hw165

def k0_off175 (v1216 : BitVec 32) : Fin 3 → Nat :=
  let c1_1092 : Index := 1#32
  let v1217 : Index := Scalar.indexCast v1216
  let c0_1093 : Index := 0#32
  ![1, v1217.toNat, 0]

def k0_chk166 (v1216 : BitVec 32) : Prop :=
  (∀ a, (k0_off175 v1216) a + S1x1x128.size a ≤ S2x32000x128.size a)
theorem k0_off175_inb : ∀ (v1216 : BitVec 32) (k0_hw166 : k0_chk166 v1216), ∀ a, (k0_off175 v1216) a + S1x1x128.size a ≤ S2x32000x128.size a := fun v1216 k0_hw166 => k0_hw166

def k0_off176 (v1223 : BitVec 32) : Fin 3 → Nat :=
  let c1_1099 : Index := 1#32
  let v1224 : Index := Scalar.indexCast v1223
  let c0_1100 : Index := 0#32
  ![1, v1224.toNat, 0]

def k0_chk167 (v1223 : BitVec 32) : Prop :=
  (∀ a, (k0_off176 v1223) a + S1x1x128.size a ≤ S2x32000x128.size a)
theorem k0_off176_inb : ∀ (v1223 : BitVec 32) (k0_hw167 : k0_chk167 v1223), ∀ a, (k0_off176 v1223) a + S1x1x128.size a ≤ S2x32000x128.size a := fun v1223 k0_hw167 => k0_hw167

def k0_off177 (v1230 : BitVec 32) : Fin 3 → Nat :=
  let c1_1106 : Index := 1#32
  let v1231 : Index := Scalar.indexCast v1230
  let c0_1107 : Index := 0#32
  ![1, v1231.toNat, 0]

def k0_chk168 (v1230 : BitVec 32) : Prop :=
  (∀ a, (k0_off177 v1230) a + S1x1x128.size a ≤ S2x32000x128.size a)
theorem k0_off177_inb : ∀ (v1230 : BitVec 32) (k0_hw168 : k0_chk168 v1230), ∀ a, (k0_off177 v1230) a + S1x1x128.size a ≤ S2x32000x128.size a := fun v1230 k0_hw168 => k0_hw168

def k0_off178 (v1237 : BitVec 32) : Fin 3 → Nat :=
  let c1_1113 : Index := 1#32
  let v1238 : Index := Scalar.indexCast v1237
  let c0_1114 : Index := 0#32
  ![1, v1238.toNat, 0]

def k0_chk169 (v1237 : BitVec 32) : Prop :=
  (∀ a, (k0_off178 v1237) a + S1x1x128.size a ≤ S2x32000x128.size a)
theorem k0_off178_inb : ∀ (v1237 : BitVec 32) (k0_hw169 : k0_chk169 v1237), ∀ a, (k0_off178 v1237) a + S1x1x128.size a ≤ S2x32000x128.size a := fun v1237 k0_hw169 => k0_hw169

def k0_off179 (v1244 : BitVec 32) : Fin 3 → Nat :=
  let c1_1120 : Index := 1#32
  let v1245 : Index := Scalar.indexCast v1244
  let c0_1121 : Index := 0#32
  ![1, v1245.toNat, 0]

def k0_chk170 (v1244 : BitVec 32) : Prop :=
  (∀ a, (k0_off179 v1244) a + S1x1x128.size a ≤ S2x32000x128.size a)
theorem k0_off179_inb : ∀ (v1244 : BitVec 32) (k0_hw170 : k0_chk170 v1244), ∀ a, (k0_off179 v1244) a + S1x1x128.size a ≤ S2x32000x128.size a := fun v1244 k0_hw170 => k0_hw170

def k0_off180 (v1251 : BitVec 32) : Fin 3 → Nat :=
  let c1_1127 : Index := 1#32
  let v1252 : Index := Scalar.indexCast v1251
  let c0_1128 : Index := 0#32
  ![1, v1252.toNat, 0]

def k0_chk171 (v1251 : BitVec 32) : Prop :=
  (∀ a, (k0_off180 v1251) a + S1x1x128.size a ≤ S2x32000x128.size a)
theorem k0_off180_inb : ∀ (v1251 : BitVec 32) (k0_hw171 : k0_chk171 v1251), ∀ a, (k0_off180 v1251) a + S1x1x128.size a ≤ S2x32000x128.size a := fun v1251 k0_hw171 => k0_hw171

def k0_off181 (v1258 : BitVec 32) : Fin 3 → Nat :=
  let c1_1134 : Index := 1#32
  let v1259 : Index := Scalar.indexCast v1258
  let c0_1135 : Index := 0#32
  ![1, v1259.toNat, 0]

def k0_chk172 (v1258 : BitVec 32) : Prop :=
  (∀ a, (k0_off181 v1258) a + S1x1x128.size a ≤ S2x32000x128.size a)
theorem k0_off181_inb : ∀ (v1258 : BitVec 32) (k0_hw172 : k0_chk172 v1258), ∀ a, (k0_off181 v1258) a + S1x1x128.size a ≤ S2x32000x128.size a := fun v1258 k0_hw172 => k0_hw172

def k0_off182 (v1265 : BitVec 32) : Fin 3 → Nat :=
  let c1_1141 : Index := 1#32
  let v1266 : Index := Scalar.indexCast v1265
  let c0_1142 : Index := 0#32
  ![1, v1266.toNat, 0]

def k0_chk173 (v1265 : BitVec 32) : Prop :=
  (∀ a, (k0_off182 v1265) a + S1x1x128.size a ≤ S2x32000x128.size a)
theorem k0_off182_inb : ∀ (v1265 : BitVec 32) (k0_hw173 : k0_chk173 v1265), ∀ a, (k0_off182 v1265) a + S1x1x128.size a ≤ S2x32000x128.size a := fun v1265 k0_hw173 => k0_hw173

def k0_off183 (v1272 : BitVec 32) : Fin 3 → Nat :=
  let c1_1148 : Index := 1#32
  let v1273 : Index := Scalar.indexCast v1272
  let c0_1149 : Index := 0#32
  ![1, v1273.toNat, 0]

def k0_chk174 (v1272 : BitVec 32) : Prop :=
  (∀ a, (k0_off183 v1272) a + S1x1x128.size a ≤ S2x32000x128.size a)
theorem k0_off183_inb : ∀ (v1272 : BitVec 32) (k0_hw174 : k0_chk174 v1272), ∀ a, (k0_off183 v1272) a + S1x1x128.size a ≤ S2x32000x128.size a := fun v1272 k0_hw174 => k0_hw174

def k0_off184 (v1279 : BitVec 32) : Fin 3 → Nat :=
  let c1_1155 : Index := 1#32
  let v1280 : Index := Scalar.indexCast v1279
  let c0_1156 : Index := 0#32
  ![1, v1280.toNat, 0]

def k0_chk175 (v1279 : BitVec 32) : Prop :=
  (∀ a, (k0_off184 v1279) a + S1x1x128.size a ≤ S2x32000x128.size a)
theorem k0_off184_inb : ∀ (v1279 : BitVec 32) (k0_hw175 : k0_chk175 v1279), ∀ a, (k0_off184 v1279) a + S1x1x128.size a ≤ S2x32000x128.size a := fun v1279 k0_hw175 => k0_hw175

def k0_off185 (v1286 : BitVec 32) : Fin 3 → Nat :=
  let c1_1162 : Index := 1#32
  let v1287 : Index := Scalar.indexCast v1286
  let c0_1163 : Index := 0#32
  ![1, v1287.toNat, 0]

def k0_chk176 (v1286 : BitVec 32) : Prop :=
  (∀ a, (k0_off185 v1286) a + S1x1x128.size a ≤ S2x32000x128.size a)
theorem k0_off185_inb : ∀ (v1286 : BitVec 32) (k0_hw176 : k0_chk176 v1286), ∀ a, (k0_off185 v1286) a + S1x1x128.size a ≤ S2x32000x128.size a := fun v1286 k0_hw176 => k0_hw176

def k0_off186 (v1293 : BitVec 32) : Fin 3 → Nat :=
  let c1_1169 : Index := 1#32
  let v1294 : Index := Scalar.indexCast v1293
  let c0_1170 : Index := 0#32
  ![1, v1294.toNat, 0]

def k0_chk177 (v1293 : BitVec 32) : Prop :=
  (∀ a, (k0_off186 v1293) a + S1x1x128.size a ≤ S2x32000x128.size a)
theorem k0_off186_inb : ∀ (v1293 : BitVec 32) (k0_hw177 : k0_chk177 v1293), ∀ a, (k0_off186 v1293) a + S1x1x128.size a ≤ S2x32000x128.size a := fun v1293 k0_hw177 => k0_hw177

def k0_off187 (v1300 : BitVec 32) : Fin 3 → Nat :=
  let c1_1176 : Index := 1#32
  let v1301 : Index := Scalar.indexCast v1300
  let c0_1177 : Index := 0#32
  ![1, v1301.toNat, 0]

def k0_chk178 (v1300 : BitVec 32) : Prop :=
  (∀ a, (k0_off187 v1300) a + S1x1x128.size a ≤ S2x32000x128.size a)
theorem k0_off187_inb : ∀ (v1300 : BitVec 32) (k0_hw178 : k0_chk178 v1300), ∀ a, (k0_off187 v1300) a + S1x1x128.size a ≤ S2x32000x128.size a := fun v1300 k0_hw178 => k0_hw178

def k0_off188 (v1307 : BitVec 32) : Fin 3 → Nat :=
  let c1_1183 : Index := 1#32
  let v1308 : Index := Scalar.indexCast v1307
  let c0_1184 : Index := 0#32
  ![1, v1308.toNat, 0]

def k0_chk179 (v1307 : BitVec 32) : Prop :=
  (∀ a, (k0_off188 v1307) a + S1x1x128.size a ≤ S2x32000x128.size a)
theorem k0_off188_inb : ∀ (v1307 : BitVec 32) (k0_hw179 : k0_chk179 v1307), ∀ a, (k0_off188 v1307) a + S1x1x128.size a ≤ S2x32000x128.size a := fun v1307 k0_hw179 => k0_hw179

def k0_off189 (v1314 : BitVec 32) : Fin 3 → Nat :=
  let c1_1190 : Index := 1#32
  let v1315 : Index := Scalar.indexCast v1314
  let c0_1191 : Index := 0#32
  ![1, v1315.toNat, 0]

def k0_chk180 (v1314 : BitVec 32) : Prop :=
  (∀ a, (k0_off189 v1314) a + S1x1x128.size a ≤ S2x32000x128.size a)
theorem k0_off189_inb : ∀ (v1314 : BitVec 32) (k0_hw180 : k0_chk180 v1314), ∀ a, (k0_off189 v1314) a + S1x1x128.size a ≤ S2x32000x128.size a := fun v1314 k0_hw180 => k0_hw180

def k0_off190 (v1321 : BitVec 32) : Fin 3 → Nat :=
  let c1_1197 : Index := 1#32
  let v1322 : Index := Scalar.indexCast v1321
  let c0_1198 : Index := 0#32
  ![1, v1322.toNat, 0]

def k0_chk181 (v1321 : BitVec 32) : Prop :=
  (∀ a, (k0_off190 v1321) a + S1x1x128.size a ≤ S2x32000x128.size a)
theorem k0_off190_inb : ∀ (v1321 : BitVec 32) (k0_hw181 : k0_chk181 v1321), ∀ a, (k0_off190 v1321) a + S1x1x128.size a ≤ S2x32000x128.size a := fun v1321 k0_hw181 => k0_hw181

def k0_off191 (v1328 : BitVec 32) : Fin 3 → Nat :=
  let c1_1204 : Index := 1#32
  let v1329 : Index := Scalar.indexCast v1328
  let c0_1205 : Index := 0#32
  ![1, v1329.toNat, 0]

def k0_chk182 (v1328 : BitVec 32) : Prop :=
  (∀ a, (k0_off191 v1328) a + S1x1x128.size a ≤ S2x32000x128.size a)
theorem k0_off191_inb : ∀ (v1328 : BitVec 32) (k0_hw182 : k0_chk182 v1328), ∀ a, (k0_off191 v1328) a + S1x1x128.size a ≤ S2x32000x128.size a := fun v1328 k0_hw182 => k0_hw182

def k0_off192 (v1335 : BitVec 32) : Fin 3 → Nat :=
  let c1_1211 : Index := 1#32
  let v1336 : Index := Scalar.indexCast v1335
  let c0_1212 : Index := 0#32
  ![1, v1336.toNat, 0]

def k0_chk183 (v1335 : BitVec 32) : Prop :=
  (∀ a, (k0_off192 v1335) a + S1x1x128.size a ≤ S2x32000x128.size a)
theorem k0_off192_inb : ∀ (v1335 : BitVec 32) (k0_hw183 : k0_chk183 v1335), ∀ a, (k0_off192 v1335) a + S1x1x128.size a ≤ S2x32000x128.size a := fun v1335 k0_hw183 => k0_hw183

def k0_off193 (v1342 : BitVec 32) : Fin 3 → Nat :=
  let c1_1218 : Index := 1#32
  let v1343 : Index := Scalar.indexCast v1342
  let c0_1219 : Index := 0#32
  ![1, v1343.toNat, 0]

def k0_chk184 (v1342 : BitVec 32) : Prop :=
  (∀ a, (k0_off193 v1342) a + S1x1x128.size a ≤ S2x32000x128.size a)
theorem k0_off193_inb : ∀ (v1342 : BitVec 32) (k0_hw184 : k0_chk184 v1342), ∀ a, (k0_off193 v1342) a + S1x1x128.size a ≤ S2x32000x128.size a := fun v1342 k0_hw184 => k0_hw184

def k0_off194 (v1349 : BitVec 32) : Fin 3 → Nat :=
  let c1_1225 : Index := 1#32
  let v1350 : Index := Scalar.indexCast v1349
  let c0_1226 : Index := 0#32
  ![1, v1350.toNat, 0]

def k0_chk185 (v1349 : BitVec 32) : Prop :=
  (∀ a, (k0_off194 v1349) a + S1x1x128.size a ≤ S2x32000x128.size a)
theorem k0_off194_inb : ∀ (v1349 : BitVec 32) (k0_hw185 : k0_chk185 v1349), ∀ a, (k0_off194 v1349) a + S1x1x128.size a ≤ S2x32000x128.size a := fun v1349 k0_hw185 => k0_hw185

def k0_off195 (v1356 : BitVec 32) : Fin 3 → Nat :=
  let c1_1232 : Index := 1#32
  let v1357 : Index := Scalar.indexCast v1356
  let c0_1233 : Index := 0#32
  ![1, v1357.toNat, 0]

def k0_chk186 (v1356 : BitVec 32) : Prop :=
  (∀ a, (k0_off195 v1356) a + S1x1x128.size a ≤ S2x32000x128.size a)
theorem k0_off195_inb : ∀ (v1356 : BitVec 32) (k0_hw186 : k0_chk186 v1356), ∀ a, (k0_off195 v1356) a + S1x1x128.size a ≤ S2x32000x128.size a := fun v1356 k0_hw186 => k0_hw186

def k0_off196 (v1363 : BitVec 32) : Fin 3 → Nat :=
  let c1_1239 : Index := 1#32
  let v1364 : Index := Scalar.indexCast v1363
  let c0_1240 : Index := 0#32
  ![1, v1364.toNat, 0]

def k0_chk187 (v1363 : BitVec 32) : Prop :=
  (∀ a, (k0_off196 v1363) a + S1x1x128.size a ≤ S2x32000x128.size a)
theorem k0_off196_inb : ∀ (v1363 : BitVec 32) (k0_hw187 : k0_chk187 v1363), ∀ a, (k0_off196 v1363) a + S1x1x128.size a ≤ S2x32000x128.size a := fun v1363 k0_hw187 => k0_hw187

def k0_off197 (v1370 : BitVec 32) : Fin 3 → Nat :=
  let c1_1246 : Index := 1#32
  let v1371 : Index := Scalar.indexCast v1370
  let c0_1247 : Index := 0#32
  ![1, v1371.toNat, 0]

def k0_chk188 (v1370 : BitVec 32) : Prop :=
  (∀ a, (k0_off197 v1370) a + S1x1x128.size a ≤ S2x32000x128.size a)
theorem k0_off197_inb : ∀ (v1370 : BitVec 32) (k0_hw188 : k0_chk188 v1370), ∀ a, (k0_off197 v1370) a + S1x1x128.size a ≤ S2x32000x128.size a := fun v1370 k0_hw188 => k0_hw188

def k0_off198 (v1377 : BitVec 32) : Fin 3 → Nat :=
  let c1_1253 : Index := 1#32
  let v1378 : Index := Scalar.indexCast v1377
  let c0_1254 : Index := 0#32
  ![1, v1378.toNat, 0]

def k0_chk189 (v1377 : BitVec 32) : Prop :=
  (∀ a, (k0_off198 v1377) a + S1x1x128.size a ≤ S2x32000x128.size a)
theorem k0_off198_inb : ∀ (v1377 : BitVec 32) (k0_hw189 : k0_chk189 v1377), ∀ a, (k0_off198 v1377) a + S1x1x128.size a ≤ S2x32000x128.size a := fun v1377 k0_hw189 => k0_hw189

def k0_off199 (v1384 : BitVec 32) : Fin 3 → Nat :=
  let c1_1260 : Index := 1#32
  let v1385 : Index := Scalar.indexCast v1384
  let c0_1261 : Index := 0#32
  ![1, v1385.toNat, 0]

def k0_chk190 (v1384 : BitVec 32) : Prop :=
  (∀ a, (k0_off199 v1384) a + S1x1x128.size a ≤ S2x32000x128.size a)
theorem k0_off199_inb : ∀ (v1384 : BitVec 32) (k0_hw190 : k0_chk190 v1384), ∀ a, (k0_off199 v1384) a + S1x1x128.size a ≤ S2x32000x128.size a := fun v1384 k0_hw190 => k0_hw190

def k0_off200 (v1391 : BitVec 32) : Fin 3 → Nat :=
  let c1_1267 : Index := 1#32
  let v1392 : Index := Scalar.indexCast v1391
  let c0_1268 : Index := 0#32
  ![1, v1392.toNat, 0]

def k0_chk191 (v1391 : BitVec 32) : Prop :=
  (∀ a, (k0_off200 v1391) a + S1x1x128.size a ≤ S2x32000x128.size a)
theorem k0_off200_inb : ∀ (v1391 : BitVec 32) (k0_hw191 : k0_chk191 v1391), ∀ a, (k0_off200 v1391) a + S1x1x128.size a ≤ S2x32000x128.size a := fun v1391 k0_hw191 => k0_hw191

def k0_off201 (v1398 : BitVec 32) : Fin 3 → Nat :=
  let c1_1274 : Index := 1#32
  let v1399 : Index := Scalar.indexCast v1398
  let c0_1275 : Index := 0#32
  ![1, v1399.toNat, 0]

def k0_chk192 (v1398 : BitVec 32) : Prop :=
  (∀ a, (k0_off201 v1398) a + S1x1x128.size a ≤ S2x32000x128.size a)
theorem k0_off201_inb : ∀ (v1398 : BitVec 32) (k0_hw192 : k0_chk192 v1398), ∀ a, (k0_off201 v1398) a + S1x1x128.size a ≤ S2x32000x128.size a := fun v1398 k0_hw192 => k0_hw192

def k0_off202 (v1405 : BitVec 32) : Fin 3 → Nat :=
  let c1_1281 : Index := 1#32
  let v1406 : Index := Scalar.indexCast v1405
  let c0_1282 : Index := 0#32
  ![1, v1406.toNat, 0]

def k0_chk193 (v1405 : BitVec 32) : Prop :=
  (∀ a, (k0_off202 v1405) a + S1x1x128.size a ≤ S2x32000x128.size a)
theorem k0_off202_inb : ∀ (v1405 : BitVec 32) (k0_hw193 : k0_chk193 v1405), ∀ a, (k0_off202 v1405) a + S1x1x128.size a ≤ S2x32000x128.size a := fun v1405 k0_hw193 => k0_hw193

def k0_off203 (v1412 : BitVec 32) : Fin 3 → Nat :=
  let c1_1288 : Index := 1#32
  let v1413 : Index := Scalar.indexCast v1412
  let c0_1289 : Index := 0#32
  ![1, v1413.toNat, 0]

def k0_chk194 (v1412 : BitVec 32) : Prop :=
  (∀ a, (k0_off203 v1412) a + S1x1x128.size a ≤ S2x32000x128.size a)
theorem k0_off203_inb : ∀ (v1412 : BitVec 32) (k0_hw194 : k0_chk194 v1412), ∀ a, (k0_off203 v1412) a + S1x1x128.size a ≤ S2x32000x128.size a := fun v1412 k0_hw194 => k0_hw194

def k0_off204 (v1419 : BitVec 32) : Fin 3 → Nat :=
  let c1_1295 : Index := 1#32
  let v1420 : Index := Scalar.indexCast v1419
  let c0_1296 : Index := 0#32
  ![1, v1420.toNat, 0]

def k0_chk195 (v1419 : BitVec 32) : Prop :=
  (∀ a, (k0_off204 v1419) a + S1x1x128.size a ≤ S2x32000x128.size a)
theorem k0_off204_inb : ∀ (v1419 : BitVec 32) (k0_hw195 : k0_chk195 v1419), ∀ a, (k0_off204 v1419) a + S1x1x128.size a ≤ S2x32000x128.size a := fun v1419 k0_hw195 => k0_hw195

def k0_off205 (v1426 : BitVec 32) : Fin 3 → Nat :=
  let c1_1302 : Index := 1#32
  let v1427 : Index := Scalar.indexCast v1426
  let c0_1303 : Index := 0#32
  ![1, v1427.toNat, 0]

def k0_chk196 (v1426 : BitVec 32) : Prop :=
  (∀ a, (k0_off205 v1426) a + S1x1x128.size a ≤ S2x32000x128.size a)
theorem k0_off205_inb : ∀ (v1426 : BitVec 32) (k0_hw196 : k0_chk196 v1426), ∀ a, (k0_off205 v1426) a + S1x1x128.size a ≤ S2x32000x128.size a := fun v1426 k0_hw196 => k0_hw196

def k0_off206 (v1433 : BitVec 32) : Fin 3 → Nat :=
  let c1_1309 : Index := 1#32
  let v1434 : Index := Scalar.indexCast v1433
  let c0_1310 : Index := 0#32
  ![1, v1434.toNat, 0]

def k0_chk197 (v1433 : BitVec 32) : Prop :=
  (∀ a, (k0_off206 v1433) a + S1x1x128.size a ≤ S2x32000x128.size a)
theorem k0_off206_inb : ∀ (v1433 : BitVec 32) (k0_hw197 : k0_chk197 v1433), ∀ a, (k0_off206 v1433) a + S1x1x128.size a ≤ S2x32000x128.size a := fun v1433 k0_hw197 => k0_hw197

def k0_off207 (v1440 : BitVec 32) : Fin 3 → Nat :=
  let c1_1316 : Index := 1#32
  let v1441 : Index := Scalar.indexCast v1440
  let c0_1317 : Index := 0#32
  ![1, v1441.toNat, 0]

def k0_chk198 (v1440 : BitVec 32) : Prop :=
  (∀ a, (k0_off207 v1440) a + S1x1x128.size a ≤ S2x32000x128.size a)
theorem k0_off207_inb : ∀ (v1440 : BitVec 32) (k0_hw198 : k0_chk198 v1440), ∀ a, (k0_off207 v1440) a + S1x1x128.size a ≤ S2x32000x128.size a := fun v1440 k0_hw198 => k0_hw198

def k0_off208 (v1447 : BitVec 32) : Fin 3 → Nat :=
  let c1_1323 : Index := 1#32
  let v1448 : Index := Scalar.indexCast v1447
  let c0_1324 : Index := 0#32
  ![1, v1448.toNat, 0]

def k0_chk199 (v1447 : BitVec 32) : Prop :=
  (∀ a, (k0_off208 v1447) a + S1x1x128.size a ≤ S2x32000x128.size a)
theorem k0_off208_inb : ∀ (v1447 : BitVec 32) (k0_hw199 : k0_chk199 v1447), ∀ a, (k0_off208 v1447) a + S1x1x128.size a ≤ S2x32000x128.size a := fun v1447 k0_hw199 => k0_hw199

def k0_off209 (v1454 : BitVec 32) : Fin 3 → Nat :=
  let c1_1330 : Index := 1#32
  let v1455 : Index := Scalar.indexCast v1454
  let c0_1331 : Index := 0#32
  ![1, v1455.toNat, 0]

def k0_chk200 (v1454 : BitVec 32) : Prop :=
  (∀ a, (k0_off209 v1454) a + S1x1x128.size a ≤ S2x32000x128.size a)
theorem k0_off209_inb : ∀ (v1454 : BitVec 32) (k0_hw200 : k0_chk200 v1454), ∀ a, (k0_off209 v1454) a + S1x1x128.size a ≤ S2x32000x128.size a := fun v1454 k0_hw200 => k0_hw200

def k0_off210 (v1461 : BitVec 32) : Fin 3 → Nat :=
  let c1_1337 : Index := 1#32
  let v1462 : Index := Scalar.indexCast v1461
  let c0_1338 : Index := 0#32
  ![1, v1462.toNat, 0]

def k0_chk201 (v1461 : BitVec 32) : Prop :=
  (∀ a, (k0_off210 v1461) a + S1x1x128.size a ≤ S2x32000x128.size a)
theorem k0_off210_inb : ∀ (v1461 : BitVec 32) (k0_hw201 : k0_chk201 v1461), ∀ a, (k0_off210 v1461) a + S1x1x128.size a ≤ S2x32000x128.size a := fun v1461 k0_hw201 => k0_hw201

def k0_off211 (v1468 : BitVec 32) : Fin 3 → Nat :=
  let c1_1344 : Index := 1#32
  let v1469 : Index := Scalar.indexCast v1468
  let c0_1345 : Index := 0#32
  ![1, v1469.toNat, 0]

def k0_chk202 (v1468 : BitVec 32) : Prop :=
  (∀ a, (k0_off211 v1468) a + S1x1x128.size a ≤ S2x32000x128.size a)
theorem k0_off211_inb : ∀ (v1468 : BitVec 32) (k0_hw202 : k0_chk202 v1468), ∀ a, (k0_off211 v1468) a + S1x1x128.size a ≤ S2x32000x128.size a := fun v1468 k0_hw202 => k0_hw202

def k0_off212 (v1475 : BitVec 32) : Fin 3 → Nat :=
  let c1_1351 : Index := 1#32
  let v1476 : Index := Scalar.indexCast v1475
  let c0_1352 : Index := 0#32
  ![1, v1476.toNat, 0]

def k0_chk203 (v1475 : BitVec 32) : Prop :=
  (∀ a, (k0_off212 v1475) a + S1x1x128.size a ≤ S2x32000x128.size a)
theorem k0_off212_inb : ∀ (v1475 : BitVec 32) (k0_hw203 : k0_chk203 v1475), ∀ a, (k0_off212 v1475) a + S1x1x128.size a ≤ S2x32000x128.size a := fun v1475 k0_hw203 => k0_hw203

def k0_off213 (v1482 : BitVec 32) : Fin 3 → Nat :=
  let c1_1358 : Index := 1#32
  let v1483 : Index := Scalar.indexCast v1482
  let c0_1359 : Index := 0#32
  ![1, v1483.toNat, 0]

def k0_chk204 (v1482 : BitVec 32) : Prop :=
  (∀ a, (k0_off213 v1482) a + S1x1x128.size a ≤ S2x32000x128.size a)
theorem k0_off213_inb : ∀ (v1482 : BitVec 32) (k0_hw204 : k0_chk204 v1482), ∀ a, (k0_off213 v1482) a + S1x1x128.size a ≤ S2x32000x128.size a := fun v1482 k0_hw204 => k0_hw204

def k0_off214 (v1489 : BitVec 32) : Fin 3 → Nat :=
  let c1_1365 : Index := 1#32
  let v1490 : Index := Scalar.indexCast v1489
  let c0_1366 : Index := 0#32
  ![1, v1490.toNat, 0]

def k0_chk205 (v1489 : BitVec 32) : Prop :=
  (∀ a, (k0_off214 v1489) a + S1x1x128.size a ≤ S2x32000x128.size a)
theorem k0_off214_inb : ∀ (v1489 : BitVec 32) (k0_hw205 : k0_chk205 v1489), ∀ a, (k0_off214 v1489) a + S1x1x128.size a ≤ S2x32000x128.size a := fun v1489 k0_hw205 => k0_hw205

def k0_off215 (v1496 : BitVec 32) : Fin 3 → Nat :=
  let c1_1372 : Index := 1#32
  let v1497 : Index := Scalar.indexCast v1496
  let c0_1373 : Index := 0#32
  ![1, v1497.toNat, 0]

def k0_chk206 (v1496 : BitVec 32) : Prop :=
  (∀ a, (k0_off215 v1496) a + S1x1x128.size a ≤ S2x32000x128.size a)
theorem k0_off215_inb : ∀ (v1496 : BitVec 32) (k0_hw206 : k0_chk206 v1496), ∀ a, (k0_off215 v1496) a + S1x1x128.size a ≤ S2x32000x128.size a := fun v1496 k0_hw206 => k0_hw206

def k0_off216 (v1503 : BitVec 32) : Fin 3 → Nat :=
  let c1_1379 : Index := 1#32
  let v1504 : Index := Scalar.indexCast v1503
  let c0_1380 : Index := 0#32
  ![1, v1504.toNat, 0]

def k0_chk207 (v1503 : BitVec 32) : Prop :=
  (∀ a, (k0_off216 v1503) a + S1x1x128.size a ≤ S2x32000x128.size a)
theorem k0_off216_inb : ∀ (v1503 : BitVec 32) (k0_hw207 : k0_chk207 v1503), ∀ a, (k0_off216 v1503) a + S1x1x128.size a ≤ S2x32000x128.size a := fun v1503 k0_hw207 => k0_hw207

def k0_off217 (v1510 : BitVec 32) : Fin 3 → Nat :=
  let c1_1386 : Index := 1#32
  let v1511 : Index := Scalar.indexCast v1510
  let c0_1387 : Index := 0#32
  ![1, v1511.toNat, 0]

def k0_chk208 (v1510 : BitVec 32) : Prop :=
  (∀ a, (k0_off217 v1510) a + S1x1x128.size a ≤ S2x32000x128.size a)
theorem k0_off217_inb : ∀ (v1510 : BitVec 32) (k0_hw208 : k0_chk208 v1510), ∀ a, (k0_off217 v1510) a + S1x1x128.size a ≤ S2x32000x128.size a := fun v1510 k0_hw208 => k0_hw208

abbrev stage0_0 : Fin 1 → Memref sig .tc .vmem S256x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S8x26 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S125x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x26 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x26 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x26 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x26 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "ln_2" => some ((Real.log 2 : ℝ) : EReal)
  | "log2_e" => some (((Real.log 2)⁻¹ : ℝ) : EReal)
  | "log2_e_over_temperature" => some ((((11744051 / 16777216) * (Real.log 2))⁻¹ : ℝ) : EReal)
  | "min_exponent" => some ⊥
  | _ => none
-- ==== ReferenceIdeal.lean ====
abbrev S8x26x8192 : Shape := ⟨3, ![8, 26, 8192]⟩
abbrev S8x26 : Shape := ⟨2, ![8, 26]⟩
abbrev S32000x8192 : Shape := ⟨2, ![32000, 8192]⟩
abbrev S32000 : Shape := ⟨1, ![32000]⟩
abbrev S208x8192 : Shape := ⟨2, ![208, 8192]⟩
abbrev S208x32000 : Shape := ⟨2, ![208, 32000]⟩
abbrev S8x26x32000 : Shape := ⟨3, ![8, 26, 32000]⟩
abbrev S8x26x1 : Shape := ⟨3, ![8, 26, 1]⟩
abbrev S1x1x32000 : Shape := ⟨3, ![1, 1, 32000]⟩

abbrev nBuf : Space → Nat
  | .hbm => 10
  | .vmem => 5
  | .smem => 0
  | _ => 0

abbrev bufTy : (tb : Table) → Fin (tcTables nBuf tb) → BufTy
  | .hbm, ⟨0, _⟩ => ⟨S8x26x8192, .i8⟩
  | .hbm, ⟨1, _⟩ => ⟨S8x26, .f32⟩
  | .hbm, ⟨2, _⟩ => ⟨S8x26, .i32⟩
  | .hbm, ⟨3, _⟩ => ⟨S8x26, .i32⟩
  | .hbm, ⟨4, _⟩ => ⟨S32000x8192, .i8⟩
  | .hbm, ⟨5, _⟩ => ⟨S32000, .f32⟩
  | .hbm, ⟨6, _⟩ => ⟨S8x26x8192, .fp8e4m3⟩
  | .hbm, ⟨7, _⟩ => ⟨S32000x8192, .fp8e4m3⟩
  | .hbm, ⟨8, _⟩ => ⟨S208x8192, .fp8e4m3⟩
  | .hbm, ⟨9, _⟩ => ⟨S8x26, .f32⟩
  | .local _ .vmem, ⟨0, _⟩ => ⟨S208x8192, .fp8e4m3⟩
  | .local _ .vmem, ⟨1, _⟩ => ⟨S8x26, .f32⟩
  | .local _ .vmem, ⟨2, _⟩ => ⟨S32000x8192, .fp8e4m3⟩
  | .local _ .vmem, ⟨3, _⟩ => ⟨S32000, .f32⟩
  | .local _ .vmem, ⟨4, _⟩ => ⟨S8x26, .f32⟩
  | _, _ => ⟨S8x26x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S208x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x26 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x26 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.lean ====
/-
  The kernel's ring of five slots, and one trip of its loop over the vocabulary.

  Before trip `k` of 25 the tiles `5k … 5k + 4` of the head are in flight, tile `5k + u` into slot `u`; every other
  tile is home. The trip waits for its five tiles one by one, reads each in its slot, stores 256 rows of scaled logits
  for it, updates the running maximum and the two running sums, and — except in the last trip — sends tile
  `5(k + 1) + u` into the slot just read. Tiles are kept in groups of five, so that one group is in flight
  (`Ring.homeSet 1 k`).
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := Pipeline.UD sig nD τ
local notation "𝕄" => MT nD τ sig Unit (Elt F) ℕ (UU nD τ) ℕ
abbrev 𝒱₀ : Variants := Variants.none

theorem entails_of_eq {P Q : sProp 𝕄} (e : P = Q) : P ⊢ Q := e ▸ .rfl

/-! ## Canonical names: tile `b` of the head, slot `s` of the buffer, slot `s`'s cell -/

abbrev headM : Memref sig .tc .hbm S32000x8192 .fp8e4m3 := Memref.whole main_v1
abbrev bufM : Memref sig .tc .vmem S5x256x8192 .fp8e4m3 := Memref.whole cc0_scratch0
abbrev zM : Memref sig .tc .vmem S2x32000x128 .f32 := Memref.whole cc0_scratch1
abbrev dM : Memref sig .tc .vmem S2x128x128 .f32 := Memref.whole cc0_scratch2

abbrev tileOff (b : Fin 125) : Fin 2 → Nat := ![b.val * 256, 0]
theorem tileOff_inb (b : Fin 125) : ∀ a, tileOff b a + S256x8192.size a ≤ S32000x8192.size a := by
  have := b.isLt; intro a; fin_cases a
  · show b.val * 256 + 256 ≤ 32000; omega
  · show 0 + 8192 ≤ 8192; omega
abbrev slotOff (s : Fin 5) : Fin 3 → Nat := ![s.val, 0, 0]
theorem slotOff_inb (s : Fin 5) : ∀ a, slotOff s a + S1x256x8192.size a ≤ S5x256x8192.size a := by
  have := s.isLt; intro a; fin_cases a
  · show s.val + 1 ≤ 5; omega
  · show 0 + 256 ≤ 256; omega
  · show 0 + 8192 ≤ 8192; omega
abbrev semOff (s : Fin 5) : Fin 1 → Nat := ![s.val]
theorem semOff_inb (s : Fin 5) : ∀ a, semOff s a + S1.size a ≤ S5.size a := by
  have := s.isLt; intro a; fin_cases a; show s.val + 1 ≤ 5; omega

/-- Tile `b` of the head: its rows `256 b … 256 b + 255`. -/
def tile (b : Fin 125) : Memref sig .tc .hbm S256x8192 .fp8e4m3 :=
  headM.slice (Rect.unit (s := S32000x8192) (tileOff b) S256x8192.size (tileOff_inb b)) (fun _ => rfl)
/-- Slot `s` of the buffer. -/
def slot (s : Fin 5) : Memref sig .tc .vmem S256x8192 .fp8e4m3 :=
  (bufM.slice (Rect.unit (s := S5x256x8192) (slotOff s) S1x256x8192.size (slotOff_inb s)) (fun _ => rfl)).squeeze S256x8192 squeezes_S1x256x8192_S256x8192
/-- Slot `s`'s semaphore. -/
def cell (s : Fin 5) : DmaSems sig S_ := (cc0_scratch3.slice (Rect.unit (s := S5) (semOff s) S1.size (semOff_inb s))).squeeze S_ squeezes_S1_S_

instance (s : Fin 5) : ClosedOff (slotOff s) := ⟨slotOff s, rfl⟩
instance (b : Fin 125) : ClosedOff (tileOff b) := ⟨tileOff b, rfl⟩

/-- The tile that trip `k` reads in slot `u`. -/
def tl (k : ℕ) (u : Fin 5) : Fin 125 := Fin.ofNat 125 (5 * k + u.val)
theorem tl_val {k : ℕ} (hk : k < 25) (u : Fin 5) : (tl k u).val = 5 * k + u.val :=
  Nat.mod_eq_of_lt (by have := u.isLt; omega)

/-! ## The offsets of a trip in closed form -/

theorem trips_eq : k0_t1_loop.trips = 25 := by decide

theorem off1_eq : ∀ (k : Fin k0_t1_loop.trips) (u : Fin 5), k0_off1 k (BitVec.ofNat 32 u.val) = tileOff (tl k.val u) := by decide +kernel
theorem off5_eq : ∀ k : Fin k0_t1_loop.trips, k.val + 1 < 25 → k0_off5 k = tileOff (tl (k.val + 1) 0) := by decide +kernel
theorem off6_eq : ∀ k : Fin k0_t1_loop.trips, k.val + 1 < 25 → k0_off6 k = tileOff (tl (k.val + 1) 1) := by decide +kernel
theorem off7_eq : ∀ k : Fin k0_t1_loop.trips, k.val + 1 < 25 → k0_off7 k = tileOff (tl (k.val + 1) 2) := by decide +kernel
theorem off8_eq : ∀ k : Fin k0_t1_loop.trips, k.val + 1 < 25 → k0_off8 k = tileOff (tl (k.val + 1) 3) := by decide +kernel
theorem off9_eq : ∀ k : Fin k0_t1_loop.trips, k.val + 1 < 25 → k0_off9 k = tileOff (tl (k.val + 1) 4) := by decide +kernel

/-- The guard of the five sends: all but the last trip send. -/
theorem cond_eq : ∀ k : Fin k0_t1_loop.trips,
    (k0_cond1 k = 1#1 ↔ k.val + 1 < 25) ∧ (k0_cond2 k = 1#1 ↔ k.val + 1 < 25) ∧ (k0_cond3 k = 1#1 ↔ k.val + 1 < 25)
      ∧ (k0_cond4 k = 1#1 ↔ k.val + 1 < 25) ∧ (k0_cond5 k = 1#1 ↔ k.val + 1 < 25) := by decide +kernel

/-- The rows of trip `k`'s tile `u` in half `h` of the buffer of scaled logits. -/
abbrev rowOff (h : Fin 2) (b : Fin 125) : Fin 3 → Nat := ![h.val, b.val * 256, 0]
theorem off3_eq : ∀ (k : Fin k0_t1_loop.trips) (u : Fin 5), k0_off3 k (BitVec.ofNat 32 u.val) = rowOff 0 (tl k.val u) := by decide +kernel
theorem off4_eq : ∀ (k : Fin k0_t1_loop.trips) (u : Fin 5), k0_off4 k (BitVec.ofNat 32 u.val) = rowOff 1 (tl k.val u) := by decide +kernel
theorem off2_eq : ∀ (k : Fin k0_t1_loop.trips) (u : Fin 5), k0_off2 k (BitVec.ofNat 32 u.val) = ![(tl k.val u).val, 0, 0] := by decide +kernel

section Canon

theorem cell_congr {off : Fin 1 → Nat} {s : Fin 5} (e : off = semOff s) (hh) :
    (cc0_scratch3.slice (Rect.unit (s := S5) off S1.size hh)).squeeze S_ squeezes_S1_S_ = cell s :=
  congrArg (fun A : DmaSems sig S1 => A.squeeze S_ squeezes_S1_S_) (SemArray.slice_unit_congr _ e _ _)
theorem slot_congr {off : Fin 3 → Nat} {s : Fin 5} (e : off = slotOff s) (hh hs) :
    (bufM.slice (Rect.unit (s := S5x256x8192) off S1x256x8192.size hh) hs).squeeze S256x8192 squeezes_S1x256x8192_S256x8192 = slot s :=
  congrArg (fun M : Memref sig .tc .vmem S1x256x8192 .fp8e4m3 => M.squeeze S256x8192 squeezes_S1x256x8192_S256x8192) (Memref.slice_unit_congr _ e _ _ _ _)
theorem tile_congr {off : Fin 2 → Nat} {b : Fin 125} (e : off = tileOff b) (hh hs) :
    headM.slice (Rect.unit (s := S32000x8192) off S256x8192.size hh) hs = tile b :=
  Memref.slice_unit_congr _ e _ _ _ (fun _ => rfl)

@[scoped sl_canon] theorem cellL0 (hh) : (cc0_scratch3.slice (Rect.unit (s := S5) ![0] S1.size hh)).squeeze S_ squeezes_S1_S_ = cell 0 := cell_congr (by decide) _
@[scoped sl_canon] theorem cellL1 (hh) : (cc0_scratch3.slice (Rect.unit (s := S5) ![1] S1.size hh)).squeeze S_ squeezes_S1_S_ = cell 1 := cell_congr (by decide) _
@[scoped sl_canon] theorem cellL2 (hh) : (cc0_scratch3.slice (Rect.unit (s := S5) ![2] S1.size hh)).squeeze S_ squeezes_S1_S_ = cell 2 := cell_congr (by decide) _
@[scoped sl_canon] theorem cellL3 (hh) : (cc0_scratch3.slice (Rect.unit (s := S5) ![3] S1.size hh)).squeeze S_ squeezes_S1_S_ = cell 3 := cell_congr (by decide) _
@[scoped sl_canon] theorem cellL4 (hh) : (cc0_scratch3.slice (Rect.unit (s := S5) ![4] S1.size hh)).squeeze S_ squeezes_S1_S_ = cell 4 := cell_congr (by decide) _
@[scoped sl_canon] theorem slotL0 (hh hs) : (bufM.slice (Rect.unit (s := S5x256x8192) ![0, 0, 0] S1x256x8192.size hh) hs).squeeze S256x8192 squeezes_S1x256x8192_S256x8192 = slot 0 := slot_congr (by decide) _ _
@[scoped sl_canon] theorem slotL1 (hh hs) : (bufM.slice (Rect.unit (s := S5x256x8192) ![1, 0, 0] S1x256x8192.size hh) hs).squeeze S256x8192 squeezes_S1x256x8192_S256x8192 = slot 1 := slot_congr (by decide) _ _
@[scoped sl_canon] theorem slotL2 (hh hs) : (bufM.slice (Rect.unit (s := S5x256x8192) ![2, 0, 0] S1x256x8192.size hh) hs).squeeze S256x8192 squeezes_S1x256x8192_S256x8192 = slot 2 := slot_congr (by decide) _ _
@[scoped sl_canon] theorem slotL3 (hh hs) : (bufM.slice (Rect.unit (s := S5x256x8192) ![3, 0, 0] S1x256x8192.size hh) hs).squeeze S256x8192 squeezes_S1x256x8192_S256x8192 = slot 3 := slot_congr (by decide) _ _
@[scoped sl_canon] theorem slotL4 (hh hs) : (bufM.slice (Rect.unit (s := S5x256x8192) ![4, 0, 0] S1x256x8192.size hh) hs).squeeze S256x8192 squeezes_S1x256x8192_S256x8192 = slot 4 := slot_congr (by decide) _ _
@[scoped sl_canon] theorem tileL0 (hh hs) : headM.slice (Rect.unit (s := S32000x8192) ![0, 0] S256x8192.size hh) hs = tile (tl 0 0) := tile_congr (by decide) _ _
@[scoped sl_canon] theorem tileL1 (hh hs) : headM.slice (Rect.unit (s := S32000x8192) ![256, 0] S256x8192.size hh) hs = tile (tl 0 1) := tile_congr (by decide) _ _
@[scoped sl_canon] theorem tileL2 (hh hs) : headM.slice (Rect.unit (s := S32000x8192) ![512, 0] S256x8192.size hh) hs = tile (tl 0 2) := tile_congr (by decide) _ _
@[scoped sl_canon] theorem tileL3 (hh hs) : headM.slice (Rect.unit (s := S32000x8192) ![768, 0] S256x8192.size hh) hs = tile (tl 0 3) := tile_congr (by decide) _ _
@[scoped sl_canon] theorem tileL4 (hh hs) : headM.slice (Rect.unit (s := S32000x8192) ![1024, 0] S256x8192.size hh) hs = tile (tl 0 4) := tile_congr (by decide) _ _

variable (k : Fin k0_t1_loop.trips)
@[scoped sl_canon] theorem tileW0 (hh hs) : headM.slice (Rect.unit (s := S32000x8192) (k0_off1 k 0#32) S256x8192.size hh) hs = tile (tl k.val 0) := tile_congr (off1_eq k 0) _ _
@[scoped sl_canon] theorem tileW1 (hh hs) : headM.slice (Rect.unit (s := S32000x8192) (k0_off1 k 1#32) S256x8192.size hh) hs = tile (tl k.val 1) := tile_congr (off1_eq k 1) _ _
@[scoped sl_canon] theorem tileW2 (hh hs) : headM.slice (Rect.unit (s := S32000x8192) (k0_off1 k 2#32) S256x8192.size hh) hs = tile (tl k.val 2) := tile_congr (off1_eq k 2) _ _
@[scoped sl_canon] theorem tileW3 (hh hs) : headM.slice (Rect.unit (s := S32000x8192) (k0_off1 k 3#32) S256x8192.size hh) hs = tile (tl k.val 3) := tile_congr (off1_eq k 3) _ _
@[scoped sl_canon] theorem tileW4 (hh hs) : headM.slice (Rect.unit (s := S32000x8192) (k0_off1 k 4#32) S256x8192.size hh) hs = tile (tl k.val 4) := tile_congr (off1_eq k 4) _ _
@[scoped sl_canon] theorem tileI0 (hk : k.val + 1 < 25) (hh hs) : headM.slice (Rect.unit (s := S32000x8192) (k0_off5 k) S256x8192.size hh) hs = tile (tl (k.val + 1) 0) := tile_congr (off5_eq k hk) _ _
@[scoped sl_canon] theorem tileI1 (hk : k.val + 1 < 25) (hh hs) : headM.slice (Rect.unit (s := S32000x8192) (k0_off6 k) S256x8192.size hh) hs = tile (tl (k.val + 1) 1) := tile_congr (off6_eq k hk) _ _
@[scoped sl_canon] theorem tileI2 (hk : k.val + 1 < 25) (hh hs) : headM.slice (Rect.unit (s := S32000x8192) (k0_off7 k) S256x8192.size hh) hs = tile (tl (k.val + 1) 2) := tile_congr (off7_eq k hk) _ _
@[scoped sl_canon] theorem tileI3 (hk : k.val + 1 < 25) (hh hs) : headM.slice (Rect.unit (s := S32000x8192) (k0_off8 k) S256x8192.size hh) hs = tile (tl (k.val + 1) 3) := tile_congr (off8_eq k hk) _ _
@[scoped sl_canon] theorem tileI4 (hk : k.val + 1 < 25) (hh hs) : headM.slice (Rect.unit (s := S32000x8192) (k0_off9 k) S256x8192.size hh) hs = tile (tl (k.val + 1) 4) := tile_congr (off9_eq k hk) _ _

end Canon

/-! ## The pieces: a tile home, a slot held, a slot's cell, a slot in flight -/

section Pieces
variable (c : Dev nD) (XA : Buf (Elt F) (headM.view.loc (c : Thread nD τ)))

abbrev cellP (s : Fin 5) : sProp 𝕄 := semVal ((c : Thread nD τ), SemLoc.dma (cell s).sem) 0
abbrev slotP (s : Fin 5) (f : Buf (Elt F) ((slot s).view.loc (c : Thread nD τ))) : sProp 𝕄 :=
  (slot s).view.loc (c : Thread nD τ) ↦[(slot s).view.set]{fullShare} f
/-- Tile `b` home: held on its elements at the head's contents. -/
abbrev homeP (b : Fin 125) : sProp 𝕄 := (tile b).view.loc (c : Thread nD τ) ↦[(tile b).view.set]{fullShare} XA
/-- The five tiles of one trip home. -/
abbrev groupP (g : ℕ) : sProp 𝕄 :=
  iprop(homeP c XA (tl g 0) ∗ homeP c XA (tl g 1) ∗ homeP c XA (tl g 2) ∗ homeP c XA (tl g 3) ∗ homeP c XA (tl g 4))
/-- Every group home but group `k`. -/
abbrev homes (k : ℕ) : sProp 𝕄 := bigSep (Ring.homeSet (NB := 25) 1 k) (fun g => groupP c XA g.val)
/-- Tile `b`'s codes as a slot's payload. -/
abbrev payload (b : Fin 125) : S256x8192.Idx → Elt F .fp8e4m3 := ReadAs.same.apply ((tile b).view.read (Elt F) XA)
/-- What tile `b`'s transfer leaves in slot `s`. -/
abbrev landed (s : Fin 5) (b : Fin 125) (f : Buf (Elt F) ((slot s).view.loc (c : Thread nD τ))) : Buf (Elt F) ((slot s).view.loc (c : Thread nD τ)) :=
  (slot s).view.writes (Elt F) f [⟨Rect.whole S256x8192, payload c XA b⟩]
/-- Slot `s` in flight with tile `b`, sent over `f`. -/
abbrev flightP (s : Fin 5) (b : Fin 125) (f : Buf (Elt F) ((slot s).view.loc (c : Thread nD τ))) : sProp 𝕄 :=
  Transfers.Flight countersEmb (c : Thread nD τ) (SemLoc.dma (cell s).sem) () 65536 iprop(slotP c s (landed c XA s b f) ∗ homeP c XA b)
/-- The five flights of trip `k`. -/
abbrev flights (k : ℕ) : sProp 𝕄 :=
  iprop((∃ f, flightP c XA 0 (tl k 0) f) ∗ (∃ f, flightP c XA 1 (tl k 1) f) ∗ (∃ f, flightP c XA 2 (tl k 2) f)
    ∗ (∃ f, flightP c XA 3 (tl k 3) f) ∗ (∃ f, flightP c XA 4 (tl k 4) f))
/-- Slot `s` at rest: held at anything, its cell at zero. -/
abbrev idleP (s : Fin 5) : sProp 𝕄 := iprop((∃ f, slotP c s f) ∗ cellP c s)
abbrev idles : sProp 𝕄 := iprop(idleP c 0 ∗ idleP c 1 ∗ idleP c 2 ∗ idleP c 3 ∗ idleP c 4)

theorem homes_here (k : ℕ) (hk : k + 1 < 25) :
    homes c XA k = iprop(groupP c XA (k + 1) ∗ bigSep ((Ring.homeSet (NB := 25) 1 k).erase (Ring.bk 25 (k + 1))) (fun g => groupP c XA g.val)) := by
  conv_lhs => unfold homes; rw [Ring.homeSet_out 1 k hk, bigSep_insert (Ring.bkL_not_mem_erase 1 k)]
  rw [Ring.bk_val hk]; rfl
theorem homes_next (k : ℕ) (hk : k + 1 < 25) :
    homes c XA (k + 1) = iprop(groupP c XA k ∗ bigSep ((Ring.homeSet (NB := 25) 1 k).erase (Ring.bk 25 (k + 1))) (fun g => groupP c XA g.val)) := by
  conv_lhs => unfold homes; rw [Ring.homeSet_succ 1 k hk, bigSep_insert (Ring.bk_not_mem_erase 1 k (by omega) (by decide))]
  rw [Ring.bk_val (by omega)]; rfl
theorem homes_last : homes c XA 25 = iprop(groupP c XA 24 ∗ homes c XA 24) := by
  unfold homes
  rw [Ring.homeSet_succ_tail (NB := 25) 1 24 (by decide) (by decide), bigSep_insert (Ring.bk_not_mem_homeSet 1 24 (by decide) (by decide))]
  rfl

theorem flightP_after (s : Fin 5) (b b' : Fin 125) :
    flightP c XA s b' ((slot s).view.writes (Elt F) (slot s).view.junk [⟨Rect.whole S256x8192, payload c XA b⟩])
      = Transfers.Flight countersEmb (c : Thread nD τ) (SemLoc.dma (cell s).sem) () 65536
          iprop(((slot s).view.loc (c : Thread nD τ) ↦[(slot s).view.set]{fullShare}
                  (slot s).view.writes (Elt F) (slot s).view.junk [⟨Rect.whole S256x8192, payload c XA b'⟩, ⟨Rect.whole S256x8192, payload c XA b⟩])
                ∗ homeP c XA b') := by
  simp only [flightP, landed, slotP, View.writes]

end Pieces

end Cert.Proof.KernelIdeal

end
-- ==== Proof.Trip.lean ====
/-
  One trip of the kernel's loop over the vocabulary, and the loop's invariant.
-/
module

public import proofs.«01_k».proof.Proof.Ring

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD) (XA : Buf (Elt F) (headM.view.loc (c : Thread nD τ)))
  (arg1 : Memref sig .tc .vmem S256x8192 .fp8e4m3) (harg1 : arg1.IsWhole)
  (arg2 : Memref sig .tc .vmem S1x256 .f32) (harg2 : arg2.IsWhole)
  (arg3 : Memref sig .tc .vmem S1x256 .i32) (harg3 : arg3.IsWhole)
  (arg4 : Memref sig .tc .smem S8x26 .i32) (harg4 : arg4.IsWhole)
  (arg5 : Memref sig .tc .vmem S125x2x128 .f32) (harg5 : arg5.IsWhole)
  (arg6 : Memref sig .tc .vmem S8x26 .f32) (harg6 : arg6.IsWhole)
  (arg7 : Memref sig .tc .vmem S8x26 .f32) (harg7 : arg7.IsWhole)
  (arg8 : Memref sig .tc .vmem S8x26 .f32) (harg8 : arg8.IsWhole)
  (arg9 : Memref sig .tc .vmem S8x26 .f32) (harg9 : arg9.IsWhole)

/-- The carried values: the running maximum and the two running sums. -/
abbrev Acc (F : FTy → Type) := FVec F S8x256 .f32 × FVec F S8x256 .f32 × FVec F S8x256 .f32

abbrev hd {s : Space} {S : Shape} {e : EltTy} (M : Memref sig .tc s S e) (f : Buf (Elt F) (M.view.loc (c : Thread nD τ))) : sProp 𝕄 :=
  M.view.loc (c : Thread nD τ) ↦[M.view.set]{fullShare} f

/-- What a trip holds apart from the ring: the activations, the head's scales, the buffer of scaled logits. -/
abbrev rest (fx : Buf (Elt F) (arg1.view.loc (c : Thread nD τ))) (fw : Buf (Elt F) (arg5.view.loc (c : Thread nD τ)))
    (fz : Buf (Elt F) (zM.view.loc (c : Thread nD τ))) : sProp 𝕄 :=
  iprop(hd c arg1 fx ∗ hd c arg5 fw ∗ hd c zM fz ∗ (∃ W, owes (c : Thread nD τ) 0 W))

abbrev tripG (v25 : Vec F S1x256 .f32) (k : Fin k0_t1_loop.trips) (acc : Acc F) : Prog (TpuEff nD τ sig (Elt F) Λ₀ .tc) (Acc F) :=
  k0_t1_body (F := F) headM (Memref.isWhole_whole _) arg1 harg1 arg2 harg2 arg3 harg3 arg4 harg4 arg5 harg5 arg6 harg6 arg7 harg7 arg8 harg8 arg9 harg9
    bufM (Memref.isWhole_whole _) zM (Memref.isWhole_whole _) dM (Memref.isWhole_whole _) cc0_scratch3 v25 k acc

/-! ## What a trip computes -/

/-- Tile `b` as the body reads it from slot `u`. -/
def slotRead (u : Fin 5) (b : Fin 125) : Vec F S1x256x8192 .fp8e4m3 :=
  View.readAt (Elt F) bufM.view (Rect.unit (s := S5x256x8192) (slotOff u) S1x256x8192.size (slotOff_inb u)).toLoadRect
    ((slot u).view.writes (Elt F) (slot u).view.junk [⟨Rect.whole S256x8192, payload c XA b⟩])
/-- The activations as the body reads them. -/
def xRead (fx : Buf (Elt F) (arg1.view.loc (c : Thread nD τ))) : Vec F S256x8192 .fp8e4m3 :=
  View.readAt (Elt F) arg1.view (Rect.unit (s := S256x8192) ![0, 0] S256x8192.size inb_S256x8192_S256x8192_0_0).toLoadRect fx
/-- The scales of trip `k`'s tile `u` as the body reads them. -/
def wsRead (fw : Buf (Elt F) (arg5.view.loc (c : Thread nD τ))) (k : Fin k0_t1_loop.trips) (u : Fin 5) : Vec F S1x2x128 .f32 :=
  View.readAt (Elt F) arg5.view (Rect.unit (s := S125x2x128) (k0_off2 k (BitVec.ofNat 32 u.val)) S1x2x128.size (k0_off2_inb k u)).toLoadRect fw
/-- The scaled logits of trip `k`'s tile `u`. -/
def zRaw (fx : Buf (Elt F) (arg1.view.loc (c : Thread nD τ))) (fw : Buf (Elt F) (arg5.view.loc (c : Thread nD τ)))
    (v25 : Vec F S1x256 .f32) (k : Fin k0_t1_loop.trips) (u : Fin 5) : FVec F S256x256 .f32 :=
  k0_pay4 (k0_pay69 v25) (slotRead c XA u (tl k.val u)) (xRead c arg1 fx) (wsRead c arg5 fw k u)
/-- The carried values after one more tile of scaled logits. -/
def stepG (a : Acc F) (z : FVec F S256x256 .f32) : Acc F := (k0_pay9 a.1 z, k0_pay15 a.1 a.2.1 z, k0_pay14 a.1 a.2.1 a.2.2 z)
/-- The two halves of a tile of scaled logits, as they are stored. -/
def loZ (z : FVec F S256x256 .f32) : FVec F S1x256x128 .f32 :=
  shapeCast S1x256x128 (extractStridedSlice S256x128 ![0, 0] z slices_S256x256_o0_0_S256x128) shapeCasts_S256x128_S1x256x128
def hiZ (z : FVec F S256x256 .f32) : FVec F S1x256x128 .f32 :=
  shapeCast S1x256x128 (extractStridedSlice S256x128 ![0, 128] z slices_S256x256_o0_128_S256x128) shapeCasts_S256x128_S1x256x128
/-- The carried values after a trip whose tiles are `z 0 … z 4`. -/
def tripAcc (z : Fin 5 → FVec F S256x256 .f32) (a : Acc F) : Acc F :=
  stepG (stepG (stepG (stepG (stepG a (z 0)) (z 1)) (z 2)) (z 3)) (z 4)
/-- The two stores of tile `u` of trip `k`. -/
def tilePair (k : Fin k0_t1_loop.trips) (u : Fin 5) (z : FVec F S256x256 .f32) (L : List (View.Piece (Elt F) S2x32000x128 .f32)) :
    List (View.Piece (Elt F) S2x32000x128 .f32) :=
  ⟨Rect.unit (s := S2x32000x128) (k0_off4 k (BitVec.ofNat 32 u.val)) S1x256x128.size (k0_off4_inb k u), hiZ z⟩
    :: ⟨Rect.unit (s := S2x32000x128) (k0_off3 k (BitVec.ofNat 32 u.val)) S1x256x128.size (k0_off3_inb k u), loZ z⟩ :: L
/-- The ten stores of trip `k`, the last one first. -/
def tripPieces (k : Fin k0_t1_loop.trips) (z : Fin 5 → FVec F S256x256 .f32) : List (View.Piece (Elt F) S2x32000x128 .f32) :=
  tilePair k 4 (z 4) (tilePair k 3 (z 3) (tilePair k 2 (z 2) (tilePair k 1 (z 1) (tilePair k 0 (z 0) []))))

set_option maxHeartbeats 4000000 in
theorem trip_send (fx : Buf (Elt F) (arg1.view.loc (c : Thread nD τ))) (fw : Buf (Elt F) (arg5.view.loc (c : Thread nD τ)))
    (fz : Buf (Elt F) (zM.view.loc (c : Thread nD τ)))
    (v25 : Vec F S1x256 .f32) (k : Fin k0_t1_loop.trips) (hk : k.val + 1 < 25) (acc : Acc F) :
    iprop(rest c arg1 arg5 fx fw fz ∗ homes c XA k ∗ flights c XA k)
      ⊢ wp frame (wpE (defs₀ (F := F)) 𝒱₀ (c : Thread nD τ) none) Set.univ
          (tripG arg1 harg1 arg2 harg2 arg3 harg3 arg4 harg4 arg5 harg5 arg6 harg6 arg7 harg7 arg8 harg8 arg9 harg9 v25 k acc)
          (fun r => iprop(⌜r = tripAcc (zRaw c XA arg1 arg5 fx fw v25 k) acc⌝
            ∗ rest c arg1 arg5 fx fw (zM.view.writes (Elt F) fz (tripPieces k (zRaw c XA arg1 arg5 fx fw v25 k)))
            ∗ homes c XA (k.val + 1) ∗ flights c XA (k.val + 1))) := by
  have hk25 : k.val < 25 := by omega
  obtain ⟨c1, c2, c3, c4, c5⟩ := cond_eq k
  have h1 := c1.mpr hk
  have h2 := c2.mpr hk
  have h3 := c3.mpr hk
  have h4 := c4.mpr hk
  have h5 := c5.mpr hk
  clear c1 c2 c3 c4 c5
  obtain ⟨a1, a2, a3⟩ := acc
  rw [homes_here c XA k.val hk, homes_next c XA k.val hk]
  iintro ⟨⟨Hx, Hw, Hz, ⟨%W, HW⟩⟩, ⟨⟨G0, G1, G2, G3, G4⟩, Hrest⟩, ⟨%f0, F0⟩, ⟨%f1, F1⟩, ⟨%f2, F2⟩, ⟨%f3, F3⟩, ⟨%f4, F4⟩⟩
  dsimp only [tripG]
  sl_unfold [k0_t1_body]
  sl_exec
  sl_step
  isplitr; · ipureintro; rfl
  isplitl [Hx Hw Hz HW]
  · isplitl [Hx]; · iexact Hx
    isplitl [Hw]; · iexact Hw
    isplitl [Hz]; · iexact Hz
    iexists _; iexact HW
  isplitl [F0_src F1_src F2_src F3_src F4_src Hrest]
  · isplitr [Hrest]
    · isplitl [F0_src]; · iexact F0_src
      isplitl [F1_src]; · iexact F1_src
      isplitl [F2_src]; · iexact F2_src
      isplitl [F3_src]; · iexact F3_src
      iexact F4_src
    iexact Hrest
  isplitl [F0]; · iexists ((slot 0).view.writes (Elt F) (slot 0).view.junk [⟨Rect.whole S256x8192, payload c XA (tl k.val 0)⟩]); irw [flightP_after]; iexact F0
  isplitl [F1]; · iexists ((slot 1).view.writes (Elt F) (slot 1).view.junk [⟨Rect.whole S256x8192, payload c XA (tl k.val 1)⟩]); irw [flightP_after]; iexact F1
  isplitl [F2]; · iexists ((slot 2).view.writes (Elt F) (slot 2).view.junk [⟨Rect.whole S256x8192, payload c XA (tl k.val 2)⟩]); irw [flightP_after]; iexact F2
  isplitl [F3]; · iexists ((slot 3).view.writes (Elt F) (slot 3).view.junk [⟨Rect.whole S256x8192, payload c XA (tl k.val 3)⟩]); irw [flightP_after]; iexact F3
  iexists ((slot 4).view.writes (Elt F) (slot 4).view.junk [⟨Rect.whole S256x8192, payload c XA (tl k.val 4)⟩]); irw [flightP_after]; iexact F4

set_option maxHeartbeats 4000000 in
theorem trip_last (fx : Buf (Elt F) (arg1.view.loc (c : Thread nD τ))) (fw : Buf (Elt F) (arg5.view.loc (c : Thread nD τ)))
    (fz : Buf (Elt F) (zM.view.loc (c : Thread nD τ)))
    (v25 : Vec F S1x256 .f32) (k : Fin k0_t1_loop.trips) (hk : k.val = 24) (acc : Acc F) :
    iprop(rest c arg1 arg5 fx fw fz ∗ homes c XA k ∗ flights c XA k)
      ⊢ wp frame (wpE (defs₀ (F := F)) 𝒱₀ (c : Thread nD τ) none) Set.univ
          (tripG arg1 harg1 arg2 harg2 arg3 harg3 arg4 harg4 arg5 harg5 arg6 harg6 arg7 harg7 arg8 harg8 arg9 harg9 v25 k acc)
          (fun r => iprop(⌜r = tripAcc (zRaw c XA arg1 arg5 fx fw v25 k) acc⌝
            ∗ rest c arg1 arg5 fx fw (zM.view.writes (Elt F) fz (tripPieces k (zRaw c XA arg1 arg5 fx fw v25 k)))
            ∗ homes c XA (k.val + 1) ∗ idles c)) := by
  obtain ⟨c1, c2, c3, c4, c5⟩ := cond_eq k
  have hn : ¬ (k.val + 1 < 25) := by omega
  have h1 := fun h => hn (c1.mp h)
  have h2 := fun h => hn (c2.mp h)
  have h3 := fun h => hn (c3.mp h)
  have h4 := fun h => hn (c4.mp h)
  have h5 := fun h => hn (c5.mp h)
  clear c1 c2 c3 c4 c5
  obtain ⟨a1, a2, a3⟩ := acc
  have e : homes c XA (k.val + 1) = iprop(groupP c XA k.val ∗ homes c XA k.val) := by rw [hk]; exact homes_last c XA
  rw [e]
  iintro ⟨⟨Hx, Hw, Hz, ⟨%W, HW⟩⟩, Hrest, ⟨%f0, F0⟩, ⟨%f1, F1⟩, ⟨%f2, F2⟩, ⟨%f3, F3⟩, ⟨%f4, F4⟩⟩
  dsimp only [tripG]
  sl_unfold [k0_t1_body]
  sl_exec
  sl_step
  isplitr; · ipureintro; rfl
  isplitl [Hx Hw Hz HW]
  · isplitl [Hx]; · iexact Hx
    isplitl [Hw]; · iexact Hw
    isplitl [Hz]; · iexact Hz
    iexists _; iexact HW
  isplitl [F0_src F1_src F2_src F3_src F4_src Hrest]
  · isplitr [Hrest]
    · isplitl [F0_src]; · iexact F0_src
      isplitl [F1_src]; · iexact F1_src
      isplitl [F2_src]; · iexact F2_src
      isplitl [F3_src]; · iexact F3_src
      iexact F4_src
    iexact Hrest
  isplitl [F0_dst F0]; · isplitl [F0_dst]; · iexists _; iexact F0_dst
                         iexact F0
  isplitl [F1_dst F1]; · isplitl [F1_dst]; · iexists _; iexact F1_dst
                         iexact F1
  isplitl [F2_dst F2]; · isplitl [F2_dst]; · iexists _; iexact F2_dst
                         iexact F2
  isplitl [F3_dst F3]; · isplitl [F3_dst]; · iexists _; iexact F3_dst
                         iexact F3
  isplitl [F4_dst]; · iexists _; iexact F4_dst
  iexact F4

/-! ## The loop's invariant -/

/-- The carried values before trip `k`. -/
def accR (fx : Buf (Elt F) (arg1.view.loc (c : Thread nD τ))) (fw : Buf (Elt F) (arg5.view.loc (c : Thread nD τ)))
    (v25 : Vec F S1x256 .f32) : ℕ → Acc F
  | 0 => (k0_pay70 (F := F), k0_pay71 (F := F), k0_pay72 (F := F))
  | k + 1 => if h : k < k0_t1_loop.trips then tripAcc (zRaw c XA arg1 arg5 fx fw v25 ⟨k, h⟩) (accR fx fw v25 k) else accR fx fw v25 k

/-- The buffer of scaled logits before trip `k`, from its contents `fz` at the loop's entry. -/
def zBuf (fx : Buf (Elt F) (arg1.view.loc (c : Thread nD τ))) (fw : Buf (Elt F) (arg5.view.loc (c : Thread nD τ)))
    (v25 : Vec F S1x256 .f32) (fz : Buf (Elt F) (zM.view.loc (c : Thread nD τ))) : ℕ → Buf (Elt F) (zM.view.loc (c : Thread nD τ))
  | 0 => fz
  | k + 1 => if h : k < k0_t1_loop.trips then
      zM.view.writes (Elt F) (zBuf fx fw v25 fz k) (tripPieces ⟨k, h⟩ (zRaw c XA arg1 arg5 fx fw v25 ⟨k, h⟩)) else zBuf fx fw v25 fz k

/-- The slots before trip `k`: in flight, and at rest after the last trip. -/
@[irreducible] def ringAt (k : ℕ) : sProp 𝕄 := if k < 25 then flights c XA k else idles c

theorem ringAt_lt {k : ℕ} (h : k < 25) : ringAt c XA k = flights c XA k := by unfold ringAt; exact if_pos h
theorem ringAt_last : ringAt c XA 25 = idles c := by unfold ringAt; exact if_neg (by decide)

/-- What the loop holds before trip `k`. -/
def invAt (fx : Buf (Elt F) (arg1.view.loc (c : Thread nD τ))) (fw : Buf (Elt F) (arg5.view.loc (c : Thread nD τ)))
    (v25 : Vec F S1x256 .f32) (fz : Buf (Elt F) (zM.view.loc (c : Thread nD τ))) (k : ℕ) (acc : Acc F) : sProp 𝕄 :=
  iprop(⌜acc = accR c XA arg1 arg5 fx fw v25 k⌝ ∗ rest c arg1 arg5 fx fw (zBuf c XA arg1 arg5 fx fw v25 fz k)
    ∗ homes c XA k ∗ ringAt c XA k)

/-- One trip takes the invariant to the next trip. -/
theorem inv_step (fx : Buf (Elt F) (arg1.view.loc (c : Thread nD τ))) (fw : Buf (Elt F) (arg5.view.loc (c : Thread nD τ)))
    (fz : Buf (Elt F) (zM.view.loc (c : Thread nD τ))) (v25 : Vec F S1x256 .f32) (k : Fin k0_t1_loop.trips) (acc : Acc F) :
    invAt c XA arg1 arg5 fx fw v25 fz k.val acc
      ⊢ wp frame (wpE (defs₀ (F := F)) 𝒱₀ (c : Thread nD τ) none) Set.univ
          (tripG arg1 harg1 arg2 harg2 arg3 harg3 arg4 harg4 arg5 harg5 arg6 harg6 arg7 harg7 arg8 harg8 arg9 harg9 v25 k acc)
          (fun r => invAt c XA arg1 arg5 fx fw v25 fz (k.val + 1) r) := by
  have hk : k.val < 25 := Nat.lt_of_lt_of_eq k.isLt trips_eq
  have ea : accR c XA arg1 arg5 fx fw v25 (k.val + 1) = tripAcc (zRaw c XA arg1 arg5 fx fw v25 k) (accR c XA arg1 arg5 fx fw v25 k.val) := by
    rw [accR, dif_pos k.isLt]
  have ez : zBuf c XA arg1 arg5 fx fw v25 fz (k.val + 1)
      = zM.view.writes (Elt F) (zBuf c XA arg1 arg5 fx fw v25 fz k.val) (tripPieces k (zRaw c XA arg1 arg5 fx fw v25 k)) := by
    rw [zBuf, dif_pos k.isLt]
  unfold invAt
  rw [ea, ez, ringAt_lt c XA hk]
  generalize hA : accR c XA arg1 arg5 fx fw v25 k.val = A
  generalize zBuf c XA arg1 arg5 fx fw v25 fz k.val = f
  iintro ⟨%e, H⟩
  subst e
  by_cases h : k.val + 1 < 25
  · rw [ringAt_lt c XA h]
    iapply (trip_send c XA arg1 harg1 arg2 harg2 arg3 harg3 arg4 harg4 arg5 harg5 arg6 harg6 arg7 harg7 arg8 harg8 arg9 harg9 fx fw f v25 k h acc)
    iexact H
  · have h24 : k.val = 24 := by omega
    have e25 : ringAt c XA (k.val + 1) = idles c := by rw [h24]; exact ringAt_last c XA
    rw [e25]
    iapply (trip_last c XA arg1 harg1 arg2 harg2 arg3 harg3 arg4 harg4 arg5 harg5 arg6 harg6 arg7 harg7 arg8 harg8 arg9 harg9 fx fw f v25 k h24 acc)
    iexact H

set_option maxHeartbeats 4000000 in
set_option warn.classDefReducibility false in
/-- The loop's invariant. -/
@[sl_loop] def loopInv (fx : Buf (Elt F) (arg1.view.loc (c : Thread nD τ))) (fw : Buf (Elt F) (arg5.view.loc (c : Thread nD τ)))
    (fz : Buf (Elt F) (zM.view.loc (c : Thread nD τ))) (v25 : Vec F S1x256 .f32) :
    LoopInvTy_k0_t1 (F := F) Unit ℕ (UU nD τ) ℕ 𝒱₀ c none Set.univ headM (Memref.isWhole_whole _) arg1 harg1 arg2 harg2 arg3 harg3 arg4 harg4
      arg5 harg5 arg6 harg6 arg7 harg7 arg8 harg8 arg9 harg9 bufM (Memref.isWhole_whole _) zM (Memref.isWhole_whole _) dM (Memref.isWhole_whole _)
      cc0_scratch3 v25 (k0_pay70 (F := F), k0_pay71 (F := F), k0_pay72 (F := F)) where
  inv k acc := invAt c XA arg1 arg5 fx fw v25 fz k acc
  step := inv_step c XA arg1 harg1 arg2 harg2 arg3 harg3 arg4 harg4 arg5 harg5 arg6 harg6 arg7 harg7 arg8 harg8 arg9 harg9 fx fw fz v25

end Cert.Proof.KernelIdeal

end
-- ==== Proof.Part.lean ====
/-
  The whole body of the kernel: the five first sends, the loop over the vocabulary (`Trip.lean`), the copies of the
  tokens' rows of scaled logits, and the walk up the tree.
-/
module

public import proofs.«01_k».proof.Proof.Trip

@[expose] public section

noncomputable section
namespace Cert.Proof.KernelIdeal
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD) (XA : Buf (Elt F) (headM.view.loc (c : Thread nD τ)))
  (arg1 : Memref sig .tc .vmem S256x8192 .fp8e4m3) (harg1 : arg1.IsWhole)
  (arg2 : Memref sig .tc .vmem S1x256 .f32) (harg2 : arg2.IsWhole)
  (arg3 : Memref sig .tc .vmem S1x256 .i32) (harg3 : arg3.IsWhole)
  (arg4 : Memref sig .tc .smem S8x26 .i32) (harg4 : arg4.IsWhole)
  (arg5 : Memref sig .tc .vmem S125x2x128 .f32) (harg5 : arg5.IsWhole)
  (arg6 : Memref sig .tc .vmem S8x26 .f32) (harg6 : arg6.IsWhole)
  (arg7 : Memref sig .tc .vmem S8x26 .f32) (harg7 : arg7.IsWhole)
  (arg8 : Memref sig .tc .vmem S8x26 .f32) (harg8 : arg8.IsWhole)
  (arg9 : Memref sig .tc .vmem S8x26 .f32) (harg9 : arg9.IsWhole)

/-- A token below 32000 names a row of the buffer of scaled logits. -/
theorem row_inb {h : ℕ} {v : BitVec 32} (hh : h + 1 ≤ 2) (hv : v.toNat < 32000) :
    ∀ a, (![h, (Scalar.indexCast v).toNat, 0] : Fin 3 → Nat) a + S1x1x128.size a ≤ S2x32000x128.size a := by
  intro a; fin_cases a
  · exact hh
  · exact hv
  · exact le_refl 128

/-! ## The buffer of scaled logits is written everywhere -/

/-- The stores of the first `k` trips, the last one first. -/
def zPieces (fx : Buf (Elt F) (arg1.view.loc (c : Thread nD τ))) (fw : Buf (Elt F) (arg5.view.loc (c : Thread nD τ)))
    (v25 : Vec F S1x256 .f32) : ℕ → List (View.Piece (Elt F) S2x32000x128 .f32)
  | 0 => []
  | k + 1 => if h : k < k0_t1_loop.trips then tripPieces ⟨k, h⟩ (zRaw c XA arg1 arg5 fx fw v25 ⟨k, h⟩) ++ zPieces fx fw v25 k else zPieces fx fw v25 k

theorem zBuf_eq (fx : Buf (Elt F) (arg1.view.loc (c : Thread nD τ))) (fw : Buf (Elt F) (arg5.view.loc (c : Thread nD τ)))
    (v25 : Vec F S1x256 .f32) (fz : Buf (Elt F) (zM.view.loc (c : Thread nD τ))) (k : ℕ) :
    zBuf c XA arg1 arg5 fx fw v25 fz k = zM.view.writes (Elt F) fz (zPieces c XA arg1 arg5 fx fw v25 k) := by
  induction k with
  | zero => rfl
  | succ k ih =>
    unfold zBuf zPieces
    by_cases h : k < k0_t1_loop.trips
    · rw [dif_pos h, dif_pos h, View.writes_append, ih]
    · rw [dif_neg h, dif_neg h, ih]

theorem mem_zPieces (fx : Buf (Elt F) (arg1.view.loc (c : Thread nD τ))) (fw : Buf (Elt F) (arg5.view.loc (c : Thread nD τ)))
    (v25 : Vec F S1x256 .f32) (k : Fin k0_t1_loop.trips) (p : View.Piece (Elt F) S2x32000x128 .f32)
    (hp : p ∈ tripPieces k (zRaw c XA arg1 arg5 fx fw v25 k)) : ∀ n, k.val < n → p ∈ zPieces c XA arg1 arg5 fx fw v25 n := by
  intro n
  induction n with
  | zero => intro h; omega
  | succ n ih =>
    intro h
    unfold zPieces
    by_cases hn : k.val = n
    · subst hn; rw [dif_pos k.isLt]; exact List.mem_append_left _ hp
    · by_cases h' : n < k0_t1_loop.trips
      · rw [dif_pos h']; exact List.mem_append_right _ (ih (by omega))
      · rw [dif_neg h']; exact ih (by omega)

theorem mem_tripPieces (k : Fin k0_t1_loop.trips) (z : Fin 5 → FVec F S256x256 .f32) (u : Fin 5) :
    (⟨Rect.unit (s := S2x32000x128) (k0_off4 k (BitVec.ofNat 32 u.val)) S1x256x128.size (k0_off4_inb k u), hiZ (z u)⟩ : View.Piece (Elt F) S2x32000x128 .f32) ∈ tripPieces k z
      ∧ (⟨Rect.unit (s := S2x32000x128) (k0_off3 k (BitVec.ofNat 32 u.val)) S1x256x128.size (k0_off3_inb k u), loZ (z u)⟩ : View.Piece (Elt F) S2x32000x128 .f32) ∈ tripPieces k z := by
  unfold tripPieces tilePair
  fin_cases u <;> constructor <;> simp

theorem mem_rows {h : Fin 2} {b : Fin 125} {off : Fin 3 → Nat} (e : off = rowOff h b) (inb) (y : S2x32000x128.Idx)
    (h0 : (y 0).val = h.val) (h1 : (y 1).val / 256 = b.val) : y ∈ (Rect.unit (s := S2x32000x128) off S1x256x128.size inb).set := by
  subst e
  rw [Rect.mem_set_unit]
  have h2 : (y 2).val < 128 := (y 2).isLt
  intro a; fin_cases a
  · show h.val ≤ (y 0).val ∧ (y 0).val < h.val + 1; omega
  · show b.val * 256 ≤ (y 1).val ∧ (y 1).val < b.val * 256 + 256; omega
  · show 0 ≤ (y 2).val ∧ (y 2).val < 0 + 128; omega

theorem zPieces_cover (fx : Buf (Elt F) (arg1.view.loc (c : Thread nD τ))) (fw : Buf (Elt F) (arg5.view.loc (c : Thread nD τ)))
    (v25 : Vec F S1x256 .f32) (y : S2x32000x128.Idx) : ∃ p ∈ zPieces c XA arg1 arg5 fx fw v25 25, y ∈ p.1.set := by
  have h0 : (y 0).val < 2 := (y 0).isLt
  have h1 : (y 1).val < 32000 := (y 1).isLt
  have hk : (y 1).val / 256 / 5 < 25 := by omega
  have hv : (tl ((y 1).val / 256 / 5) ⟨(y 1).val / 256 % 5, Nat.mod_lt _ (by decide)⟩).val = (y 1).val / 256 := by
    rw [tl_val hk]; show 5 * ((y 1).val / 256 / 5) + (y 1).val / 256 % 5 = _; omega
  have hm := mem_tripPieces ⟨(y 1).val / 256 / 5, by rw [trips_eq]; exact hk⟩
    (zRaw c XA arg1 arg5 fx fw v25 ⟨(y 1).val / 256 / 5, by rw [trips_eq]; exact hk⟩) ⟨(y 1).val / 256 % 5, Nat.mod_lt _ (by decide)⟩
  by_cases hh : (y 0).val = 0
  · exact ⟨_, mem_zPieces c XA arg1 arg5 fx fw v25 _ _ hm.2 25 hk, mem_rows (off3_eq _ _) (k0_off3_inb _ _) y hh hv.symm⟩
  · exact ⟨_, mem_zPieces c XA arg1 arg5 fx fw v25 _ _ hm.1 25 hk, mem_rows (off4_eq _ _) (k0_off4_inb _ _) y (by show (y 0).val = 1; omega) hv.symm⟩

/-- After the loop the buffer of scaled logits no longer shows what it held before. -/
theorem zBuf_last (fx : Buf (Elt F) (arg1.view.loc (c : Thread nD τ))) (fw : Buf (Elt F) (arg5.view.loc (c : Thread nD τ)))
    (v25 : Vec F S1x256 .f32) (fz : Buf (Elt F) (zM.view.loc (c : Thread nD τ))) :
    zBuf c XA arg1 arg5 fx fw v25 fz 25 = zBuf c XA arg1 arg5 fx fw v25 zM.view.junk 25 := by
  rw [zBuf_eq, zBuf_eq]
  have hc := zPieces_cover c XA arg1 arg5 fx fw v25
  generalize zPieces c XA arg1 arg5 fx fw v25 25 = L at hc ⊢
  have h := View.read_writes_of_cover (v := zM.view) (Val := Elt F) fz zM.view zM.view.junk L hc
  generalize zM.view.writes (Elt F) fz L = A at h ⊢
  generalize zM.view.writes (Elt F) zM.view.junk L = B at h ⊢
  exact h

abbrev part10G : Prog (TpuEff nD τ sig (Elt F) Λ₀ .tc) (Σ' (v55 : FVec F S1x256 .f32) (v56 : FVec F S1x256 .f32), Elt F .i32) :=
  k0_part10 (F := F) headM (Memref.isWhole_whole _) arg1 harg1 arg2 harg2 arg3 harg3 arg4 harg4 arg5 harg5 arg6 harg6 arg7 harg7 arg8 harg8 arg9 harg9
    bufM (Memref.isWhole_whole _) zM (Memref.isWhole_whole _) dM (Memref.isWhole_whole _) cc0_scratch3

/-- The activations' scales as the body reads them. -/
def sRead (fs : Buf (Elt F) (arg2.view.loc (c : Thread nD τ))) : Vec F S1x256 .f32 :=
  View.readAt (Elt F) arg2.view (Rect.unit (s := S1x256) ![0, 0] S1x256.size inb_S1x256_S1x256_0_0).toLoadRect fs
theorem tok_inb (b : Fin 8) (i : Fin 26) : ∀ a, (![b.val, i.val] : Fin 2 → Nat) a + S1x1.size a ≤ S8x26.size a := by
  have := b.isLt; have := i.isLt; intro a; fin_cases a
  · show b.val + 1 ≤ 8; omega
  · show i.val + 1 ≤ 26; omega
/-- Token `i` of row `b` as the body reads it. -/
def tokRead (ft : Buf (Elt F) (arg4.view.loc (c : Thread nD τ))) (b : Fin 8) (i : Fin 26) : BitVec 32 :=
  View.readAt (Elt F) arg4.view (Rect.unit (s := S8x26) ![b.val, i.val] S1x1.size (tok_inb b i)).toLoadRect ft (Shape.Idx.first (numel1_S1x1.symm ▸ Nat.one_pos))

/-- The carried values and the scaled logits after the loop. -/
abbrev accEnd (fx : Buf (Elt F) (arg1.view.loc (c : Thread nD τ))) (fs : Buf (Elt F) (arg2.view.loc (c : Thread nD τ)))
    (fw : Buf (Elt F) (arg5.view.loc (c : Thread nD τ))) : Acc F := accR c XA arg1 arg5 fx fw (sRead c arg2 fs) 25
abbrev zEnd (fx : Buf (Elt F) (arg1.view.loc (c : Thread nD τ))) (fs : Buf (Elt F) (arg2.view.loc (c : Thread nD τ)))
    (fw : Buf (Elt F) (arg5.view.loc (c : Thread nD τ))) : Buf (Elt F) (zM.view.loc (c : Thread nD τ)) :=
  zBuf c XA arg1 arg5 fx fw (sRead c arg2 fs) zM.view.junk 25

/-- The entropies, and the logarithms of the sums, as the body has them after folding the eight sublanes. -/
def ent (fx : Buf (Elt F) (arg1.view.loc (c : Thread nD τ))) (fs : Buf (Elt F) (arg2.view.loc (c : Thread nD τ)))
    (fw : Buf (Elt F) (arg5.view.loc (c : Thread nD τ))) : FVec F S1x256 .f32 :=
  k0_pay78 (accEnd c XA arg1 arg2 arg5 fx fs fw).1 (accEnd c XA arg1 arg2 arg5 fx fs fw).2.1 (accEnd c XA arg1 arg2 arg5 fx fs fw).2.2
def lse (fx : Buf (Elt F) (arg1.view.loc (c : Thread nD τ))) (fs : Buf (Elt F) (arg2.view.loc (c : Thread nD τ)))
    (fw : Buf (Elt F) (arg5.view.loc (c : Thread nD τ))) : FVec F S1x256 .f32 :=
  k0_pay79 (accEnd c XA arg1 arg2 arg5 fx fs fw).1 (accEnd c XA arg1 arg2 arg5 fx fs fw).2.1

/-- The piece that clears the buffer of copied rows. -/
abbrev dZero : View.Piece (Elt F) S2x128x128 .f32 :=
  ⟨Rect.unit (s := S2x128x128) ![0, 0, 0] S2x128x128.size inb_S2x128x128_S2x128x128_0_0_0, k0_pay80 (F := F)⟩

set_option maxHeartbeats 40000000 in
theorem part10 (fx : Buf (Elt F) (arg1.view.loc (c : Thread nD τ))) (fs : Buf (Elt F) (arg2.view.loc (c : Thread nD τ)))
    (ft : Buf (Elt F) (arg4.view.loc (c : Thread nD τ))) (fw : Buf (Elt F) (arg5.view.loc (c : Thread nD τ)))
    (fz : Buf (Elt F) (zM.view.loc (c : Thread nD τ))) (fd : Buf (Elt F) (dM.view.loc (c : Thread nD τ)))
    (f0 : Buf (Elt F) ((slot 0).view.loc (c : Thread nD τ))) (f1 : Buf (Elt F) ((slot 1).view.loc (c : Thread nD τ)))
    (f2 : Buf (Elt F) ((slot 2).view.loc (c : Thread nD τ))) (f3 : Buf (Elt F) ((slot 3).view.loc (c : Thread nD τ)))
    (f4 : Buf (Elt F) ((slot 4).view.loc (c : Thread nD τ))) (W : Waits sig Unit) (hT : ∀ j, (arg4.view.read (Elt F) ft j).toNat < 32000) :
    iprop(hd c arg1 fx ∗ hd c arg2 fs ∗ hd c arg4 ft ∗ hd c arg5 fw ∗ hd c zM fz ∗ hd c dM fd ∗ homes c XA 0
        ∗ flightP c XA 0 (tl 0 0) f0 ∗ flightP c XA 1 (tl 0 1) f1 ∗ flightP c XA 2 (tl 0 2) f2 ∗ flightP c XA 3 (tl 0 3) f3 ∗ flightP c XA 4 (tl 0 4) f4
        ∗ owes (c : Thread nD τ) 0 W)
      ⊢ wp frame (wpE (defs₀ (F := F)) 𝒱₀ (c : Thread nD τ) none) Set.univ
          (part10G arg1 harg1 arg2 harg2 arg3 harg3 arg4 harg4 arg5 harg5 arg6 harg6 arg7 harg7 arg8 harg8 arg9 harg9)
          (fun r => iprop(⌜k0_chk1 r.2.2⌝ ∗ ⌜r.1 = ent c XA arg1 arg2 arg5 fx fs fw⌝ ∗ ⌜r.2.1 = lse c XA arg1 arg2 arg5 fx fs fw⌝ ∗ ⌜r.2.2 = tokRead c arg4 ft 0 0⌝
            ∗ hd c arg1 fx ∗ hd c arg2 fs ∗ hd c arg4 ft ∗ hd c arg5 fw ∗ hd c zM (zEnd c XA arg1 arg2 arg5 fx fs fw)
            ∗ hd c dM (dM.view.writes (Elt F) fd [dZero]) ∗ homes c XA 25 ∗ ringAt c XA 25 ∗ (∃ W, owes (c : Thread nD τ) 0 W))) := by
  iintro ⟨H1, H2, H4, H5, Hz, Hd, Hh, F0, F1, F2, F3, F4, HW⟩
  ihave R : iprop(ringAt c XA 0) $$ [F0 F1 F2 F3 F4]
  · irw [ringAt_lt c XA (show 0 < 25 by decide)]
    isplitl [F0]; · iexists f0; iexact F0
    isplitl [F1]; · iexists f1; iexact F1
    isplitl [F2]; · iexists f2; iexact F2
    isplitl [F3]; · iexists f3; iexact F3
    iexists f4; iexact F4
  dsimp only [part10G]
  sl_unfold [k0_part10]
  sl_exec
  have e25 : Scf.trips k0_t1_loop.lb k0_t1_loop.ub k0_t1_loop.st = 25 := trips_eq
  rw [e25]
  sl_step
  isplitr; · ipureintro; exact row_inb (by decide) (hT _)
  isplitr; · ipureintro; rfl
  isplitr; · ipureintro; rfl
  isplitr; · ipureintro; rfl
  isplitl [H1]; · iexact H1
  isplitl [H2]; · iexact H2
  isplitl [H4]; · iexact H4
  isplitl [H5]; · iexact H5
  isplitl [Hz]
  · iapply (entails_of_eq (congrArg (hd c zM) (zBuf_last c XA arg1 arg5 fx fw (sRead c arg2 fs) fz)))
    iexact Hz
  isplitl [Hd]; · iexact Hd
  isplitl [Hh]; · iexact Hh
  isplitl [R]; · iexact R
  iexists _; iexact HW

abbrev bodyG : Prog (TpuEff nD τ sig (Elt F) Λ₀ .tc) PUnit :=
  cc0_medusa_accept (F := F) headM (Memref.isWhole_whole _) arg1 harg1 arg2 harg2 arg3 harg3 arg4 harg4 arg5 harg5 arg6 harg6 arg7 harg7 arg8 harg8 arg9 harg9
    bufM (Memref.isWhole_whole _) zM (Memref.isWhole_whole _) dM (Memref.isWhole_whole _) cc0_scratch3

end Cert.Proof.KernelIdeal

end
-- ==== Proof.Body.lean ====
/-
  The whole body of the kernel: the five first sends, the loop over the vocabulary and the folding of its sublanes
  (`Part.lean`), the copies of the tokens' rows of scaled logits, and the walk up the tree, with the rows the body
  stores into its four results.
-/
module

public import proofs.«01_k».proof.Proof.Part

@[expose] public section

noncomputable section
namespace Cert.Proof.KernelIdeal
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD) (XA : Buf (Elt F) (headM.view.loc (c : Thread nD τ)))
  (arg1 : Memref sig .tc .vmem S256x8192 .fp8e4m3) (harg1 : arg1.IsWhole)
  (arg2 : Memref sig .tc .vmem S1x256 .f32) (harg2 : arg2.IsWhole)
  (arg3 : Memref sig .tc .vmem S1x256 .i32) (harg3 : arg3.IsWhole)
  (arg4 : Memref sig .tc .smem S8x26 .i32) (harg4 : arg4.IsWhole)
  (arg5 : Memref sig .tc .vmem S125x2x128 .f32) (harg5 : arg5.IsWhole)
  (arg6 : Memref sig .tc .vmem S8x26 .f32) (harg6 : arg6.IsWhole)
  (arg7 : Memref sig .tc .vmem S8x26 .f32) (harg7 : arg7.IsWhole)
  (arg8 : Memref sig .tc .vmem S8x26 .f32) (harg8 : arg8.IsWhole)
  (arg9 : Memref sig .tc .vmem S8x26 .f32) (harg9 : arg9.IsWhole)

/-- The eight rows of entropies the body stores, the last one first. -/
def entPieces (e : FVec F S1x256 .f32) : List (View.Piece (Elt F) S8x26 .f32) :=
  [⟨Rect.unit (s := S8x26) ![7, 0] S1x26.size inb_S8x26_S1x26_7_0, k0_pay359 e⟩,
   ⟨Rect.unit (s := S8x26) ![6, 0] S1x26.size inb_S8x26_S1x26_6_0, k0_pay355 e⟩,
   ⟨Rect.unit (s := S8x26) ![5, 0] S1x26.size inb_S8x26_S1x26_5_0, k0_pay351 e⟩,
   ⟨Rect.unit (s := S8x26) ![4, 0] S1x26.size inb_S8x26_S1x26_4_0, k0_pay347 e⟩,
   ⟨Rect.unit (s := S8x26) ![3, 0] S1x26.size inb_S8x26_S1x26_3_0, k0_pay329 e⟩,
   ⟨Rect.unit (s := S8x26) ![2, 0] S1x26.size inb_S8x26_S1x26_2_0, k0_pay325 e⟩,
   ⟨Rect.unit (s := S8x26) ![1, 0] S1x26.size inb_S8x26_S1x26_1_0, k0_pay321 e⟩,
   ⟨Rect.unit (s := S8x26) ![0, 0] S1x26.size inb_S8x26_S1x26_0_0, k0_pay316 e⟩]

set_option maxHeartbeats 40000000 in
/-- The body runs; it hands back its inputs, the head with every tile home, and the ring at rest. -/
theorem body (fx : Buf (Elt F) (arg1.view.loc (c : Thread nD τ))) (fs : Buf (Elt F) (arg2.view.loc (c : Thread nD τ)))
    (fp : Buf (Elt F) (arg3.view.loc (c : Thread nD τ))) (ft : Buf (Elt F) (arg4.view.loc (c : Thread nD τ)))
    (fw : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fz : Buf (Elt F) (zM.view.loc (c : Thread nD τ))) (fd : Buf (Elt F) (dM.view.loc (c : Thread nD τ)))
    (hT : ∀ j, (arg4.view.read (Elt F) ft j).toNat < 32000) :
    iprop(hd c arg1 fx ∗ hd c arg2 fs ∗ hd c arg3 fp ∗ hd c arg4 ft ∗ hd c arg5 fw ∗ hd c arg6 f6 ∗ hd c arg7 f7 ∗ hd c arg8 f8 ∗ hd c arg9 f9
        ∗ hd c zM fz ∗ hd c dM fd ∗ idles c ∗ groupP c XA 0 ∗ homes c XA 0 ∗ ∃ W, owes (c : Thread nD τ) 0 W)
      ⊢ wp frame (wpE (defs₀ (F := F)) 𝒱₀ (c : Thread nD τ) none) Set.univ
          (bodyG arg1 harg1 arg2 harg2 arg3 harg3 arg4 harg4 arg5 harg5 arg6 harg6 arg7 harg7 arg8 harg8 arg9 harg9)
          (fun _ => iprop(hd c arg1 fx ∗ hd c arg2 fs ∗ hd c arg3 fp ∗ hd c arg4 ft ∗ hd c arg5 fw
            ∗ hd c arg6 (arg6.view.writes (Elt F) f6 (entPieces (ent c XA arg1 arg2 arg5 fx fs fw))) ∗ (∃ f, hd c arg7 f) ∗ (∃ f, hd c arg8 f) ∗ (∃ f, hd c arg9 f)
            ∗ (∃ f, hd c zM f) ∗ (∃ f, hd c dM f) ∗ ringAt c XA 25 ∗ homes c XA 25 ∗ ∃ W, owes (c : Thread nD τ) 0 W)) := by
  have hcut := fun a b d e g h i j k l m => part10 c XA arg1 harg1 arg2 harg2 arg3 harg3 arg4 harg4 arg5 harg5 arg6 harg6 arg7 harg7 arg8 harg8 arg9 harg9 a b ft d e g h i j k l m hT
  dsimp only [part10G] at hcut
  iintro ⟨H1, H2, H3, H4, H5, H6, H7, H8, H9, Hz, Hd, ⟨⟨S0, C0⟩, ⟨S1, C1⟩, ⟨S2, C2⟩, ⟨S3, C3⟩, ⟨S4, C4⟩⟩, ⟨G0, G1, G2, G3, G4⟩, Hrest, HW⟩
  icases S0 with ⟨%s0, S0⟩
  icases S1 with ⟨%s1, S1⟩
  icases S2 with ⟨%s2, S2⟩
  icases S3 with ⟨%s3, S3⟩
  icases S4 with ⟨%s4, S4⟩
  icases HW with ⟨%W, HW⟩
  dsimp only [bodyG]
  sl_unfold [cc0_medusa_accept]
  sl_exec (disch := exact row_inb (by decide) (hT _))
  sl_step
  isplitl [Hk0_part10_4]; · iexact Hk0_part10_4
  isplitl [Hk0_part10_5]; · iexact Hk0_part10_5
  isplitl [H3]; · iexact H3
  isplitl [Hk0_part10_6]; · iexact Hk0_part10_6
  isplitl [Hk0_part10_7]; · iexact Hk0_part10_7
  isplitl [H6]
  · iapply (entails_of_eq (congrArg (fun e => hd c arg6 (arg6.view.writes (Elt F) f6 (entPieces e))) hk0_part10_1))
    iexact H6
  isplitl [H7]; · iexists _; iexact H7
  isplitl [H8]; · iexists _; iexact H8
  isplitl [H9]; · iexists _; iexact H9
  isplitl [Hk0_part10_8]; · iexists _; iexact Hk0_part10_8
  isplitl [Hk0_part10_9]; · iexists _; iexact Hk0_part10_9
  isplitl [Hk0_part10_11]; · iexact Hk0_part10_11
  isplitl [Hk0_part10_10]; · iexact Hk0_part10_10
  iexists _; iexact Hk0_part10_12

end Cert.Proof.KernelIdeal

end
-- ==== Proof.Split.lean ====
/-
  The head held whole is held tile by tile, in 25 groups of five, and the buffer held whole is held slot by slot.
-/
module

public import proofs.«01_k».proof.Proof.Ring

@[expose] public section

noncomputable section
namespace Cert.Proof.KernelIdeal
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD)

/-- The elements of tile `b`. -/
abbrev tileSet (b : Fin 125) : Finset S32000x8192.Idx :=
  (Rect.unit (s := S32000x8192) (tileOff b) S256x8192.size (tileOff_inb b)).set
/-- The elements of slot `s`. -/
abbrev slotSet (s : Fin 5) : Finset S5x256x8192.Idx :=
  (Rect.unit (s := S5x256x8192) (slotOff s) S1x256x8192.size (slotOff_inb s)).set

theorem tile_set (b : Fin 125) : (tile b).view.set = tileSet b := View.set_slice_whole _ _
theorem slot_set (s : Fin 5) : (slot s).view.set = slotSet s := (View.set_reshape _ _).trans (View.set_slice_whole _ _)

theorem tiles_disjoint (b b' : Fin 125) (h : b ≠ b') : Disjoint (tileSet b) (tileSet b') :=
  Ring.lead_disjoint (s := S32000x8192) (NB := 125) 0 256 tileOff S256x8192.size tileOff_inb (fun b => Nat.mul_comm _ _) rfl b b' h
theorem tiles_cover : Finset.univ.biUnion tileSet = Finset.univ :=
  Ring.lead_cover (s := S32000x8192) (NB := 125) 0 256 tileOff S256x8192.size tileOff_inb (fun b => Nat.mul_comm _ _)
    (by intro b a ha; fin_cases a; · exact absurd rfl ha
        · rfl) rfl
    (by intro a ha; fin_cases a; · exact absurd rfl ha
        · rfl) rfl
theorem slots_disjoint (s s' : Fin 5) (h : s ≠ s') : Disjoint (slotSet s) (slotSet s') :=
  Ring.lead_disjoint (s := S5x256x8192) (NB := 5) 0 1 slotOff S1x256x8192.size slotOff_inb (fun b => (Nat.one_mul _).symm) rfl s s' h
theorem slots_cover : Finset.univ.biUnion slotSet = Finset.univ :=
  Ring.lead_cover (s := S5x256x8192) (NB := 5) 0 1 slotOff S1x256x8192.size slotOff_inb (fun b => (Nat.one_mul _).symm)
    (by intro b a ha; fin_cases a; · exact absurd rfl ha
        · rfl
        · rfl) rfl
    (by intro a ha; fin_cases a; · exact absurd rfl ha
        · rfl
        · rfl) rfl

theorem tl_inj (p p' : Fin 25 × Fin 5) (h : p ≠ p') : tl p.1.val p.2 ≠ tl p'.1.val p'.2 := by
  intro e
  have e1 := congrArg Fin.val e
  rw [tl_val p.1.isLt, tl_val p'.1.isLt] at e1
  have := p.2.isLt; have := p'.2.isLt
  exact h (Prod.ext (Fin.ext (by omega)) (Fin.ext (by omega)))
theorem tl_surj (b : Fin 125) : ∃ p : Fin 25 × Fin 5, tl p.1.val p.2 = b := by
  have hb := b.isLt
  refine ⟨(⟨b.val / 5, by omega⟩, ⟨b.val % 5, by omega⟩), Fin.ext ?_⟩
  rw [tl_val (by show b.val / 5 < 25; omega)]
  show 5 * (b.val / 5) + b.val % 5 = b.val; omega
theorem groups_cover : Finset.univ.biUnion (fun p : Fin 25 × Fin 5 => tileSet (tl p.1.val p.2)) = Finset.univ := by
  refine Finset.eq_univ_of_forall fun i => ?_
  have hi : i ∈ Finset.univ.biUnion tileSet := by rw [tiles_cover]; exact Finset.mem_univ _
  obtain ⟨b, -, hb⟩ := Finset.mem_biUnion.mp hi
  obtain ⟨p, hp⟩ := tl_surj b
  exact Finset.mem_biUnion.mpr ⟨p, Finset.mem_univ _, by rw [hp]; exact hb⟩

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

variable (XA : Buf (Elt F) (headM.view.loc (c : Thread nD τ)))

theorem homeP_eq (b : Fin 125) : (homeP c XA b : sProp 𝕄) = (headM.view.loc (c : Thread nD τ) ↦[tileSet b]{fullShare} XA) := by
  unfold homeP; rw [tile_set]; rfl

/-- The head held whole: all 25 groups of tiles home. -/
theorem head_groups : (headM.view.loc (c : Thread nD τ) ↦{fullShare} XA : sProp 𝕄) = bigSep Finset.univ (fun g : Fin 25 => groupP c XA g.val) := by
  refine (Ring.pointsTo_blocks (ℓ := headM.view.loc (c : Thread nD τ)) (B := Fin 25 × Fin 5) (fun p => tileSet (tl p.1.val p.2))
    (fun p p' h => tiles_disjoint _ _ (tl_inj p p' h)) groups_cover XA).trans ?_
  rw [bigSep_univ_prod]
  refine bigSep_congr fun g _ => ?_
  rw [bigSep_five, groupP]
  simp only [homeP_eq]

theorem head_split : (headM.view.loc (c : Thread nD τ) ↦{fullShare} XA : sProp 𝕄) = iprop(groupP c XA 0 ∗ homes c XA 0) := by
  rw [head_groups, homes, show (Finset.univ : Finset (Fin 25)) = insert 0 (Ring.homeSet (NB := 25) 1 0) by decide,
    bigSep_insert (by decide)]
  rfl

theorem head_join : homes c XA 25 = (headM.view.loc (c : Thread nD τ) ↦{fullShare} XA : sProp 𝕄) := by
  rw [head_groups, homes, Ring.homeSet_last 1 25 (by decide)]

theorem slotP_eq (s : Fin 5) (f : Buf (Elt F) (bufM.view.loc (c : Thread nD τ))) :
    (slotP c s f : sProp 𝕄) = (bufM.view.loc (c : Thread nD τ) ↦[slotSet s]{fullShare} f) := by
  unfold slotP; rw [slot_set]; rfl

/-- The buffer held whole: its five slots. -/
theorem buf_split (f : Buf (Elt F) (bufM.view.loc (c : Thread nD τ))) :
    (bufM.view.loc (c : Thread nD τ) ↦{fullShare} f : sProp 𝕄)
      = iprop(slotP c 0 f ∗ slotP c 1 f ∗ slotP c 2 f ∗ slotP c 3 f ∗ slotP c 4 f) := by
  refine (Ring.pointsTo_blocks (ℓ := bufM.view.loc (c : Thread nD τ)) slotSet slots_disjoint slots_cover f).trans ?_
  rw [bigSep_five]
  simp only [slotP_eq]

theorem slot_any (s : Fin 5) : (iprop(∃ f, slotP c s f) : sProp 𝕄) ⊢ iprop(∃ f, bufM.view.loc (c : Thread nD τ) ↦[slotSet s]{fullShare} f) := by
  iintro ⟨%f, H⟩
  iexists f
  iapply (entails_of_eq (slotP_eq c s f))
  iexact H

/-- The five slots at anything: the buffer whole at something. -/
theorem buf_join (f₀ : Buf (Elt F) (bufM.view.loc (c : Thread nD τ))) :
    iprop((∃ f, slotP c 0 f) ∗ (∃ f, slotP c 1 f) ∗ (∃ f, slotP c 2 f) ∗ (∃ f, slotP c 3 f) ∗ (∃ f, slotP c 4 f))
      ⊢ (iprop(∃ g, bufM.view.loc (c : Thread nD τ) ↦{fullShare} g) : sProp 𝕄) := by
  refine BIBase.Entails.trans ?_ (Ring.pointsTo_blocks_join_exists (ℓ := bufM.view.loc (c : Thread nD τ)) slotSet slots_disjoint slots_cover f₀)
  rw [bigSep_five]
  exact BIClass.sep_mono (slot_any c 0) (BIClass.sep_mono (slot_any c 1) (BIClass.sep_mono (slot_any c 2) (BIClass.sep_mono (slot_any c 3) (slot_any c 4))))

end Cert.Proof.KernelIdeal

end
-- ==== Proof.Launch.lean ====
/-
  The launch: the pipeline stages the activations, their scales, the parents, the tokens and the head's scales into the
  kernel's blocks and writes the four results back; the head itself stays where it is and the kernel's own transfers
  read it tile by tile. Every run ends with the arguments as they were and every semaphore at zero.
-/
module

public import proofs.«01_k».proof.Proof.Body
public import proofs.«01_k».proof.Proof.Split
public import proofs.«01_k».proof.Proof.Gen.KernelIdeal.Frame
public import Idealize.ShloMosaic.Lib.Pipeline.FrameBody

@[expose] public section

set_option maxRecDepth 16384

noncomputable section
namespace Cert.Proof.KernelIdeal
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UU nD τ) ℕ

variable (m : (ℓ : Loc nD τ sig) → Buf (Elt F) ℓ) (ρ : Dev nD → PrngReg)

/-- The kernel's own semaphores: one for each slot. -/
abbrev osem0 : Fin 5 → SemLoc sig := fun s => .dma (cell s).sem
theorem ownSemFacts0 : Pipeline.OwnSemFacts spec0 osem0 := by decide

/-- The head is the one array the kernel reads itself. -/
abbrev H0 : Finset (Ref sig .tc) := {main_v1}
theorem H0_sub : H0 ⊆ Pipeline.restRefs sig spec0 := by
  intro b hb
  rw [Finset.mem_singleton] at hb
  subst hb
  exact Pipeline.mem_restRefs_of main_v1 (by decide) (by decide)

/-- The head as the region finds it. -/
abbrev XH (c : Dev nD) : Buf (Elt F) (headM.view.loc (c : Thread nD τ)) := V m c main_v1

theorem ownSems0_five (c : Dev nD) : (Pipeline.ownSems0 (Ix := Unit) (Name := ℕ) (U := UU nD τ) (Lvl := ℕ) (Val := Elt F) (τ := τ) osem0 c : sProp 𝕄)
    = iprop(cellP c 0 ∗ cellP c 1 ∗ cellP c 2 ∗ cellP c 3 ∗ cellP c 4) := by
  unfold Pipeline.ownSems0; rw [bigSep_five]

theorem PhiD0_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ (∃ r, prngReg c r) ∗ (cellP c 0 ∗ cellP c 1 ∗ cellP c 2 ∗ cellP c 3 ∗ cellP c 4)
      ∗ (headM.view.loc (c : Thread nD τ) ↦{fullShare} XH m c)) := by
  rw [Pipeline.ΦD_eq, scopedRest0_eq, ownSems0_five, BI.bigSep_singleton]

theorem hd_whole (c : Dev nD) (b : Ref sig .tc) (f : Buf (Elt F) ((c : Thread nD τ).loc b)) :
    (hd c (Memref.whole b) f : sProp 𝕄) = (((c : Thread nD τ).loc b) ↦{fullShare} f) :=
  congrArg (fun S => (_ ↦[S]{fullShare} f : sProp 𝕄)) (View.set_whole _)

/-- The three results nothing is said of. -/
def forgets0 : Fin 9 → Bool := fun w => decide (6 ≤ w.val)

/-- The entropies, one to a lane, as the kernel computes them from what it is handed. -/
def entStd (c : Dev nD) (t : Fin cfg0.N) : FVec F S1x256 .f32 :=
  ent c (XH m c) (st0_0 t) (st0_1 t) (st0_4 t) ((hstage0_0 0).unread (iblk m c 0 t)) ((hstage0_1 0).unread (iblk m c 1 t)) ((hstage0_4 0).unread (iblk m c 4 t))
/-- The rows of entropies as the body leaves them. -/
def entBlk (e : FVec F S1x256 .f32) : Vec F S8x26 .f32 := View.canon (entPieces e)
theorem entPieces_cover (e : FVec F S1x256 .f32) : ∀ y, ∃ p ∈ entPieces e, y ∈ p.1.set := View.cover_of_tiled _ S1x26.size rfl
theorem entBlk_read (v : View sig .tc .vmem S8x26 .f32) (f) (e : FVec F S1x256 .f32) : v.read (Elt F) (v.writes (Elt F) f (entPieces e)) = entBlk e :=
  View.read_writes_eq_canon v f _ (entPieces_cover e)

/-- What the run holds: the inputs' blocks stay; the first result's rows are the entropies; of the others nothing is said. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => entBlk (entStd m c t)
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl

theorem entStd_eq (c : Dev nD) (t : Fin cfg0.N) {g0 : Buf (Elt F) ((st0_0 t).view.loc (c : Thread nD τ))} {g1 : Buf (Elt F) ((st0_1 t).view.loc (c : Thread nD τ))}
    {g4 : Buf (Elt F) ((st0_4 t).view.loc (c : Thread nD τ))}
    (h0 : (st0_0 t).view.read (Elt F) g0 = iblk m c 0 t) (h1 : (st0_1 t).view.read (Elt F) g1 = iblk m c 1 t) (h4 : (st0_4 t).view.read (Elt F) g4 = iblk m c 4 t) :
    ent c (XH m c) (st0_0 t) (st0_1 t) (st0_4 t) g0 g1 g4 = entStd m c t := by
  have e0 : g0 = (hstage0_0 0).unread (iblk m c 0 t) := Memref.IsWhole.eq_unread _ h0
  have e1 : g1 = (hstage0_1 0).unread (iblk m c 1 t) := Memref.IsWhole.eq_unread _ h1
  have e4 : g4 = (hstage0_4 0).unread (iblk m c 4 t) := Memref.IsWhole.eq_unread _ h4
  rw [e0, e1, e4, entStd]

/-- Every token names a row of the head. -/
def PreOK : Prop := ∀ (c : Dev nD) (j), (m ((c : Thread nD τ).loc main_arg3) j).toNat < 32000

theorem tok_lt (h : PreOK m) (c : Dev nD) (t : Fin cfg0.N) (j) : (iblk m c 3 t j : BitVec 32).toNat < 32000 := by
  have e : V m c (Pipeline.arrRef spec0 3) = m ((c : Thread nD τ).loc main_arg3) := V_main_arg3 m c
  unfold iblk
  rw [e, View.read_apply]
  exact h c _

/-- The body at the one point: what it is called with, what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)) ∗ (∃ d, owns (c : Thread nD τ) (st0_6 t) fullShare d)
    ∗ (∃ d, owns (c : Thread nD τ) (st0_7 t) fullShare d) ∗ (∃ d, owns (c : Thread nD τ) (st0_8 t) fullShare d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t)
    ∗ owns (c : Thread nD τ) (st0_5 t) fullShare (entBlk (entStd m c t)) ∗ (∃ d, owns (c : Thread nD τ) (st0_6 t) fullShare d)
    ∗ (∃ d, owns (c : Thread nD τ) (st0_7 t) fullShare d) ∗ (∃ d, owns (c : Thread nD τ) (st0_8 t) fullShare d))

theorem bodyAt_eq (t : Fin cfg0.N) : bodyAt0 (F := F) t = bodyG (st0_0 t) (hstage0_0 0) (st0_1 t) (hstage0_1 0) (st0_2 t) (hstage0_2 0)
    (st0_3 t) (hstage0_3 0) (st0_4 t) (hstage0_4 0) (st0_5 t) (hstage0_5 0) (st0_6 t) (hstage0_6 0) (st0_7 t) (hstage0_7 0) (st0_8 t) (hstage0_8 0) := rfl

set_option maxHeartbeats 8000000 in
theorem sound_body (h : PreOK m) (c : Dev nD) (t : Fin cfg0.N) :
    bodyPre m c t ⊢ wp frame (wpE (defs₀ (F := F)) 𝒱₀ c none) Set.univ (bodyAt0 t) (fun _ => bodyPost m c t) := by
  rw [bodyAt_eq]
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  simp only [before_w0, before_w1, before_w2, before_w3, before_w4]
  unfold Dat.owesAt Pipeline.owesWithin
  rw [show (dats m 0 c).owed t.castSucc = 0 from rfl]
  unfold owns
  iintro ⟨⟨⟨⟨%fb, Hb⟩, ⟨%fz, Hz⟩, ⟨%fd, Hd⟩⟩, Hg, ⟨C0, C1, C2, C3, C4⟩, Hh⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩, ⟨%d6, %g6, -, H6⟩, ⟨%d7, %g7, -, H7⟩, ⟨%d8, %g8, -, H8⟩⟩
  ihave Hb := (entails_of_eq (buf_split c fb)) $$ Hb
  icases Hb with ⟨S0, S1, S2, S3, S4⟩
  ihave Hh := (entails_of_eq (head_split c (XH m c))) $$ Hh
  icases Hh with ⟨Hgr, Hho⟩
  ihave Hz := (entails_of_eq (hd_whole c cc0_scratch1 fz).symm) $$ Hz
  ihave Hd := (entails_of_eq (hd_whole c cc0_scratch2 fd).symm) $$ Hd
  iapply (wp_wand_r frame (wpE (defs₀ (F := F)) 𝒱₀ (c : Thread nD τ) none) Set.univ)
  isplitr [Hg]
  · iapply (body c (XH m c) (st0_0 t) (hstage0_0 0) (st0_1 t) (hstage0_1 0) (st0_2 t) (hstage0_2 0)
      (st0_3 t) (hstage0_3 0) (st0_4 t) (hstage0_4 0) (st0_5 t) (hstage0_5 0) (st0_6 t) (hstage0_6 0) (st0_7 t) (hstage0_7 0) (st0_8 t) (hstage0_8 0)
      g0 g1 g2 g3 g4 g5 g6 g7 g8 fz fd (by rw [h3]; exact tok_lt m h c t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hz]; · iexact Hz
    isplitl [Hd]; · iexact Hd
    isplitl [S0 S1 S2 S3 S4 C0 C1 C2 C3 C4]
    · isplitl [S0 C0]
      · isplitl [S0]; · iexists fb; iexact S0
        iexact C0
      isplitl [S1 C1]
      · isplitl [S1]; · iexists fb; iexact S1
        iexact C1
      isplitl [S2 C2]
      · isplitl [S2]; · iexists fb; iexact S2
        iexact C2
      isplitl [S3 C3]
      · isplitl [S3]; · iexists fb; iexact S3
        iexact C3
      isplitl [S4]; · iexists fb; iexact S4
      iexact C4
    isplitl [Hgr]; · iexact Hgr
    isplitl [Hho]; · iexact Hho
    iexists W; iexact HO
  · iintro %_ ⟨H0, H1, H2, H3, H4, H5, ⟨%o6, H6⟩, ⟨%o7, H7⟩, ⟨%o8, H8⟩, ⟨%oz, Hz⟩, ⟨%od, Hd⟩, Hr, Hho, ⟨%W', HO⟩⟩
    ihave Hr := (entails_of_eq (ringAt_last c (XH m c))) $$ Hr
    icases Hr with ⟨⟨S0, C0⟩, ⟨S1, C1⟩, ⟨S2, C2⟩, ⟨S3, C3⟩, ⟨S4, C4⟩⟩
    ihave Hh := (entails_of_eq (head_join c (XH m c))) $$ Hho
    ihave Hz := (entails_of_eq (hd_whole c cc0_scratch1 oz)) $$ Hz
    ihave Hd := (entails_of_eq (hd_whole c cc0_scratch2 od)) $$ Hd
    isplitl [S0 S1 S2 S3 S4 Hz Hd Hg C0 C1 C2 C3 C4 Hh]
    · isplitl [S0 S1 S2 S3 S4 Hz Hd]
      · isplitl [S0 S1 S2 S3 S4]
        · iapply (buf_join c fb)
          isplitl [S0]; · iexact S0
          isplitl [S1]; · iexact S1
          isplitl [S2]; · iexact S2
          isplitl [S3]; · iexact S3
          iexact S4
        isplitl [Hz]; · iexists oz; iexact Hz
        iexists od; iexact Hd
      isplitl [Hg]; · iexact Hg
      isplitl [C0 C1 C2 C3 C4]
      · isplitl [C0]; · iexact C0
        isplitl [C1]; · iexact C1
        isplitl [C2]; · iexact C2
        isplitl [C3]; · iexact C3
        iexact C4
      iexact Hh
    isplitl [HO]
    · iexists W'; isplitr; · ipureintro; exact fun _ _ => Or.inl trivial
      iexact HO
    isplitl [H0]; · iexists g0; isplitr; · ipureintro; exact h0
                    iexact H0
    isplitl [H1]; · iexists g1; isplitr; · ipureintro; exact h1
                    iexact H1
    isplitl [H2]; · iexists g2; isplitr; · ipureintro; exact h2
                    iexact H2
    isplitl [H3]; · iexists g3; isplitr; · ipureintro; exact h3
                    iexact H3
    isplitl [H4]; · iexists g4; isplitr; · ipureintro; exact h4
                    iexact H4
    isplitl [H5]; · iexists _; isplitr; · ipureintro; exact (entBlk_read _ g5 _).trans (congrArg entBlk (entStd_eq m c t h0 h1 h4))
                    iexact H5
    isplitl [H6]; · iexists _, o6; isplitr; · ipureintro; rfl
                    iexact H6
    isplitl [H7]; · iexists _, o7; isplitr; · ipureintro; rfl
                    iexact H7
    iexists _, o8; isplitr; · ipureintro; rfl
    iexact H8

theorem defs₀_row (t : Fin cfg0.N) : defs₀ (F := F) .tc cfg0.body (cfg0.bodyArgs t (cfg0.slots t)) = bodyAt0 t := by
  unfold defs₀; rw [Defs.onTc_tc]

set_option maxHeartbeats 8000000 in
theorem body_obligation (h : PreOK m) (c : Dev nD) :
    BodyObligation (dats (F := F) m 0 c) (defs₀ (F := F)) 𝒱₀ () Set.univ forgets0 := fun t => by
  rw [bigSep_W0, bigSep_W0, defs₀_row]
  exact triple_restated (sound_body m h c t) rfl .rfl fun _ => .rfl

set_option maxHeartbeats 800000 in
/-- The host operations and then the kernel. -/
theorem hmainD : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option backward.isDefEq.respectTransparency.types false in
set_option maxHeartbeats 8000000 in
theorem run_main (h : PreOK m) :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ 𝒱₀ forgets0 ownSemFacts0 H0 H0_sub m ρ main
    (hbody := fun c => (body_obligation m h c).loose) (hshare := fun c => (dats m 0 c).share_full fun _ => rfl)
    (howed := fun _ _ => rfl) (V := V m) (hmain := hmainD m) (hA := A_eq m)
    (hin := fun _ => .rfl) (hout := fun _ => .rfl)

/-- Every run ends with the arguments as they were and every semaphore at zero. -/
theorem frame_run (h : PreOK m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hh => ⟨fun c => ⟨((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      (((dats m 0 c).toRForget_arrAt_iff (fgt := forgets0) (w := 3) rfl _ _).mp ((hh.1 c).1 3)).trans (((dats m 0 c).arrAt_in 3 rfl _).trans (V_main_arg3 m c)),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩, hh.2⟩) (run_main m ρ h)

end Cert.Proof.KernelIdeal

end
-- ==== Proof.K.Ring.lean ====
/-
  The kernel's ring of five slots, and one trip of its loop over the vocabulary.

  Before trip `k` of 25 the tiles `5k … 5k + 4` of the head are in flight, tile `5k + u` into slot `u`; every other
  tile is home. The trip waits for its five tiles one by one, reads each in its slot, stores 256 rows of scaled logits
  for it, updates the running maximum and the two running sums, and — except in the last trip — sends tile
  `5(k + 1) + u` into the slot just read. Tiles are kept in groups of five, so that one group is in flight
  (`Ring.homeSet 1 k`).
-/
module

-- one after the other, so that auxiliary lemmas are made once
public import proofs.«01_k».proof.Proof.Launch
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := Pipeline.UD sig nD τ
local notation "𝕄" => MT nD τ sig Unit (Elt F) ℕ (UU nD τ) ℕ
abbrev 𝒱₀ : Variants := Variants.none

theorem entails_of_eq {P Q : sProp 𝕄} (e : P = Q) : P ⊢ Q := e ▸ .rfl

/-! ## Canonical names: tile `b` of the head, slot `s` of the buffer, slot `s`'s cell -/

abbrev headM : Memref sig .tc .hbm S32000x8192 .fp8e4m3 := Memref.whole main_v1
abbrev bufM : Memref sig .tc .vmem S5x256x8192 .fp8e4m3 := Memref.whole cc0_scratch0
abbrev zM : Memref sig .tc .vmem S2x32000x128 .f32 := Memref.whole cc0_scratch1
abbrev dM : Memref sig .tc .vmem S2x128x128 .f32 := Memref.whole cc0_scratch2

abbrev tileOff (b : Fin 125) : Fin 2 → Nat := ![b.val * 256, 0]
theorem tileOff_inb (b : Fin 125) : ∀ a, tileOff b a + S256x8192.size a ≤ S32000x8192.size a := by
  have := b.isLt; intro a; fin_cases a
  · show b.val * 256 + 256 ≤ 32000; omega
  · show 0 + 8192 ≤ 8192; omega
abbrev slotOff (s : Fin 5) : Fin 3 → Nat := ![s.val, 0, 0]
theorem slotOff_inb (s : Fin 5) : ∀ a, slotOff s a + S1x256x8192.size a ≤ S5x256x8192.size a := by
  have := s.isLt; intro a; fin_cases a
  · show s.val + 1 ≤ 5; omega
  · show 0 + 256 ≤ 256; omega
  · show 0 + 8192 ≤ 8192; omega
abbrev semOff (s : Fin 5) : Fin 1 → Nat := ![s.val]
theorem semOff_inb (s : Fin 5) : ∀ a, semOff s a + S1.size a ≤ S5.size a := by
  have := s.isLt; intro a; fin_cases a; show s.val + 1 ≤ 5; omega

/-- Tile `b` of the head: its rows `256 b … 256 b + 255`. -/
def tile (b : Fin 125) : Memref sig .tc .hbm S256x8192 .fp8e4m3 :=
  headM.slice (Rect.unit (s := S32000x8192) (tileOff b) S256x8192.size (tileOff_inb b)) (fun _ => rfl)
/-- Slot `s` of the buffer. -/
def slot (s : Fin 5) : Memref sig .tc .vmem S256x8192 .fp8e4m3 :=
  (bufM.slice (Rect.unit (s := S5x256x8192) (slotOff s) S1x256x8192.size (slotOff_inb s)) (fun _ => rfl)).squeeze S256x8192 squeezes_S1x256x8192_S256x8192
/-- Slot `s`'s semaphore. -/
def cell (s : Fin 5) : DmaSems sig S_ := (cc0_scratch3.slice (Rect.unit (s := S5) (semOff s) S1.size (semOff_inb s))).squeeze S_ squeezes_S1_S_

instance (s : Fin 5) : ClosedOff (slotOff s) := ⟨slotOff s, rfl⟩
instance (b : Fin 125) : ClosedOff (tileOff b) := ⟨tileOff b, rfl⟩

/-- The tile that trip `k` reads in slot `u`. -/
def tl (k : ℕ) (u : Fin 5) : Fin 125 := Fin.ofNat 125 (5 * k + u.val)
theorem tl_val {k : ℕ} (hk : k < 25) (u : Fin 5) : (tl k u).val = 5 * k + u.val :=
  Nat.mod_eq_of_lt (by have := u.isLt; omega)

/-! ## The offsets of a trip in closed form -/

theorem trips_eq : k0_t1_loop.trips = 25 := by decide

theorem off1_eq : ∀ (k : Fin k0_t1_loop.trips) (u : Fin 5), k0_off1 k (BitVec.ofNat 32 u.val) = tileOff (tl k.val u) := by decide +kernel
theorem off5_eq : ∀ k : Fin k0_t1_loop.trips, k.val + 1 < 25 → k0_off5 k = tileOff (tl (k.val + 1) 0) := by decide +kernel
theorem off6_eq : ∀ k : Fin k0_t1_loop.trips, k.val + 1 < 25 → k0_off6 k = tileOff (tl (k.val + 1) 1) := by decide +kernel
theorem off7_eq : ∀ k : Fin k0_t1_loop.trips, k.val + 1 < 25 → k0_off7 k = tileOff (tl (k.val + 1) 2) := by decide +kernel
theorem off8_eq : ∀ k : Fin k0_t1_loop.trips, k.val + 1 < 25 → k0_off8 k = tileOff (tl (k.val + 1) 3) := by decide +kernel
theorem off9_eq : ∀ k : Fin k0_t1_loop.trips, k.val + 1 < 25 → k0_off9 k = tileOff (tl (k.val + 1) 4) := by decide +kernel

/-- The guard of the five sends: all but the last trip send. -/
theorem cond_eq : ∀ k : Fin k0_t1_loop.trips,
    (k0_cond1 k = 1#1 ↔ k.val + 1 < 25) ∧ (k0_cond2 k = 1#1 ↔ k.val + 1 < 25) ∧ (k0_cond3 k = 1#1 ↔ k.val + 1 < 25)
      ∧ (k0_cond4 k = 1#1 ↔ k.val + 1 < 25) ∧ (k0_cond5 k = 1#1 ↔ k.val + 1 < 25) := by decide +kernel

/-- The rows of trip `k`'s tile `u` in half `h` of the buffer of scaled logits. -/
abbrev rowOff (h : Fin 2) (b : Fin 125) : Fin 3 → Nat := ![h.val, b.val * 256, 0]
theorem off3_eq : ∀ (k : Fin k0_t1_loop.trips) (u : Fin 5), k0_off3 k (BitVec.ofNat 32 u.val) = rowOff 0 (tl k.val u) := by decide +kernel
theorem off4_eq : ∀ (k : Fin k0_t1_loop.trips) (u : Fin 5), k0_off4 k (BitVec.ofNat 32 u.val) = rowOff 1 (tl k.val u) := by decide +kernel
theorem off2_eq : ∀ (k : Fin k0_t1_loop.trips) (u : Fin 5), k0_off2 k (BitVec.ofNat 32 u.val) = ![(tl k.val u).val, 0, 0] := by decide +kernel

section Canon

theorem cell_congr {off : Fin 1 → Nat} {s : Fin 5} (e : off = semOff s) (hh) :
    (cc0_scratch3.slice (Rect.unit (s := S5) off S1.size hh)).squeeze S_ squeezes_S1_S_ = cell s :=
  congrArg (fun A : DmaSems sig S1 => A.squeeze S_ squeezes_S1_S_) (SemArray.slice_unit_congr _ e _ _)
theorem slot_congr {off : Fin 3 → Nat} {s : Fin 5} (e : off = slotOff s) (hh hs) :
    (bufM.slice (Rect.unit (s := S5x256x8192) off S1x256x8192.size hh) hs).squeeze S256x8192 squeezes_S1x256x8192_S256x8192 = slot s :=
  congrArg (fun M : Memref sig .tc .vmem S1x256x8192 .fp8e4m3 => M.squeeze S256x8192 squeezes_S1x256x8192_S256x8192) (Memref.slice_unit_congr _ e _ _ _ _)
theorem tile_congr {off : Fin 2 → Nat} {b : Fin 125} (e : off = tileOff b) (hh hs) :
    headM.slice (Rect.unit (s := S32000x8192) off S256x8192.size hh) hs = tile b :=
  Memref.slice_unit_congr _ e _ _ _ (fun _ => rfl)

@[scoped sl_canon] theorem cellL0 (hh) : (cc0_scratch3.slice (Rect.unit (s := S5) ![0] S1.size hh)).squeeze S_ squeezes_S1_S_ = cell 0 := cell_congr (by decide) _
@[scoped sl_canon] theorem cellL1 (hh) : (cc0_scratch3.slice (Rect.unit (s := S5) ![1] S1.size hh)).squeeze S_ squeezes_S1_S_ = cell 1 := cell_congr (by decide) _
@[scoped sl_canon] theorem cellL2 (hh) : (cc0_scratch3.slice (Rect.unit (s := S5) ![2] S1.size hh)).squeeze S_ squeezes_S1_S_ = cell 2 := cell_congr (by decide) _
@[scoped sl_canon] theorem cellL3 (hh) : (cc0_scratch3.slice (Rect.unit (s := S5) ![3] S1.size hh)).squeeze S_ squeezes_S1_S_ = cell 3 := cell_congr (by decide) _
@[scoped sl_canon] theorem cellL4 (hh) : (cc0_scratch3.slice (Rect.unit (s := S5) ![4] S1.size hh)).squeeze S_ squeezes_S1_S_ = cell 4 := cell_congr (by decide) _
@[scoped sl_canon] theorem slotL0 (hh hs) : (bufM.slice (Rect.unit (s := S5x256x8192) ![0, 0, 0] S1x256x8192.size hh) hs).squeeze S256x8192 squeezes_S1x256x8192_S256x8192 = slot 0 := slot_congr (by decide) _ _
@[scoped sl_canon] theorem slotL1 (hh hs) : (bufM.slice (Rect.unit (s := S5x256x8192) ![1, 0, 0] S1x256x8192.size hh) hs).squeeze S256x8192 squeezes_S1x256x8192_S256x8192 = slot 1 := slot_congr (by decide) _ _
@[scoped sl_canon] theorem slotL2 (hh hs) : (bufM.slice (Rect.unit (s := S5x256x8192) ![2, 0, 0] S1x256x8192.size hh) hs).squeeze S256x8192 squeezes_S1x256x8192_S256x8192 = slot 2 := slot_congr (by decide) _ _
@[scoped sl_canon] theorem slotL3 (hh hs) : (bufM.slice (Rect.unit (s := S5x256x8192) ![3, 0, 0] S1x256x8192.size hh) hs).squeeze S256x8192 squeezes_S1x256x8192_S256x8192 = slot 3 := slot_congr (by decide) _ _
@[scoped sl_canon] theorem slotL4 (hh hs) : (bufM.slice (Rect.unit (s := S5x256x8192) ![4, 0, 0] S1x256x8192.size hh) hs).squeeze S256x8192 squeezes_S1x256x8192_S256x8192 = slot 4 := slot_congr (by decide) _ _
@[scoped sl_canon] theorem tileL0 (hh hs) : headM.slice (Rect.unit (s := S32000x8192) ![0, 0] S256x8192.size hh) hs = tile (tl 0 0) := tile_congr (by decide) _ _
@[scoped sl_canon] theorem tileL1 (hh hs) : headM.slice (Rect.unit (s := S32000x8192) ![256, 0] S256x8192.size hh) hs = tile (tl 0 1) := tile_congr (by decide) _ _
@[scoped sl_canon] theorem tileL2 (hh hs) : headM.slice (Rect.unit (s := S32000x8192) ![512, 0] S256x8192.size hh) hs = tile (tl 0 2) := tile_congr (by decide) _ _
@[scoped sl_canon] theorem tileL3 (hh hs) : headM.slice (Rect.unit (s := S32000x8192) ![768, 0] S256x8192.size hh) hs = tile (tl 0 3) := tile_congr (by decide) _ _
@[scoped sl_canon] theorem tileL4 (hh hs) : headM.slice (Rect.unit (s := S32000x8192) ![1024, 0] S256x8192.size hh) hs = tile (tl 0 4) := tile_congr (by decide) _ _

variable (k : Fin k0_t1_loop.trips)
@[scoped sl_canon] theorem tileW0 (hh hs) : headM.slice (Rect.unit (s := S32000x8192) (k0_off1 k 0#32) S256x8192.size hh) hs = tile (tl k.val 0) := tile_congr (off1_eq k 0) _ _
@[scoped sl_canon] theorem tileW1 (hh hs) : headM.slice (Rect.unit (s := S32000x8192) (k0_off1 k 1#32) S256x8192.size hh) hs = tile (tl k.val 1) := tile_congr (off1_eq k 1) _ _
@[scoped sl_canon] theorem tileW2 (hh hs) : headM.slice (Rect.unit (s := S32000x8192) (k0_off1 k 2#32) S256x8192.size hh) hs = tile (tl k.val 2) := tile_congr (off1_eq k 2) _ _
@[scoped sl_canon] theorem tileW3 (hh hs) : headM.slice (Rect.unit (s := S32000x8192) (k0_off1 k 3#32) S256x8192.size hh) hs = tile (tl k.val 3) := tile_congr (off1_eq k 3) _ _
@[scoped sl_canon] theorem tileW4 (hh hs) : headM.slice (Rect.unit (s := S32000x8192) (k0_off1 k 4#32) S256x8192.size hh) hs = tile (tl k.val 4) := tile_congr (off1_eq k 4) _ _
@[scoped sl_canon] theorem tileI0 (hk : k.val + 1 < 25) (hh hs) : headM.slice (Rect.unit (s := S32000x8192) (k0_off5 k) S256x8192.size hh) hs = tile (tl (k.val + 1) 0) := tile_congr (off5_eq k hk) _ _
@[scoped sl_canon] theorem tileI1 (hk : k.val + 1 < 25) (hh hs) : headM.slice (Rect.unit (s := S32000x8192) (k0_off6 k) S256x8192.size hh) hs = tile (tl (k.val + 1) 1) := tile_congr (off6_eq k hk) _ _
@[scoped sl_canon] theorem tileI2 (hk : k.val + 1 < 25) (hh hs) : headM.slice (Rect.unit (s := S32000x8192) (k0_off7 k) S256x8192.size hh) hs = tile (tl (k.val + 1) 2) := tile_congr (off7_eq k hk) _ _
@[scoped sl_canon] theorem tileI3 (hk : k.val + 1 < 25) (hh hs) : headM.slice (Rect.unit (s := S32000x8192) (k0_off8 k) S256x8192.size hh) hs = tile (tl (k.val + 1) 3) := tile_congr (off8_eq k hk) _ _
@[scoped sl_canon] theorem tileI4 (hk : k.val + 1 < 25) (hh hs) : headM.slice (Rect.unit (s := S32000x8192) (k0_off9 k) S256x8192.size hh) hs = tile (tl (k.val + 1) 4) := tile_congr (off9_eq k hk) _ _

end Canon

/-! ## The pieces: a tile home, a slot held, a slot's cell, a slot in flight -/

section Pieces
variable (c : Dev nD) (XA : Buf (Elt F) (headM.view.loc (c : Thread nD τ)))

abbrev cellP (s : Fin 5) : sProp 𝕄 := semVal ((c : Thread nD τ), SemLoc.dma (cell s).sem) 0
abbrev slotP (s : Fin 5) (f : Buf (Elt F) ((slot s).view.loc (c : Thread nD τ))) : sProp 𝕄 :=
  (slot s).view.loc (c : Thread nD τ) ↦[(slot s).view.set]{fullShare} f
/-- Tile `b` home: held on its elements at the head's contents. -/
abbrev homeP (b : Fin 125) : sProp 𝕄 := (tile b).view.loc (c : Thread nD τ) ↦[(tile b).view.set]{fullShare} XA
/-- The five tiles of one trip home. -/
abbrev groupP (g : ℕ) : sProp 𝕄 :=
  iprop(homeP c XA (tl g 0) ∗ homeP c XA (tl g 1) ∗ homeP c XA (tl g 2) ∗ homeP c XA (tl g 3) ∗ homeP c XA (tl g 4))
/-- Every group home but group `k`. -/
abbrev homes (k : ℕ) : sProp 𝕄 := bigSep (Ring.homeSet (NB := 25) 1 k) (fun g => groupP c XA g.val)
/-- Tile `b`'s codes as a slot's payload. -/
abbrev payload (b : Fin 125) : S256x8192.Idx → Elt F .fp8e4m3 := ReadAs.same.apply ((tile b).view.read (Elt F) XA)
/-- What tile `b`'s transfer leaves in slot `s`. -/
abbrev landed (s : Fin 5) (b : Fin 125) (f : Buf (Elt F) ((slot s).view.loc (c : Thread nD τ))) : Buf (Elt F) ((slot s).view.loc (c : Thread nD τ)) :=
  (slot s).view.writes (Elt F) f [⟨Rect.whole S256x8192, payload c XA b⟩]
/-- Slot `s` in flight with tile `b`, sent over `f`. -/
abbrev flightP (s : Fin 5) (b : Fin 125) (f : Buf (Elt F) ((slot s).view.loc (c : Thread nD τ))) : sProp 𝕄 :=
  Transfers.Flight countersEmb (c : Thread nD τ) (SemLoc.dma (cell s).sem) () 65536 iprop(slotP c s (landed c XA s b f) ∗ homeP c XA b)
/-- The five flights of trip `k`. -/
abbrev flights (k : ℕ) : sProp 𝕄 :=
  iprop((∃ f, flightP c XA 0 (tl k 0) f) ∗ (∃ f, flightP c XA 1 (tl k 1) f) ∗ (∃ f, flightP c XA 2 (tl k 2) f)
    ∗ (∃ f, flightP c XA 3 (tl k 3) f) ∗ (∃ f, flightP c XA 4 (tl k 4) f))
/-- Slot `s` at rest: held at anything, its cell at zero. -/
abbrev idleP (s : Fin 5) : sProp 𝕄 := iprop((∃ f, slotP c s f) ∗ cellP c s)
abbrev idles : sProp 𝕄 := iprop(idleP c 0 ∗ idleP c 1 ∗ idleP c 2 ∗ idleP c 3 ∗ idleP c 4)

theorem homes_here (k : ℕ) (hk : k + 1 < 25) :
    homes c XA k = iprop(groupP c XA (k + 1) ∗ bigSep ((Ring.homeSet (NB := 25) 1 k).erase (Ring.bk 25 (k + 1))) (fun g => groupP c XA g.val)) := by
  conv_lhs => unfold homes; rw [Ring.homeSet_out 1 k hk, bigSep_insert (Ring.bkL_not_mem_erase 1 k)]
  rw [Ring.bk_val hk]; rfl
theorem homes_next (k : ℕ) (hk : k + 1 < 25) :
    homes c XA (k + 1) = iprop(groupP c XA k ∗ bigSep ((Ring.homeSet (NB := 25) 1 k).erase (Ring.bk 25 (k + 1))) (fun g => groupP c XA g.val)) := by
  conv_lhs => unfold homes; rw [Ring.homeSet_succ 1 k hk, bigSep_insert (Ring.bk_not_mem_erase 1 k (by omega) (by decide))]
  rw [Ring.bk_val (by omega)]; rfl
theorem homes_last : homes c XA 25 = iprop(groupP c XA 24 ∗ homes c XA 24) := by
  unfold homes
  rw [Ring.homeSet_succ_tail (NB := 25) 1 24 (by decide) (by decide), bigSep_insert (Ring.bk_not_mem_homeSet 1 24 (by decide) (by decide))]
  rfl

theorem flightP_after (s : Fin 5) (b b' : Fin 125) :
    flightP c XA s b' ((slot s).view.writes (Elt F) (slot s).view.junk [⟨Rect.whole S256x8192, payload c XA b⟩])
      = Transfers.Flight countersEmb (c : Thread nD τ) (SemLoc.dma (cell s).sem) () 65536
          iprop(((slot s).view.loc (c : Thread nD τ) ↦[(slot s).view.set]{fullShare}
                  (slot s).view.writes (Elt F) (slot s).view.junk [⟨Rect.whole S256x8192, payload c XA b'⟩, ⟨Rect.whole S256x8192, payload c XA b⟩])
                ∗ homeP c XA b') := by
  simp only [flightP, landed, slotP, View.writes]

end Pieces

end Cert.Proof.Kernel

end
-- ==== Proof.K.Trip.lean ====
/-
  One trip of the kernel's loop over the vocabulary, and the loop's invariant.
-/
module

public import proofs.«01_k».proof.Proof.K.Ring

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (XA : Buf (Elt F) (headM.view.loc (c : Thread nD τ)))
  (arg1 : Memref sig .tc .vmem S256x8192 .fp8e4m3) (harg1 : arg1.IsWhole)
  (arg2 : Memref sig .tc .vmem S1x256 .f32) (harg2 : arg2.IsWhole)
  (arg3 : Memref sig .tc .vmem S1x256 .i32) (harg3 : arg3.IsWhole)
  (arg4 : Memref sig .tc .smem S8x26 .i32) (harg4 : arg4.IsWhole)
  (arg5 : Memref sig .tc .vmem S125x2x128 .f32) (harg5 : arg5.IsWhole)
  (arg6 : Memref sig .tc .vmem S8x26 .f32) (harg6 : arg6.IsWhole)
  (arg7 : Memref sig .tc .vmem S8x26 .f32) (harg7 : arg7.IsWhole)
  (arg8 : Memref sig .tc .vmem S8x26 .f32) (harg8 : arg8.IsWhole)
  (arg9 : Memref sig .tc .vmem S8x26 .f32) (harg9 : arg9.IsWhole)

/-- The carried values: the running maximum and the two running sums. -/
abbrev Acc (F : FTy → Type) := FVec F S8x256 .f32 × FVec F S8x256 .f32 × FVec F S8x256 .f32

abbrev hd {s : Space} {S : Shape} {e : EltTy} (M : Memref sig .tc s S e) (f : Buf (Elt F) (M.view.loc (c : Thread nD τ))) : sProp 𝕄 :=
  M.view.loc (c : Thread nD τ) ↦[M.view.set]{fullShare} f

/-- What a trip holds apart from the ring: the activations, the head's scales, the buffer of scaled logits. -/
abbrev rest (fx : Buf (Elt F) (arg1.view.loc (c : Thread nD τ))) (fw : Buf (Elt F) (arg5.view.loc (c : Thread nD τ)))
    (fz : Buf (Elt F) (zM.view.loc (c : Thread nD τ))) : sProp 𝕄 :=
  iprop(hd c arg1 fx ∗ hd c arg5 fw ∗ hd c zM fz ∗ (∃ W, owes (c : Thread nD τ) 0 W))

abbrev tripG (v25 : Vec F S1x256 .f32) (k : Fin k0_t1_loop.trips) (acc : Acc F) : Prog (TpuEff nD τ sig (Elt F) Λ₀ .tc) (Acc F) :=
  k0_t1_body (F := F) headM (Memref.isWhole_whole _) arg1 harg1 arg2 harg2 arg3 harg3 arg4 harg4 arg5 harg5 arg6 harg6 arg7 harg7 arg8 harg8 arg9 harg9
    bufM (Memref.isWhole_whole _) zM (Memref.isWhole_whole _) dM (Memref.isWhole_whole _) cc0_scratch3 v25 k acc

/-! ## What a trip computes -/

/-- Tile `b` as the body reads it from slot `u`. -/
def slotRead (u : Fin 5) (b : Fin 125) : Vec F S1x256x8192 .fp8e4m3 :=
  View.readAt (Elt F) bufM.view (Rect.unit (s := S5x256x8192) (slotOff u) S1x256x8192.size (slotOff_inb u)).toLoadRect
    ((slot u).view.writes (Elt F) (slot u).view.junk [⟨Rect.whole S256x8192, payload c XA b⟩])
/-- The activations as the body reads them. -/
def xRead (fx : Buf (Elt F) (arg1.view.loc (c : Thread nD τ))) : Vec F S256x8192 .fp8e4m3 :=
  View.readAt (Elt F) arg1.view (Rect.unit (s := S256x8192) ![0, 0] S256x8192.size inb_S256x8192_S256x8192_0_0).toLoadRect fx
/-- The scales of trip `k`'s tile `u` as the body reads them. -/
def wsRead (fw : Buf (Elt F) (arg5.view.loc (c : Thread nD τ))) (k : Fin k0_t1_loop.trips) (u : Fin 5) : Vec F S1x2x128 .f32 :=
  View.readAt (Elt F) arg5.view (Rect.unit (s := S125x2x128) (k0_off2 k (BitVec.ofNat 32 u.val)) S1x2x128.size (k0_off2_inb k u)).toLoadRect fw
/-- The scaled logits of trip `k`'s tile `u`. -/
def zRaw (fx : Buf (Elt F) (arg1.view.loc (c : Thread nD τ))) (fw : Buf (Elt F) (arg5.view.loc (c : Thread nD τ)))
    (v25 : Vec F S1x256 .f32) (k : Fin k0_t1_loop.trips) (u : Fin 5) : FVec F S256x256 .f32 :=
  k0_pay4 (k0_pay69 v25) (slotRead c XA u (tl k.val u)) (xRead c arg1 fx) (wsRead c arg5 fw k u)
/-- The carried values after one more tile of scaled logits. -/
def stepG (a : Acc F) (z : FVec F S256x256 .f32) : Acc F := (k0_pay9 a.1 z, k0_pay15 a.1 a.2.1 z, k0_pay14 a.1 a.2.1 a.2.2 z)
/-- The two halves of a tile of scaled logits, as they are stored. -/
def loZ (z : FVec F S256x256 .f32) : FVec F S1x256x128 .f32 :=
  shapeCast S1x256x128 (extractStridedSlice S256x128 ![0, 0] z slices_S256x256_o0_0_S256x128) shapeCasts_S256x128_S1x256x128
def hiZ (z : FVec F S256x256 .f32) : FVec F S1x256x128 .f32 :=
  shapeCast S1x256x128 (extractStridedSlice S256x128 ![0, 128] z slices_S256x256_o0_128_S256x128) shapeCasts_S256x128_S1x256x128
/-- The carried values after a trip whose tiles are `z 0 … z 4`. -/
def tripAcc (z : Fin 5 → FVec F S256x256 .f32) (a : Acc F) : Acc F :=
  stepG (stepG (stepG (stepG (stepG a (z 0)) (z 1)) (z 2)) (z 3)) (z 4)
/-- The two stores of tile `u` of trip `k`. -/
def tilePair (k : Fin k0_t1_loop.trips) (u : Fin 5) (z : FVec F S256x256 .f32) (L : List (View.Piece (Elt F) S2x32000x128 .f32)) :
    List (View.Piece (Elt F) S2x32000x128 .f32) :=
  ⟨Rect.unit (s := S2x32000x128) (k0_off4 k (BitVec.ofNat 32 u.val)) S1x256x128.size (k0_off4_inb k u), hiZ z⟩
    :: ⟨Rect.unit (s := S2x32000x128) (k0_off3 k (BitVec.ofNat 32 u.val)) S1x256x128.size (k0_off3_inb k u), loZ z⟩ :: L
/-- The ten stores of trip `k`, the last one first. -/
def tripPieces (k : Fin k0_t1_loop.trips) (z : Fin 5 → FVec F S256x256 .f32) : List (View.Piece (Elt F) S2x32000x128 .f32) :=
  tilePair k 4 (z 4) (tilePair k 3 (z 3) (tilePair k 2 (z 2) (tilePair k 1 (z 1) (tilePair k 0 (z 0) []))))

set_option maxHeartbeats 4000000 in
theorem trip_send (fx : Buf (Elt F) (arg1.view.loc (c : Thread nD τ))) (fw : Buf (Elt F) (arg5.view.loc (c : Thread nD τ)))
    (fz : Buf (Elt F) (zM.view.loc (c : Thread nD τ)))
    (v25 : Vec F S1x256 .f32) (k : Fin k0_t1_loop.trips) (hk : k.val + 1 < 25) (acc : Acc F) :
    iprop(rest c arg1 arg5 fx fw fz ∗ homes c XA k ∗ flights c XA k)
      ⊢ wp frame (wpE (defs₀ (F := F)) 𝒱₀ (c : Thread nD τ) none) Set.univ
          (tripG arg1 harg1 arg2 harg2 arg3 harg3 arg4 harg4 arg5 harg5 arg6 harg6 arg7 harg7 arg8 harg8 arg9 harg9 v25 k acc)
          (fun r => iprop(⌜r = tripAcc (zRaw c XA arg1 arg5 fx fw v25 k) acc⌝
            ∗ rest c arg1 arg5 fx fw (zM.view.writes (Elt F) fz (tripPieces k (zRaw c XA arg1 arg5 fx fw v25 k)))
            ∗ homes c XA (k.val + 1) ∗ flights c XA (k.val + 1))) := by
  have hk25 : k.val < 25 := by omega
  obtain ⟨c1, c2, c3, c4, c5⟩ := cond_eq k
  have h1 := c1.mpr hk
  have h2 := c2.mpr hk
  have h3 := c3.mpr hk
  have h4 := c4.mpr hk
  have h5 := c5.mpr hk
  clear c1 c2 c3 c4 c5
  obtain ⟨a1, a2, a3⟩ := acc
  rw [homes_here c XA k.val hk, homes_next c XA k.val hk]
  iintro ⟨⟨Hx, Hw, Hz, ⟨%W, HW⟩⟩, ⟨⟨G0, G1, G2, G3, G4⟩, Hrest⟩, ⟨%f0, F0⟩, ⟨%f1, F1⟩, ⟨%f2, F2⟩, ⟨%f3, F3⟩, ⟨%f4, F4⟩⟩
  dsimp only [tripG]
  sl_unfold [k0_t1_body]
  sl_exec
  sl_step
  isplitr; · ipureintro; rfl
  isplitl [Hx Hw Hz HW]
  · isplitl [Hx]; · iexact Hx
    isplitl [Hw]; · iexact Hw
    isplitl [Hz]; · iexact Hz
    iexists _; iexact HW
  isplitl [F0_src F1_src F2_src F3_src F4_src Hrest]
  · isplitr [Hrest]
    · isplitl [F0_src]; · iexact F0_src
      isplitl [F1_src]; · iexact F1_src
      isplitl [F2_src]; · iexact F2_src
      isplitl [F3_src]; · iexact F3_src
      iexact F4_src
    iexact Hrest
  isplitl [F0]; · iexists ((slot 0).view.writes (Elt F) (slot 0).view.junk [⟨Rect.whole S256x8192, payload c XA (tl k.val 0)⟩]); irw [flightP_after]; iexact F0
  isplitl [F1]; · iexists ((slot 1).view.writes (Elt F) (slot 1).view.junk [⟨Rect.whole S256x8192, payload c XA (tl k.val 1)⟩]); irw [flightP_after]; iexact F1
  isplitl [F2]; · iexists ((slot 2).view.writes (Elt F) (slot 2).view.junk [⟨Rect.whole S256x8192, payload c XA (tl k.val 2)⟩]); irw [flightP_after]; iexact F2
  isplitl [F3]; · iexists ((slot 3).view.writes (Elt F) (slot 3).view.junk [⟨Rect.whole S256x8192, payload c XA (tl k.val 3)⟩]); irw [flightP_after]; iexact F3
  iexists ((slot 4).view.writes (Elt F) (slot 4).view.junk [⟨Rect.whole S256x8192, payload c XA (tl k.val 4)⟩]); irw [flightP_after]; iexact F4

set_option maxHeartbeats 4000000 in
theorem trip_last (fx : Buf (Elt F) (arg1.view.loc (c : Thread nD τ))) (fw : Buf (Elt F) (arg5.view.loc (c : Thread nD τ)))
    (fz : Buf (Elt F) (zM.view.loc (c : Thread nD τ)))
    (v25 : Vec F S1x256 .f32) (k : Fin k0_t1_loop.trips) (hk : k.val = 24) (acc : Acc F) :
    iprop(rest c arg1 arg5 fx fw fz ∗ homes c XA k ∗ flights c XA k)
      ⊢ wp frame (wpE (defs₀ (F := F)) 𝒱₀ (c : Thread nD τ) none) Set.univ
          (tripG arg1 harg1 arg2 harg2 arg3 harg3 arg4 harg4 arg5 harg5 arg6 harg6 arg7 harg7 arg8 harg8 arg9 harg9 v25 k acc)
          (fun r => iprop(⌜r = tripAcc (zRaw c XA arg1 arg5 fx fw v25 k) acc⌝
            ∗ rest c arg1 arg5 fx fw (zM.view.writes (Elt F) fz (tripPieces k (zRaw c XA arg1 arg5 fx fw v25 k)))
            ∗ homes c XA (k.val + 1) ∗ idles c)) := by
  obtain ⟨c1, c2, c3, c4, c5⟩ := cond_eq k
  have hn : ¬ (k.val + 1 < 25) := by omega
  have h1 := fun h => hn (c1.mp h)
  have h2 := fun h => hn (c2.mp h)
  have h3 := fun h => hn (c3.mp h)
  have h4 := fun h => hn (c4.mp h)
  have h5 := fun h => hn (c5.mp h)
  clear c1 c2 c3 c4 c5
  obtain ⟨a1, a2, a3⟩ := acc
  have e : homes c XA (k.val + 1) = iprop(groupP c XA k.val ∗ homes c XA k.val) := by rw [hk]; exact homes_last c XA
  rw [e]
  iintro ⟨⟨Hx, Hw, Hz, ⟨%W, HW⟩⟩, Hrest, ⟨%f0, F0⟩, ⟨%f1, F1⟩, ⟨%f2, F2⟩, ⟨%f3, F3⟩, ⟨%f4, F4⟩⟩
  dsimp only [tripG]
  sl_unfold [k0_t1_body]
  sl_exec
  sl_step
  isplitr; · ipureintro; rfl
  isplitl [Hx Hw Hz HW]
  · isplitl [Hx]; · iexact Hx
    isplitl [Hw]; · iexact Hw
    isplitl [Hz]; · iexact Hz
    iexists _; iexact HW
  isplitl [F0_src F1_src F2_src F3_src F4_src Hrest]
  · isplitr [Hrest]
    · isplitl [F0_src]; · iexact F0_src
      isplitl [F1_src]; · iexact F1_src
      isplitl [F2_src]; · iexact F2_src
      isplitl [F3_src]; · iexact F3_src
      iexact F4_src
    iexact Hrest
  isplitl [F0_dst F0]; · isplitl [F0_dst]; · iexists _; iexact F0_dst
                         iexact F0
  isplitl [F1_dst F1]; · isplitl [F1_dst]; · iexists _; iexact F1_dst
                         iexact F1
  isplitl [F2_dst F2]; · isplitl [F2_dst]; · iexists _; iexact F2_dst
                         iexact F2
  isplitl [F3_dst F3]; · isplitl [F3_dst]; · iexists _; iexact F3_dst
                         iexact F3
  isplitl [F4_dst]; · iexists _; iexact F4_dst
  iexact F4

/-! ## The loop's invariant -/

/-- The carried values before trip `k`. -/
def accR (fx : Buf (Elt F) (arg1.view.loc (c : Thread nD τ))) (fw : Buf (Elt F) (arg5.view.loc (c : Thread nD τ)))
    (v25 : Vec F S1x256 .f32) : ℕ → Acc F
  | 0 => (k0_pay70 (F := F), k0_pay71 (F := F), k0_pay72 (F := F))
  | k + 1 => if h : k < k0_t1_loop.trips then tripAcc (zRaw c XA arg1 arg5 fx fw v25 ⟨k, h⟩) (accR fx fw v25 k) else accR fx fw v25 k

/-- The buffer of scaled logits before trip `k`, from its contents `fz` at the loop's entry. -/
def zBuf (fx : Buf (Elt F) (arg1.view.loc (c : Thread nD τ))) (fw : Buf (Elt F) (arg5.view.loc (c : Thread nD τ)))
    (v25 : Vec F S1x256 .f32) (fz : Buf (Elt F) (zM.view.loc (c : Thread nD τ))) : ℕ → Buf (Elt F) (zM.view.loc (c : Thread nD τ))
  | 0 => fz
  | k + 1 => if h : k < k0_t1_loop.trips then
      zM.view.writes (Elt F) (zBuf fx fw v25 fz k) (tripPieces ⟨k, h⟩ (zRaw c XA arg1 arg5 fx fw v25 ⟨k, h⟩)) else zBuf fx fw v25 fz k

/-- The slots before trip `k`: in flight, and at rest after the last trip. -/
@[irreducible] def ringAt (k : ℕ) : sProp 𝕄 := if k < 25 then flights c XA k else idles c

theorem ringAt_lt {k : ℕ} (h : k < 25) : ringAt c XA k = flights c XA k := by unfold ringAt; exact if_pos h
theorem ringAt_last : ringAt c XA 25 = idles c := by unfold ringAt; exact if_neg (by decide)

/-- What the loop holds before trip `k`. -/
def invAt (fx : Buf (Elt F) (arg1.view.loc (c : Thread nD τ))) (fw : Buf (Elt F) (arg5.view.loc (c : Thread nD τ)))
    (v25 : Vec F S1x256 .f32) (fz : Buf (Elt F) (zM.view.loc (c : Thread nD τ))) (k : ℕ) (acc : Acc F) : sProp 𝕄 :=
  iprop(⌜acc = accR c XA arg1 arg5 fx fw v25 k⌝ ∗ rest c arg1 arg5 fx fw (zBuf c XA arg1 arg5 fx fw v25 fz k)
    ∗ homes c XA k ∗ ringAt c XA k)

/-- One trip takes the invariant to the next trip. -/
theorem inv_step (fx : Buf (Elt F) (arg1.view.loc (c : Thread nD τ))) (fw : Buf (Elt F) (arg5.view.loc (c : Thread nD τ)))
    (fz : Buf (Elt F) (zM.view.loc (c : Thread nD τ))) (v25 : Vec F S1x256 .f32) (k : Fin k0_t1_loop.trips) (acc : Acc F) :
    invAt c XA arg1 arg5 fx fw v25 fz k.val acc
      ⊢ wp frame (wpE (defs₀ (F := F)) 𝒱₀ (c : Thread nD τ) none) Set.univ
          (tripG arg1 harg1 arg2 harg2 arg3 harg3 arg4 harg4 arg5 harg5 arg6 harg6 arg7 harg7 arg8 harg8 arg9 harg9 v25 k acc)
          (fun r => invAt c XA arg1 arg5 fx fw v25 fz (k.val + 1) r) := by
  have hk : k.val < 25 := Nat.lt_of_lt_of_eq k.isLt trips_eq
  have ea : accR c XA arg1 arg5 fx fw v25 (k.val + 1) = tripAcc (zRaw c XA arg1 arg5 fx fw v25 k) (accR c XA arg1 arg5 fx fw v25 k.val) := by
    rw [accR, dif_pos k.isLt]
  have ez : zBuf c XA arg1 arg5 fx fw v25 fz (k.val + 1)
      = zM.view.writes (Elt F) (zBuf c XA arg1 arg5 fx fw v25 fz k.val) (tripPieces k (zRaw c XA arg1 arg5 fx fw v25 k)) := by
    rw [zBuf, dif_pos k.isLt]
  unfold invAt
  rw [ea, ez, ringAt_lt c XA hk]
  generalize hA : accR c XA arg1 arg5 fx fw v25 k.val = A
  generalize zBuf c XA arg1 arg5 fx fw v25 fz k.val = f
  iintro ⟨%e, H⟩
  subst e
  by_cases h : k.val + 1 < 25
  · rw [ringAt_lt c XA h]
    iapply (trip_send c XA arg1 harg1 arg2 harg2 arg3 harg3 arg4 harg4 arg5 harg5 arg6 harg6 arg7 harg7 arg8 harg8 arg9 harg9 fx fw f v25 k h acc)
    iexact H
  · have h24 : k.val = 24 := by omega
    have e25 : ringAt c XA (k.val + 1) = idles c := by rw [h24]; exact ringAt_last c XA
    rw [e25]
    iapply (trip_last c XA arg1 harg1 arg2 harg2 arg3 harg3 arg4 harg4 arg5 harg5 arg6 harg6 arg7 harg7 arg8 harg8 arg9 harg9 fx fw f v25 k h24 acc)
    iexact H

set_option maxHeartbeats 4000000 in
set_option warn.classDefReducibility false in
/-- The loop's invariant. -/
@[sl_loop] def loopInv (fx : Buf (Elt F) (arg1.view.loc (c : Thread nD τ))) (fw : Buf (Elt F) (arg5.view.loc (c : Thread nD τ)))
    (fz : Buf (Elt F) (zM.view.loc (c : Thread nD τ))) (v25 : Vec F S1x256 .f32) :
    LoopInvTy_k0_t1 (F := F) Unit ℕ (UU nD τ) ℕ 𝒱₀ c none Set.univ headM (Memref.isWhole_whole _) arg1 harg1 arg2 harg2 arg3 harg3 arg4 harg4
      arg5 harg5 arg6 harg6 arg7 harg7 arg8 harg8 arg9 harg9 bufM (Memref.isWhole_whole _) zM (Memref.isWhole_whole _) dM (Memref.isWhole_whole _)
      cc0_scratch3 v25 (k0_pay70 (F := F), k0_pay71 (F := F), k0_pay72 (F := F)) where
  inv k acc := invAt c XA arg1 arg5 fx fw v25 fz k acc
  step := inv_step c XA arg1 harg1 arg2 harg2 arg3 harg3 arg4 harg4 arg5 harg5 arg6 harg6 arg7 harg7 arg8 harg8 arg9 harg9 fx fw fz v25

end Cert.Proof.Kernel

end
-- ==== Proof.K.Part.lean ====
/-
  The whole body of the kernel: the five first sends, the loop over the vocabulary (`Trip.lean`), the copies of the
  tokens' rows of scaled logits, and the walk up the tree.
-/
module

public import proofs.«01_k».proof.Proof.K.Trip

@[expose] public section

noncomputable section
namespace Cert.Proof.Kernel
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (XA : Buf (Elt F) (headM.view.loc (c : Thread nD τ)))
  (arg1 : Memref sig .tc .vmem S256x8192 .fp8e4m3) (harg1 : arg1.IsWhole)
  (arg2 : Memref sig .tc .vmem S1x256 .f32) (harg2 : arg2.IsWhole)
  (arg3 : Memref sig .tc .vmem S1x256 .i32) (harg3 : arg3.IsWhole)
  (arg4 : Memref sig .tc .smem S8x26 .i32) (harg4 : arg4.IsWhole)
  (arg5 : Memref sig .tc .vmem S125x2x128 .f32) (harg5 : arg5.IsWhole)
  (arg6 : Memref sig .tc .vmem S8x26 .f32) (harg6 : arg6.IsWhole)
  (arg7 : Memref sig .tc .vmem S8x26 .f32) (harg7 : arg7.IsWhole)
  (arg8 : Memref sig .tc .vmem S8x26 .f32) (harg8 : arg8.IsWhole)
  (arg9 : Memref sig .tc .vmem S8x26 .f32) (harg9 : arg9.IsWhole)

/-- A token below 32000 names a row of the buffer of scaled logits. -/
theorem row_inb {h : ℕ} {v : BitVec 32} (hh : h + 1 ≤ 2) (hv : v.toNat < 32000) :
    ∀ a, (![h, (Scalar.indexCast v).toNat, 0] : Fin 3 → Nat) a + S1x1x128.size a ≤ S2x32000x128.size a := by
  intro a; fin_cases a
  · exact hh
  · exact hv
  · exact le_refl 128

/-! ## The buffer of scaled logits is written everywhere -/

/-- The stores of the first `k` trips, the last one first. -/
def zPieces (fx : Buf (Elt F) (arg1.view.loc (c : Thread nD τ))) (fw : Buf (Elt F) (arg5.view.loc (c : Thread nD τ)))
    (v25 : Vec F S1x256 .f32) : ℕ → List (View.Piece (Elt F) S2x32000x128 .f32)
  | 0 => []
  | k + 1 => if h : k < k0_t1_loop.trips then tripPieces ⟨k, h⟩ (zRaw c XA arg1 arg5 fx fw v25 ⟨k, h⟩) ++ zPieces fx fw v25 k else zPieces fx fw v25 k

theorem zBuf_eq (fx : Buf (Elt F) (arg1.view.loc (c : Thread nD τ))) (fw : Buf (Elt F) (arg5.view.loc (c : Thread nD τ)))
    (v25 : Vec F S1x256 .f32) (fz : Buf (Elt F) (zM.view.loc (c : Thread nD τ))) (k : ℕ) :
    zBuf c XA arg1 arg5 fx fw v25 fz k = zM.view.writes (Elt F) fz (zPieces c XA arg1 arg5 fx fw v25 k) := by
  induction k with
  | zero => rfl
  | succ k ih =>
    unfold zBuf zPieces
    by_cases h : k < k0_t1_loop.trips
    · rw [dif_pos h, dif_pos h, View.writes_append, ih]
    · rw [dif_neg h, dif_neg h, ih]

theorem mem_zPieces (fx : Buf (Elt F) (arg1.view.loc (c : Thread nD τ))) (fw : Buf (Elt F) (arg5.view.loc (c : Thread nD τ)))
    (v25 : Vec F S1x256 .f32) (k : Fin k0_t1_loop.trips) (p : View.Piece (Elt F) S2x32000x128 .f32)
    (hp : p ∈ tripPieces k (zRaw c XA arg1 arg5 fx fw v25 k)) : ∀ n, k.val < n → p ∈ zPieces c XA arg1 arg5 fx fw v25 n := by
  intro n
  induction n with
  | zero => intro h; omega
  | succ n ih =>
    intro h
    unfold zPieces
    by_cases hn : k.val = n
    · subst hn; rw [dif_pos k.isLt]; exact List.mem_append_left _ hp
    · by_cases h' : n < k0_t1_loop.trips
      · rw [dif_pos h']; exact List.mem_append_right _ (ih (by omega))
      · rw [dif_neg h']; exact ih (by omega)

theorem mem_tripPieces (k : Fin k0_t1_loop.trips) (z : Fin 5 → FVec F S256x256 .f32) (u : Fin 5) :
    (⟨Rect.unit (s := S2x32000x128) (k0_off4 k (BitVec.ofNat 32 u.val)) S1x256x128.size (k0_off4_inb k u), hiZ (z u)⟩ : View.Piece (Elt F) S2x32000x128 .f32) ∈ tripPieces k z
      ∧ (⟨Rect.unit (s := S2x32000x128) (k0_off3 k (BitVec.ofNat 32 u.val)) S1x256x128.size (k0_off3_inb k u), loZ (z u)⟩ : View.Piece (Elt F) S2x32000x128 .f32) ∈ tripPieces k z := by
  unfold tripPieces tilePair
  fin_cases u <;> constructor <;> simp

theorem mem_rows {h : Fin 2} {b : Fin 125} {off : Fin 3 → Nat} (e : off = rowOff h b) (inb) (y : S2x32000x128.Idx)
    (h0 : (y 0).val = h.val) (h1 : (y 1).val / 256 = b.val) : y ∈ (Rect.unit (s := S2x32000x128) off S1x256x128.size inb).set := by
  subst e
  rw [Rect.mem_set_unit]
  have h2 : (y 2).val < 128 := (y 2).isLt
  intro a; fin_cases a
  · show h.val ≤ (y 0).val ∧ (y 0).val < h.val + 1; omega
  · show b.val * 256 ≤ (y 1).val ∧ (y 1).val < b.val * 256 + 256; omega
  · show 0 ≤ (y 2).val ∧ (y 2).val < 0 + 128; omega

theorem zPieces_cover (fx : Buf (Elt F) (arg1.view.loc (c : Thread nD τ))) (fw : Buf (Elt F) (arg5.view.loc (c : Thread nD τ)))
    (v25 : Vec F S1x256 .f32) (y : S2x32000x128.Idx) : ∃ p ∈ zPieces c XA arg1 arg5 fx fw v25 25, y ∈ p.1.set := by
  have h0 : (y 0).val < 2 := (y 0).isLt
  have h1 : (y 1).val < 32000 := (y 1).isLt
  have hk : (y 1).val / 256 / 5 < 25 := by omega
  have hv : (tl ((y 1).val / 256 / 5) ⟨(y 1).val / 256 % 5, Nat.mod_lt _ (by decide)⟩).val = (y 1).val / 256 := by
    rw [tl_val hk]; show 5 * ((y 1).val / 256 / 5) + (y 1).val / 256 % 5 = _; omega
  have hm := mem_tripPieces ⟨(y 1).val / 256 / 5, by rw [trips_eq]; exact hk⟩
    (zRaw c XA arg1 arg5 fx fw v25 ⟨(y 1).val / 256 / 5, by rw [trips_eq]; exact hk⟩) ⟨(y 1).val / 256 % 5, Nat.mod_lt _ (by decide)⟩
  by_cases hh : (y 0).val = 0
  · exact ⟨_, mem_zPieces c XA arg1 arg5 fx fw v25 _ _ hm.2 25 hk, mem_rows (off3_eq _ _) (k0_off3_inb _ _) y hh hv.symm⟩
  · exact ⟨_, mem_zPieces c XA arg1 arg5 fx fw v25 _ _ hm.1 25 hk, mem_rows (off4_eq _ _) (k0_off4_inb _ _) y (by show (y 0).val = 1; omega) hv.symm⟩

/-- After the loop the buffer of scaled logits no longer shows what it held before. -/
theorem zBuf_last (fx : Buf (Elt F) (arg1.view.loc (c : Thread nD τ))) (fw : Buf (Elt F) (arg5.view.loc (c : Thread nD τ)))
    (v25 : Vec F S1x256 .f32) (fz : Buf (Elt F) (zM.view.loc (c : Thread nD τ))) :
    zBuf c XA arg1 arg5 fx fw v25 fz 25 = zBuf c XA arg1 arg5 fx fw v25 zM.view.junk 25 := by
  rw [zBuf_eq, zBuf_eq]
  have hc := zPieces_cover c XA arg1 arg5 fx fw v25
  generalize zPieces c XA arg1 arg5 fx fw v25 25 = L at hc ⊢
  have h := View.read_writes_of_cover (v := zM.view) (Val := Elt F) fz zM.view zM.view.junk L hc
  generalize zM.view.writes (Elt F) fz L = A at h ⊢
  generalize zM.view.writes (Elt F) zM.view.junk L = B at h ⊢
  exact h

abbrev part10G : Prog (TpuEff nD τ sig (Elt F) Λ₀ .tc) (Σ' (v55 : FVec F S1x256 .f32) (v56 : FVec F S1x256 .f32), Elt F .i32) :=
  k0_part10 (F := F) headM (Memref.isWhole_whole _) arg1 harg1 arg2 harg2 arg3 harg3 arg4 harg4 arg5 harg5 arg6 harg6 arg7 harg7 arg8 harg8 arg9 harg9
    bufM (Memref.isWhole_whole _) zM (Memref.isWhole_whole _) dM (Memref.isWhole_whole _) cc0_scratch3

/-- The activations' scales as the body reads them. -/
def sRead (fs : Buf (Elt F) (arg2.view.loc (c : Thread nD τ))) : Vec F S1x256 .f32 :=
  View.readAt (Elt F) arg2.view (Rect.unit (s := S1x256) ![0, 0] S1x256.size inb_S1x256_S1x256_0_0).toLoadRect fs
theorem tok_inb (b : Fin 8) (i : Fin 26) : ∀ a, (![b.val, i.val] : Fin 2 → Nat) a + S1x1.size a ≤ S8x26.size a := by
  have := b.isLt; have := i.isLt; intro a; fin_cases a
  · show b.val + 1 ≤ 8; omega
  · show i.val + 1 ≤ 26; omega
/-- Token `i` of row `b` as the body reads it. -/
def tokRead (ft : Buf (Elt F) (arg4.view.loc (c : Thread nD τ))) (b : Fin 8) (i : Fin 26) : BitVec 32 :=
  View.readAt (Elt F) arg4.view (Rect.unit (s := S8x26) ![b.val, i.val] S1x1.size (tok_inb b i)).toLoadRect ft (Shape.Idx.first (numel1_S1x1.symm ▸ Nat.one_pos))

/-- The carried values and the scaled logits after the loop. -/
abbrev accEnd (fx : Buf (Elt F) (arg1.view.loc (c : Thread nD τ))) (fs : Buf (Elt F) (arg2.view.loc (c : Thread nD τ)))
    (fw : Buf (Elt F) (arg5.view.loc (c : Thread nD τ))) : Acc F := accR c XA arg1 arg5 fx fw (sRead c arg2 fs) 25
abbrev zEnd (fx : Buf (Elt F) (arg1.view.loc (c : Thread nD τ))) (fs : Buf (Elt F) (arg2.view.loc (c : Thread nD τ)))
    (fw : Buf (Elt F) (arg5.view.loc (c : Thread nD τ))) : Buf (Elt F) (zM.view.loc (c : Thread nD τ)) :=
  zBuf c XA arg1 arg5 fx fw (sRead c arg2 fs) zM.view.junk 25

/-- The entropies, and the logarithms of the sums, as the body has them after folding the eight sublanes. -/
def ent (fx : Buf (Elt F) (arg1.view.loc (c : Thread nD τ))) (fs : Buf (Elt F) (arg2.view.loc (c : Thread nD τ)))
    (fw : Buf (Elt F) (arg5.view.loc (c : Thread nD τ))) : FVec F S1x256 .f32 :=
  k0_pay78 (accEnd c XA arg1 arg2 arg5 fx fs fw).1 (accEnd c XA arg1 arg2 arg5 fx fs fw).2.1 (accEnd c XA arg1 arg2 arg5 fx fs fw).2.2
def lse (fx : Buf (Elt F) (arg1.view.loc (c : Thread nD τ))) (fs : Buf (Elt F) (arg2.view.loc (c : Thread nD τ)))
    (fw : Buf (Elt F) (arg5.view.loc (c : Thread nD τ))) : FVec F S1x256 .f32 :=
  k0_pay79 (accEnd c XA arg1 arg2 arg5 fx fs fw).1 (accEnd c XA arg1 arg2 arg5 fx fs fw).2.1

/-- The piece that clears the buffer of copied rows. -/
abbrev dZero : View.Piece (Elt F) S2x128x128 .f32 :=
  ⟨Rect.unit (s := S2x128x128) ![0, 0, 0] S2x128x128.size inb_S2x128x128_S2x128x128_0_0_0, k0_pay80 (F := F)⟩

set_option maxHeartbeats 40000000 in
theorem part10 (fx : Buf (Elt F) (arg1.view.loc (c : Thread nD τ))) (fs : Buf (Elt F) (arg2.view.loc (c : Thread nD τ)))
    (ft : Buf (Elt F) (arg4.view.loc (c : Thread nD τ))) (fw : Buf (Elt F) (arg5.view.loc (c : Thread nD τ)))
    (fz : Buf (Elt F) (zM.view.loc (c : Thread nD τ))) (fd : Buf (Elt F) (dM.view.loc (c : Thread nD τ)))
    (f0 : Buf (Elt F) ((slot 0).view.loc (c : Thread nD τ))) (f1 : Buf (Elt F) ((slot 1).view.loc (c : Thread nD τ)))
    (f2 : Buf (Elt F) ((slot 2).view.loc (c : Thread nD τ))) (f3 : Buf (Elt F) ((slot 3).view.loc (c : Thread nD τ)))
    (f4 : Buf (Elt F) ((slot 4).view.loc (c : Thread nD τ))) (W : Waits sig Unit) (hT : ∀ j, (arg4.view.read (Elt F) ft j).toNat < 32000) :
    iprop(hd c arg1 fx ∗ hd c arg2 fs ∗ hd c arg4 ft ∗ hd c arg5 fw ∗ hd c zM fz ∗ hd c dM fd ∗ homes c XA 0
        ∗ flightP c XA 0 (tl 0 0) f0 ∗ flightP c XA 1 (tl 0 1) f1 ∗ flightP c XA 2 (tl 0 2) f2 ∗ flightP c XA 3 (tl 0 3) f3 ∗ flightP c XA 4 (tl 0 4) f4
        ∗ owes (c : Thread nD τ) 0 W)
      ⊢ wp frame (wpE (defs₀ (F := F)) 𝒱₀ (c : Thread nD τ) none) Set.univ
          (part10G arg1 harg1 arg2 harg2 arg3 harg3 arg4 harg4 arg5 harg5 arg6 harg6 arg7 harg7 arg8 harg8 arg9 harg9)
          (fun r => iprop(⌜k0_chk1 r.2.2⌝ ∗ ⌜r.1 = ent c XA arg1 arg2 arg5 fx fs fw⌝ ∗ ⌜r.2.1 = lse c XA arg1 arg2 arg5 fx fs fw⌝ ∗ ⌜r.2.2 = tokRead c arg4 ft 0 0⌝
            ∗ hd c arg1 fx ∗ hd c arg2 fs ∗ hd c arg4 ft ∗ hd c arg5 fw ∗ hd c zM (zEnd c XA arg1 arg2 arg5 fx fs fw)
            ∗ hd c dM (dM.view.writes (Elt F) fd [dZero]) ∗ homes c XA 25 ∗ ringAt c XA 25 ∗ (∃ W, owes (c : Thread nD τ) 0 W))) := by
  iintro ⟨H1, H2, H4, H5, Hz, Hd, Hh, F0, F1, F2, F3, F4, HW⟩
  ihave R : iprop(ringAt c XA 0) $$ [F0 F1 F2 F3 F4]
  · irw [ringAt_lt c XA (show 0 < 25 by decide)]
    isplitl [F0]; · iexists f0; iexact F0
    isplitl [F1]; · iexists f1; iexact F1
    isplitl [F2]; · iexists f2; iexact F2
    isplitl [F3]; · iexists f3; iexact F3
    iexists f4; iexact F4
  dsimp only [part10G]
  sl_unfold [k0_part10]
  sl_exec
  have e25 : Scf.trips k0_t1_loop.lb k0_t1_loop.ub k0_t1_loop.st = 25 := trips_eq
  rw [e25]
  sl_step
  isplitr; · ipureintro; exact row_inb (by decide) (hT _)
  isplitr; · ipureintro; rfl
  isplitr; · ipureintro; rfl
  isplitr; · ipureintro; rfl
  isplitl [H1]; · iexact H1
  isplitl [H2]; · iexact H2
  isplitl [H4]; · iexact H4
  isplitl [H5]; · iexact H5
  isplitl [Hz]
  · iapply (entails_of_eq (congrArg (hd c zM) (zBuf_last c XA arg1 arg5 fx fw (sRead c arg2 fs) fz)))
    iexact Hz
  isplitl [Hd]; · iexact Hd
  isplitl [Hh]; · iexact Hh
  isplitl [R]; · iexact R
  iexists _; iexact HW

abbrev bodyG : Prog (TpuEff nD τ sig (Elt F) Λ₀ .tc) PUnit :=
  cc0_medusa_accept (F := F) headM (Memref.isWhole_whole _) arg1 harg1 arg2 harg2 arg3 harg3 arg4 harg4 arg5 harg5 arg6 harg6 arg7 harg7 arg8 harg8 arg9 harg9
    bufM (Memref.isWhole_whole _) zM (Memref.isWhole_whole _) dM (Memref.isWhole_whole _) cc0_scratch3

end Cert.Proof.Kernel

end
-- ==== Proof.K.Body.lean ====
/-
  The whole body of the kernel: the five first sends, the loop over the vocabulary and the folding of its sublanes
  (`Part.lean`), the copies of the tokens' rows of scaled logits, and the walk up the tree, with the rows the body
  stores into its four results.
-/
module

public import proofs.«01_k».proof.Proof.K.Part

@[expose] public section

noncomputable section
namespace Cert.Proof.Kernel
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (XA : Buf (Elt F) (headM.view.loc (c : Thread nD τ)))
  (arg1 : Memref sig .tc .vmem S256x8192 .fp8e4m3) (harg1 : arg1.IsWhole)
  (arg2 : Memref sig .tc .vmem S1x256 .f32) (harg2 : arg2.IsWhole)
  (arg3 : Memref sig .tc .vmem S1x256 .i32) (harg3 : arg3.IsWhole)
  (arg4 : Memref sig .tc .smem S8x26 .i32) (harg4 : arg4.IsWhole)
  (arg5 : Memref sig .tc .vmem S125x2x128 .f32) (harg5 : arg5.IsWhole)
  (arg6 : Memref sig .tc .vmem S8x26 .f32) (harg6 : arg6.IsWhole)
  (arg7 : Memref sig .tc .vmem S8x26 .f32) (harg7 : arg7.IsWhole)
  (arg8 : Memref sig .tc .vmem S8x26 .f32) (harg8 : arg8.IsWhole)
  (arg9 : Memref sig .tc .vmem S8x26 .f32) (harg9 : arg9.IsWhole)

set_option maxHeartbeats 40000000 in
/-- The body runs; it hands back its inputs, the head with every tile home, and the ring at rest. -/
theorem body (fx : Buf (Elt F) (arg1.view.loc (c : Thread nD τ))) (fs : Buf (Elt F) (arg2.view.loc (c : Thread nD τ)))
    (fp : Buf (Elt F) (arg3.view.loc (c : Thread nD τ))) (ft : Buf (Elt F) (arg4.view.loc (c : Thread nD τ)))
    (fw : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fz : Buf (Elt F) (zM.view.loc (c : Thread nD τ))) (fd : Buf (Elt F) (dM.view.loc (c : Thread nD τ)))
    (hT : ∀ j, (arg4.view.read (Elt F) ft j).toNat < 32000) :
    iprop(hd c arg1 fx ∗ hd c arg2 fs ∗ hd c arg3 fp ∗ hd c arg4 ft ∗ hd c arg5 fw ∗ hd c arg6 f6 ∗ hd c arg7 f7 ∗ hd c arg8 f8 ∗ hd c arg9 f9
        ∗ hd c zM fz ∗ hd c dM fd ∗ idles c ∗ groupP c XA 0 ∗ homes c XA 0 ∗ ∃ W, owes (c : Thread nD τ) 0 W)
      ⊢ wp frame (wpE (defs₀ (F := F)) 𝒱₀ (c : Thread nD τ) none) Set.univ
          (bodyG arg1 harg1 arg2 harg2 arg3 harg3 arg4 harg4 arg5 harg5 arg6 harg6 arg7 harg7 arg8 harg8 arg9 harg9)
          (fun _ => iprop(hd c arg1 fx ∗ hd c arg2 fs ∗ hd c arg3 fp ∗ hd c arg4 ft ∗ hd c arg5 fw
            ∗ (∃ f, hd c arg6 f) ∗ (∃ f, hd c arg7 f) ∗ (∃ f, hd c arg8 f) ∗ (∃ f, hd c arg9 f)
            ∗ (∃ f, hd c zM f) ∗ (∃ f, hd c dM f) ∗ ringAt c XA 25 ∗ homes c XA 25 ∗ ∃ W, owes (c : Thread nD τ) 0 W)) := by
  have hcut := fun a b d e g h i j k l m => part10 c XA arg1 harg1 arg2 harg2 arg3 harg3 arg4 harg4 arg5 harg5 arg6 harg6 arg7 harg7 arg8 harg8 arg9 harg9 a b ft d e g h i j k l m hT
  dsimp only [part10G] at hcut
  iintro ⟨H1, H2, H3, H4, H5, H6, H7, H8, H9, Hz, Hd, ⟨⟨S0, C0⟩, ⟨S1, C1⟩, ⟨S2, C2⟩, ⟨S3, C3⟩, ⟨S4, C4⟩⟩, ⟨G0, G1, G2, G3, G4⟩, Hrest, HW⟩
  icases S0 with ⟨%s0, S0⟩
  icases S1 with ⟨%s1, S1⟩
  icases S2 with ⟨%s2, S2⟩
  icases S3 with ⟨%s3, S3⟩
  icases S4 with ⟨%s4, S4⟩
  icases HW with ⟨%W, HW⟩
  dsimp only [bodyG]
  sl_unfold [cc0_medusa_accept]
  sl_exec (disch := exact row_inb (by decide) (hT _))
  sl_step
  isplitl [Hk0_part10_4]; · iexact Hk0_part10_4
  isplitl [Hk0_part10_5]; · iexact Hk0_part10_5
  isplitl [H3]; · iexact H3
  isplitl [Hk0_part10_6]; · iexact Hk0_part10_6
  isplitl [Hk0_part10_7]; · iexact Hk0_part10_7
  isplitl [H6]; · iexists _; iexact H6
  isplitl [H7]; · iexists _; iexact H7
  isplitl [H8]; · iexists _; iexact H8
  isplitl [H9]; · iexists _; iexact H9
  isplitl [Hk0_part10_8]; · iexists _; iexact Hk0_part10_8
  isplitl [Hk0_part10_9]; · iexists _; iexact Hk0_part10_9
  isplitl [Hk0_part10_11]; · iexact Hk0_part10_11
  isplitl [Hk0_part10_10]; · iexact Hk0_part10_10
  iexists _; iexact Hk0_part10_12

end Cert.Proof.Kernel

end
-- ==== Proof.K.Split.lean ====
/-
  The head held whole is held tile by tile, in 25 groups of five, and the buffer held whole is held slot by slot.
-/
module

public import proofs.«01_k».proof.Proof.K.Ring

@[expose] public section

noncomputable section
namespace Cert.Proof.Kernel
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)

/-- The elements of tile `b`. -/
abbrev tileSet (b : Fin 125) : Finset S32000x8192.Idx :=
  (Rect.unit (s := S32000x8192) (tileOff b) S256x8192.size (tileOff_inb b)).set
/-- The elements of slot `s`. -/
abbrev slotSet (s : Fin 5) : Finset S5x256x8192.Idx :=
  (Rect.unit (s := S5x256x8192) (slotOff s) S1x256x8192.size (slotOff_inb s)).set

theorem tile_set (b : Fin 125) : (tile b).view.set = tileSet b := View.set_slice_whole _ _
theorem slot_set (s : Fin 5) : (slot s).view.set = slotSet s := (View.set_reshape _ _).trans (View.set_slice_whole _ _)

theorem tiles_disjoint (b b' : Fin 125) (h : b ≠ b') : Disjoint (tileSet b) (tileSet b') :=
  Ring.lead_disjoint (s := S32000x8192) (NB := 125) 0 256 tileOff S256x8192.size tileOff_inb (fun b => Nat.mul_comm _ _) rfl b b' h
theorem tiles_cover : Finset.univ.biUnion tileSet = Finset.univ :=
  Ring.lead_cover (s := S32000x8192) (NB := 125) 0 256 tileOff S256x8192.size tileOff_inb (fun b => Nat.mul_comm _ _)
    (by intro b a ha; fin_cases a; · exact absurd rfl ha
        · rfl) rfl
    (by intro a ha; fin_cases a; · exact absurd rfl ha
        · rfl) rfl
theorem slots_disjoint (s s' : Fin 5) (h : s ≠ s') : Disjoint (slotSet s) (slotSet s') :=
  Ring.lead_disjoint (s := S5x256x8192) (NB := 5) 0 1 slotOff S1x256x8192.size slotOff_inb (fun b => (Nat.one_mul _).symm) rfl s s' h
theorem slots_cover : Finset.univ.biUnion slotSet = Finset.univ :=
  Ring.lead_cover (s := S5x256x8192) (NB := 5) 0 1 slotOff S1x256x8192.size slotOff_inb (fun b => (Nat.one_mul _).symm)
    (by intro b a ha; fin_cases a; · exact absurd rfl ha
        · rfl
        · rfl) rfl
    (by intro a ha; fin_cases a; · exact absurd rfl ha
        · rfl
        · rfl) rfl

theorem tl_inj (p p' : Fin 25 × Fin 5) (h : p ≠ p') : tl p.1.val p.2 ≠ tl p'.1.val p'.2 := by
  intro e
  have e1 := congrArg Fin.val e
  rw [tl_val p.1.isLt, tl_val p'.1.isLt] at e1
  have := p.2.isLt; have := p'.2.isLt
  exact h (Prod.ext (Fin.ext (by omega)) (Fin.ext (by omega)))
theorem tl_surj (b : Fin 125) : ∃ p : Fin 25 × Fin 5, tl p.1.val p.2 = b := by
  have hb := b.isLt
  refine ⟨(⟨b.val / 5, by omega⟩, ⟨b.val % 5, by omega⟩), Fin.ext ?_⟩
  rw [tl_val (by show b.val / 5 < 25; omega)]
  show 5 * (b.val / 5) + b.val % 5 = b.val; omega
theorem groups_cover : Finset.univ.biUnion (fun p : Fin 25 × Fin 5 => tileSet (tl p.1.val p.2)) = Finset.univ := by
  refine Finset.eq_univ_of_forall fun i => ?_
  have hi : i ∈ Finset.univ.biUnion tileSet := by rw [tiles_cover]; exact Finset.mem_univ _
  obtain ⟨b, -, hb⟩ := Finset.mem_biUnion.mp hi
  obtain ⟨p, hp⟩ := tl_surj b
  exact Finset.mem_biUnion.mpr ⟨p, Finset.mem_univ _, by rw [hp]; exact hb⟩

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

variable (XA : Buf (Elt F) (headM.view.loc (c : Thread nD τ)))

theorem homeP_eq (b : Fin 125) : (homeP c XA b : sProp 𝕄) = (headM.view.loc (c : Thread nD τ) ↦[tileSet b]{fullShare} XA) := by
  unfold homeP; rw [tile_set]; rfl

/-- The head held whole: all 25 groups of tiles home. -/
theorem head_groups : (headM.view.loc (c : Thread nD τ) ↦{fullShare} XA : sProp 𝕄) = bigSep Finset.univ (fun g : Fin 25 => groupP c XA g.val) := by
  refine (Ring.pointsTo_blocks (ℓ := headM.view.loc (c : Thread nD τ)) (B := Fin 25 × Fin 5) (fun p => tileSet (tl p.1.val p.2))
    (fun p p' h => tiles_disjoint _ _ (tl_inj p p' h)) groups_cover XA).trans ?_
  rw [bigSep_univ_prod]
  refine bigSep_congr fun g _ => ?_
  rw [bigSep_five, groupP]
  simp only [homeP_eq]

theorem head_split : (headM.view.loc (c : Thread nD τ) ↦{fullShare} XA : sProp 𝕄) = iprop(groupP c XA 0 ∗ homes c XA 0) := by
  rw [head_groups, homes, show (Finset.univ : Finset (Fin 25)) = insert 0 (Ring.homeSet (NB := 25) 1 0) by decide,
    bigSep_insert (by decide)]
  rfl

theorem head_join : homes c XA 25 = (headM.view.loc (c : Thread nD τ) ↦{fullShare} XA : sProp 𝕄) := by
  rw [head_groups, homes, Ring.homeSet_last 1 25 (by decide)]

theorem slotP_eq (s : Fin 5) (f : Buf (Elt F) (bufM.view.loc (c : Thread nD τ))) :
    (slotP c s f : sProp 𝕄) = (bufM.view.loc (c : Thread nD τ) ↦[slotSet s]{fullShare} f) := by
  unfold slotP; rw [slot_set]; rfl

/-- The buffer held whole: its five slots. -/
theorem buf_split (f : Buf (Elt F) (bufM.view.loc (c : Thread nD τ))) :
    (bufM.view.loc (c : Thread nD τ) ↦{fullShare} f : sProp 𝕄)
      = iprop(slotP c 0 f ∗ slotP c 1 f ∗ slotP c 2 f ∗ slotP c 3 f ∗ slotP c 4 f) := by
  refine (Ring.pointsTo_blocks (ℓ := bufM.view.loc (c : Thread nD τ)) slotSet slots_disjoint slots_cover f).trans ?_
  rw [bigSep_five]
  simp only [slotP_eq]

theorem slot_any (s : Fin 5) : (iprop(∃ f, slotP c s f) : sProp 𝕄) ⊢ iprop(∃ f, bufM.view.loc (c : Thread nD τ) ↦[slotSet s]{fullShare} f) := by
  iintro ⟨%f, H⟩
  iexists f
  iapply (entails_of_eq (slotP_eq c s f))
  iexact H

/-- The five slots at anything: the buffer whole at something. -/
theorem buf_join (f₀ : Buf (Elt F) (bufM.view.loc (c : Thread nD τ))) :
    iprop((∃ f, slotP c 0 f) ∗ (∃ f, slotP c 1 f) ∗ (∃ f, slotP c 2 f) ∗ (∃ f, slotP c 3 f) ∗ (∃ f, slotP c 4 f))
      ⊢ (iprop(∃ g, bufM.view.loc (c : Thread nD τ) ↦{fullShare} g) : sProp 𝕄) := by
  refine BIBase.Entails.trans ?_ (Ring.pointsTo_blocks_join_exists (ℓ := bufM.view.loc (c : Thread nD τ)) slotSet slots_disjoint slots_cover f₀)
  rw [bigSep_five]
  exact BIClass.sep_mono (slot_any c 0) (BIClass.sep_mono (slot_any c 1) (BIClass.sep_mono (slot_any c 2) (BIClass.sep_mono (slot_any c 3) (slot_any c 4))))

end Cert.Proof.Kernel

end
-- ==== Proof.K.Launch.lean ====
/-
  The launch: the pipeline stages the activations, their scales, the parents, the tokens and the head's scales into the
  kernel's blocks and writes the four results back; the head itself stays where it is and the kernel's own transfers
  read it tile by tile. Every run ends with the arguments as they were and every semaphore at zero.
-/
module

public import proofs.«01_k».proof.Proof.K.Body
public import proofs.«01_k».proof.Proof.K.Split
public import proofs.«01_k».proof.Proof.Gen.Kernel.Frame
public import Idealize.ShloMosaic.Lib.Pipeline.FrameBody

@[expose] public section

set_option maxRecDepth 16384

noncomputable section
namespace Cert.Proof.Kernel
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The kernel's own semaphores: one for each slot. -/
abbrev osem0 : Fin 5 → SemLoc sig := fun s => .dma (cell s).sem
theorem ownSemFacts0 : Pipeline.OwnSemFacts spec0 osem0 := by decide

/-- The head is the one array the kernel reads itself. -/
abbrev H0 : Finset (Ref sig .tc) := {main_v1}
theorem H0_sub : H0 ⊆ Pipeline.restRefs sig spec0 := by
  intro b hb
  rw [Finset.mem_singleton] at hb
  subst hb
  exact Pipeline.mem_restRefs_of main_v1 (by decide) (by decide)

/-- The head as the region finds it. -/
abbrev XH (c : Dev nD) : Buf (Elt F) (headM.view.loc (c : Thread nD τ)) := V m c main_v1

theorem ownSems0_five (c : Dev nD) : (Pipeline.ownSems0 (Ix := Unit) (Name := ℕ) (U := UU nD τ) (Lvl := ℕ) (Val := Elt F) (τ := τ) osem0 c : sProp 𝕄)
    = iprop(cellP c 0 ∗ cellP c 1 ∗ cellP c 2 ∗ cellP c 3 ∗ cellP c 4) := by
  unfold Pipeline.ownSems0; rw [bigSep_five]

theorem PhiD0_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ (∃ r, prngReg c r) ∗ (cellP c 0 ∗ cellP c 1 ∗ cellP c 2 ∗ cellP c 3 ∗ cellP c 4)
      ∗ (headM.view.loc (c : Thread nD τ) ↦{fullShare} XH m c)) := by
  rw [Pipeline.ΦD_eq, scopedRest0_eq, ownSems0_five, BI.bigSep_singleton]

theorem hd_whole (c : Dev nD) (b : Ref sig .tc) (f : Buf (Elt F) ((c : Thread nD τ).loc b)) :
    (hd c (Memref.whole b) f : sProp 𝕄) = (((c : Thread nD τ).loc b) ↦{fullShare} f) :=
  congrArg (fun S => (_ ↦[S]{fullShare} f : sProp 𝕄)) (View.set_whole _)

/-- The four results. -/
def forgets0 : Fin 9 → Bool := fun w => decide (5 ≤ w.val)

/-- What the run holds: the inputs' blocks stay; of the results nothing is said. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl

/-- Every token names a row of the head. -/
def PreOK : Prop := ∀ (c : Dev nD) (j), (m ((c : Thread nD τ).loc main_arg3) j).toNat < 32000

theorem tok_lt (h : PreOK m) (c : Dev nD) (t : Fin cfg0.N) (j) : (iblk m c 3 t j : BitVec 32).toNat < 32000 := by
  have e : V m c (Pipeline.arrRef spec0 3) = m ((c : Thread nD τ).loc main_arg3) := V_main_arg3 m c
  unfold iblk
  rw [e, View.read_apply]
  exact h c _

/-- The body at the one point: what it is called with, what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d) ∗ (∃ d, owns (c : Thread nD τ) (st0_6 t) fullShare d)
    ∗ (∃ d, owns (c : Thread nD τ) (st0_7 t) fullShare d) ∗ (∃ d, owns (c : Thread nD τ) (st0_8 t) fullShare d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t)
    ∗ (∃ d, owns (c : Thread nD τ) (st0_5 t) fullShare d) ∗ (∃ d, owns (c : Thread nD τ) (st0_6 t) fullShare d)
    ∗ (∃ d, owns (c : Thread nD τ) (st0_7 t) fullShare d) ∗ (∃ d, owns (c : Thread nD τ) (st0_8 t) fullShare d))

theorem bodyAt_eq (t : Fin cfg0.N) : bodyAt0 (F := F) t = bodyG (st0_0 t) (hstage0_0 0) (st0_1 t) (hstage0_1 0) (st0_2 t) (hstage0_2 0)
    (st0_3 t) (hstage0_3 0) (st0_4 t) (hstage0_4 0) (st0_5 t) (hstage0_5 0) (st0_6 t) (hstage0_6 0) (st0_7 t) (hstage0_7 0) (st0_8 t) (hstage0_8 0) := rfl

set_option maxHeartbeats 8000000 in
theorem sound_body (h : PreOK m) (c : Dev nD) (t : Fin cfg0.N) :
    bodyPre m c t ⊢ wp frame (wpE (defs₀ (F := F)) 𝒱₀ c none) Set.univ (bodyAt0 t) (fun _ => bodyPost m c t) := by
  rw [bodyAt_eq]
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  simp only [before_w0, before_w1, before_w2, before_w3, before_w4]
  unfold Dat.owesAt Pipeline.owesWithin
  rw [show (dats m 0 c).owed t.castSucc = 0 from rfl]
  unfold owns
  iintro ⟨⟨⟨⟨%fb, Hb⟩, ⟨%fz, Hz⟩, ⟨%fd, Hd⟩⟩, Hg, ⟨C0, C1, C2, C3, C4⟩, Hh⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩, ⟨%d6, %g6, -, H6⟩, ⟨%d7, %g7, -, H7⟩, ⟨%d8, %g8, -, H8⟩⟩
  ihave Hb := (entails_of_eq (buf_split c fb)) $$ Hb
  icases Hb with ⟨S0, S1, S2, S3, S4⟩
  ihave Hh := (entails_of_eq (head_split c (XH m c))) $$ Hh
  icases Hh with ⟨Hgr, Hho⟩
  ihave Hz := (entails_of_eq (hd_whole c cc0_scratch1 fz).symm) $$ Hz
  ihave Hd := (entails_of_eq (hd_whole c cc0_scratch2 fd).symm) $$ Hd
  iapply (wp_wand_r frame (wpE (defs₀ (F := F)) 𝒱₀ (c : Thread nD τ) none) Set.univ)
  isplitr [Hg]
  · iapply (body c (XH m c) (st0_0 t) (hstage0_0 0) (st0_1 t) (hstage0_1 0) (st0_2 t) (hstage0_2 0)
      (st0_3 t) (hstage0_3 0) (st0_4 t) (hstage0_4 0) (st0_5 t) (hstage0_5 0) (st0_6 t) (hstage0_6 0) (st0_7 t) (hstage0_7 0) (st0_8 t) (hstage0_8 0)
      g0 g1 g2 g3 g4 g5 g6 g7 g8 fz fd (by rw [h3]; exact tok_lt m h c t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hz]; · iexact Hz
    isplitl [Hd]; · iexact Hd
    isplitl [S0 S1 S2 S3 S4 C0 C1 C2 C3 C4]
    · isplitl [S0 C0]
      · isplitl [S0]; · iexists fb; iexact S0
        iexact C0
      isplitl [S1 C1]
      · isplitl [S1]; · iexists fb; iexact S1
        iexact C1
      isplitl [S2 C2]
      · isplitl [S2]; · iexists fb; iexact S2
        iexact C2
      isplitl [S3 C3]
      · isplitl [S3]; · iexists fb; iexact S3
        iexact C3
      isplitl [S4]; · iexists fb; iexact S4
      iexact C4
    isplitl [Hgr]; · iexact Hgr
    isplitl [Hho]; · iexact Hho
    iexists W; iexact HO
  · iintro %_ ⟨H0, H1, H2, H3, H4, ⟨%o5, H5⟩, ⟨%o6, H6⟩, ⟨%o7, H7⟩, ⟨%o8, H8⟩, ⟨%oz, Hz⟩, ⟨%od, Hd⟩, Hr, Hho, ⟨%W', HO⟩⟩
    ihave Hr := (entails_of_eq (ringAt_last c (XH m c))) $$ Hr
    icases Hr with ⟨⟨S0, C0⟩, ⟨S1, C1⟩, ⟨S2, C2⟩, ⟨S3, C3⟩, ⟨S4, C4⟩⟩
    ihave Hh := (entails_of_eq (head_join c (XH m c))) $$ Hho
    ihave Hz := (entails_of_eq (hd_whole c cc0_scratch1 oz)) $$ Hz
    ihave Hd := (entails_of_eq (hd_whole c cc0_scratch2 od)) $$ Hd
    isplitl [S0 S1 S2 S3 S4 Hz Hd Hg C0 C1 C2 C3 C4 Hh]
    · isplitl [S0 S1 S2 S3 S4 Hz Hd]
      · isplitl [S0 S1 S2 S3 S4]
        · iapply (buf_join c fb)
          isplitl [S0]; · iexact S0
          isplitl [S1]; · iexact S1
          isplitl [S2]; · iexact S2
          isplitl [S3]; · iexact S3
          iexact S4
        isplitl [Hz]; · iexists oz; iexact Hz
        iexists od; iexact Hd
      isplitl [Hg]; · iexact Hg
      isplitl [C0 C1 C2 C3 C4]
      · isplitl [C0]; · iexact C0
        isplitl [C1]; · iexact C1
        isplitl [C2]; · iexact C2
        isplitl [C3]; · iexact C3
        iexact C4
      iexact Hh
    isplitl [HO]
    · iexists W'; isplitr; · ipureintro; exact fun _ _ => Or.inl trivial
      iexact HO
    isplitl [H0]; · iexists g0; isplitr; · ipureintro; exact h0
                    iexact H0
    isplitl [H1]; · iexists g1; isplitr; · ipureintro; exact h1
                    iexact H1
    isplitl [H2]; · iexists g2; isplitr; · ipureintro; exact h2
                    iexact H2
    isplitl [H3]; · iexists g3; isplitr; · ipureintro; exact h3
                    iexact H3
    isplitl [H4]; · iexists g4; isplitr; · ipureintro; exact h4
                    iexact H4
    isplitl [H5]; · iexists _, o5; isplitr; · ipureintro; rfl
                    iexact H5
    isplitl [H6]; · iexists _, o6; isplitr; · ipureintro; rfl
                    iexact H6
    isplitl [H7]; · iexists _, o7; isplitr; · ipureintro; rfl
                    iexact H7
    iexists _, o8; isplitr; · ipureintro; rfl
    iexact H8

theorem defs₀_row (t : Fin cfg0.N) : defs₀ (F := F) .tc cfg0.body (cfg0.bodyArgs t (cfg0.slots t)) = bodyAt0 t := by
  unfold defs₀; rw [Defs.onTc_tc]

set_option maxHeartbeats 8000000 in
theorem body_obligation (h : PreOK m) (c : Dev nD) :
    BodyObligation (dats (F := F) m 0 c) (defs₀ (F := F)) 𝒱₀ () Set.univ forgets0 := fun t => by
  rw [bigSep_W0, bigSep_W0, defs₀_row]
  exact triple_restated (sound_body m h c t) rfl .rfl fun _ => .rfl

set_option maxHeartbeats 800000 in
/-- The host operations and then the kernel. -/
theorem hmainD : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option backward.isDefEq.respectTransparency.types false in
set_option maxHeartbeats 8000000 in
theorem run_main (h : PreOK m) :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ 𝒱₀ forgets0 ownSemFacts0 H0 H0_sub m ρ main
    (hbody := fun c => (body_obligation m h c).loose) (hshare := fun c => (dats m 0 c).share_full fun _ => rfl)
    (howed := fun _ _ => rfl) (V := V m) (hmain := hmainD m) (hA := A_eq m)
    (hin := fun _ => .rfl) (hout := fun _ => .rfl)

/-- Every run ends with the arguments as they were and every semaphore at zero. -/
theorem frame_run (h : PreOK m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hh => ⟨fun c => ⟨((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      (((dats m 0 c).toRForget_arrAt_iff (fgt := forgets0) (w := 3) rfl _ _).mp ((hh.1 c).1 3)).trans (((dats m 0 c).arrAt_in 3 rfl _).trans (V_main_arg3 m c)),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩, hh.2⟩) (run_main m ρ h)

end Cert.Proof.Kernel

end
-- ==== Proof.Pre.lean ====
/-
  What the precondition says of the tokens: every one names a row of the head.
-/
module

public import proofs.«01_k».proof.Proof.K.Launch
public import proofs.«01_k».proof.Defs
public import proofs.«01_k».proof.Proof.Gen.Pre_valid
public import Idealize.ShloMosaic.Lib.ReduceAll

@[expose] public section

noncomputable section
namespace Cert.Proof
open Idealize.ShloMosaic Idealize.SL.Sem

theorem word_lt (x n : BitVec 32) (hn : n.toInt = n.toNat) (h : IntOp.andi (IntOp.cmpi .sge x 0#32) (IntOp.cmpi .slt x n) = 1#1) : x.toNat < n.toNat := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at h
  have h0 : (0#32 : BitVec 32).toInt = 0 := by decide
  rw [h0, hn] at h
  have hx : x.toInt = _ := BitVec.toInt_eq_toNat_cond x
  have hl := x.isLt
  split at hx <;> omega

instance : Subsingleton Cert.Pre_valid.S_.Idx := ⟨fun a b => funext fun i => i.elim0⟩

/-- Every token is below the number of rows of the head. -/
theorem tok_of_valid {F : FTy → Type} [FloatOps F] (a0 a1 a2 a3 a4 a5)
    (h : (Cert.Pre_valid.fn (F := F) a0 a1 a2 a3 a4 a5).1 = fun _ => 1#1) (j) : (a3 j).toNat < 32000 := by
  have e := congrFun h (Shape.Idx.first Cert.Pre_valid.Facts.h_S_)
  dsimp only [Cert.Pre_valid.fn, Cert.Pre_valid.fn_part1] at e
  exact word_lt _ 32000#32 (by decide) (Host.reduce_andi_all _ _ _ _ _ e j)

end Cert.Proof

end
-- ==== Proof.Ext.lean ====
/-
  Real values inside the extended reals: sums, maxima, powers, quotients and literals that stay real.
-/
module

public import Idealize.ShloMosaic.PureOps
public import Idealize.ShloMosaic.PureOps.Ideal.Laws

@[expose] public section

namespace Cert.Proof.Ext
open Idealize.ShloMosaic
open scoped BigOperators

variable {ι : Type*}

/-- An extended real that is a real. -/
def IsR (x : EReal) : Prop := ∃ r : ℝ, x = (r : EReal)

theorem sum_coe (A : Finset ι) (f : ι → ℝ) : ∑ i ∈ A, (f i : EReal) = ((∑ i ∈ A, f i : ℝ) : EReal) := by
  classical
  induction A using Finset.induction_on with
  | empty => simp
  | insert a A h ih => rw [Finset.sum_insert h, Finset.sum_insert h, ih, EReal.coe_add]

theorem fold_max_real (A : Finset ι) (h : A.Nonempty) (f : ι → ℝ) : ∃ M : ℝ, A.fold max ⊥ (fun i => (f i : EReal)) = (M : EReal) := by
  obtain ⟨i, _, hi⟩ := Finset.exists_mem_eq_sup A h (fun i => (f i : EReal))
  exact ⟨f i, hi⟩

theorem max_real (a b : ℝ) : ∃ M : ℝ, max (a : EReal) (b : EReal) = (M : EReal) := by
  rcases le_total a b with h | h
  · exact ⟨b, max_eq_right (by exact_mod_cast h)⟩
  · exact ⟨a, max_eq_left (by exact_mod_cast h)⟩

theorem max_bot (x : EReal) : max x ⊥ = x := max_eq_left bot_le

theorem exp2_real (r : ℝ) : Ideal.exp2 (r : EReal) = (((2 : ℝ) ^ r : ℝ) : EReal) := rfl
theorem exp_real (r : ℝ) : Ideal.exp (r : EReal) = ((Real.exp r : ℝ) : EReal) := rfl
theorem log_real (r : ℝ) (h : 0 < r) : Ideal.log (r : EReal) = ((Real.log r : ℝ) : EReal) := by
  show (if r ≤ 0 then ⊥ else _) = _
  rw [if_neg (not_le.mpr h)]
theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem negInf : Ideal.ofBits .f32 0xFF800000#32 = ⊥ := by simp [Ideal.ofBits, Ideal.ieee]
theorem posInf : Ideal.ofBits .f32 0x7F800000#32 = ⊤ := by simp [Ideal.ofBits, Ideal.ieee]
theorem lowest : IsR (Ideal.ofBits .f32 0xFF61B1E6#32) := by
  simp only [Ideal.ofBits, Ideal.ieee]
  rw [if_neg (by decide), if_neg (by decide)]
  exact ⟨_, rfl⟩
theorem temperature : Ideal.ofBits .f32 0x3F333333#32 = ((11744051 / 16777216 : ℝ) : EReal) := by
  simp only [Ideal.ofBits, Ideal.ieee]
  rw [if_neg (by decide), if_neg (by decide)]
  congr 1
  have e1 : (BitVec.extractLsb' 23 8 (0x3F333333#32)).toNat = 126 := by decide
  have e2 : (BitVec.extractLsb' 0 23 (0x3F333333#32)).toNat = 3355443 := by decide
  have e3 : (BitVec.extractLsb' (8 + 23) 1 (0x3F333333#32) == 1#1) = false := by decide
  rw [e1, e2, e3]
  norm_num [zpow_neg]

theorem code_real (b : BitVec 8) (h1 : b ≠ 0x7F#8) (h2 : b ≠ 0xFF#8) : IsR (Ideal.ofBits .fp8e4m3 b) := by
  have key : ∀ b : BitVec 8, b ≠ 0x7F#8 → b ≠ 0xFF#8 → ¬ ((b.extractLsb' 3 4).toNat = 15 ∧ (b.extractLsb' 0 3).toNat = 7) := by decide +kernel
  show IsR (Ideal.e4m3fn b)
  simp only [Ideal.e4m3fn]
  rw [if_neg (key b h1 h2)]
  split
  · exact ⟨_, rfl⟩
  · exact ⟨_, rfl⟩

theorem IsR.mul {x y : EReal} : IsR x → IsR y → IsR (x * y) := by
  rintro ⟨a, rfl⟩ ⟨b, rfl⟩; exact ⟨a * b, (EReal.coe_mul _ _).symm⟩
theorem IsR.sum {A : Finset ι} {f : ι → EReal} (h : ∀ i, IsR (f i)) : IsR (∑ i ∈ A, f i) := by
  choose g hg using h
  simp only [hg]
  exact ⟨_, sum_coe A g⟩
theorem IsR.of_abs {x : EReal} (h : max x (-x) < ⊤) : IsR x := by
  induction x using EReal.rec with
  | bot => simp at h
  | top => simp at h
  | coe r => exact ⟨r, rfl⟩

end Cert.Proof.Ext
-- ==== Proof.PreReal.lean ====
/-
  What the precondition says of the numbers: every code is a finite one and every scale is real.
-/
module

public import proofs.«01_k».proof.Proof.Ext
public import proofs.«01_k».proof.Proof.Gen.Pre_valid
public import Idealize.ShloMosaic.Lib.ReduceAll
public import Idealize.ShloMosaic.Lib.Pointwise

@[expose] public section

noncomputable section
namespace Cert.Proof
open Idealize.ShloMosaic Cert.Proof.Ext

instance one_index : Subsingleton Cert.Pre_valid.S_.Idx := ⟨fun a b => funext fun i => i.elim0⟩

theorem byte_ne (x : BitVec 8) (h : IntOp.andi (IntOp.cmpi .ne x 127#8) (IntOp.cmpi .ne x 255#8) = 1#1) : x ≠ 0x7F#8 ∧ x ≠ 0xFF#8 := by
  have key : ∀ x : BitVec 8, IntOp.andi (IntOp.cmpi .ne x 127#8) (IntOp.cmpi .ne x 255#8) = 1#1 → x ≠ 0x7F#8 ∧ x ≠ 0xFF#8 := by decide +kernel
  exact key x h

theorem codes_of_valid (a0 a1 a2 a3 a4 a5)
    (h : (Cert.Pre_valid.fn (F := Ideal) a0 a1 a2 a3 a4 a5).2.1 = fun _ => 1#1) (j) : IsR (Ideal.ofBits .fp8e4m3 (a0 j)) := by
  have e := congrFun h (Shape.Idx.first Cert.Pre_valid.Facts.h_S_)
  dsimp only [Cert.Pre_valid.fn, Cert.Pre_valid.fn_part1] at e
  have k := byte_ne _ (Host.reduce_andi_all _ _ _ _ _ e j)
  exact code_real _ k.1 k.2
theorem head_of_valid (a0 a1 a2 a3 a4 a5)
    (h : (Cert.Pre_valid.fn (F := Ideal) a0 a1 a2 a3 a4 a5).2.2.1 = fun _ => 1#1) (j) : IsR (Ideal.ofBits .fp8e4m3 (a4 j)) := by
  have e := congrFun h (Shape.Idx.first Cert.Pre_valid.Facts.h_S_)
  dsimp only [Cert.Pre_valid.fn, Cert.Pre_valid.fn_part1] at e
  have k := byte_ne _ (Host.reduce_andi_all _ _ _ _ _ e j)
  exact code_real _ k.1 k.2

theorem real_of_lt (x : EReal) (h : FloatOps.cmpf (F := Ideal) (φ := .f32) .olt (FloatOps.absf (F := Ideal) (φ := .f32) x) (Ideal.ofBits .f32 0x7F800000#32) = 1#1) : IsR x := by
  rw [posInf] at h
  refine IsR.of_abs ?_
  by_contra hn
  have h' : BitVec.ofBool (decide (max x (-x) < ⊤)) = 1#1 := h
  rw [decide_eq_false hn] at h'
  exact absurd h' (by decide)

theorem xs_of_valid (a0 a1 a2 a3 a4 a5)
    (h : (Cert.Pre_valid.fn (F := Ideal) a0 a1 a2 a3 a4 a5).2.2.2.1 = fun _ => 1#1) (j) : IsR (a1 j) := by
  have e := congrFun h (Shape.Idx.first Cert.Pre_valid.Facts.h_S_)
  dsimp only [Cert.Pre_valid.fn, Cert.Pre_valid.fn_part1] at e
  exact real_of_lt _ (Host.reduce_andi_all _ _ _ _ _ e j)
theorem ws_of_valid (a0 a1 a2 a3 a4 a5)
    (h : (Cert.Pre_valid.fn (F := Ideal) a0 a1 a2 a3 a4 a5).2.2.2.2 = fun _ => 1#1) (j) : IsR (a5 j) := by
  have e := congrFun h (Shape.Idx.first Cert.Pre_valid.Facts.h_S_)
  dsimp only [Cert.Pre_valid.fn, Cert.Pre_valid.fn_part1] at e
  exact real_of_lt _ (Host.reduce_andi_all _ _ _ _ _ e j)

end Cert.Proof

end
-- ==== Proof.Reals.lean ====
/-
  The real-number side: one step of a running softmax sum in base 2, its folding, and the entropy of a softmax from
  the folded sums.
-/
module

public import Mathlib.Analysis.SpecialFunctions.Log.Basic
public import Mathlib.Analysis.SpecialFunctions.Pow.Real
public import Mathlib.Algebra.BigOperators.Field

@[expose] public section

namespace Cert.Proof.Reals

open scoped BigOperators

variable {ι : Type*} (A : Finset ι) (f : ι → ℝ)

/-- The sum of the powers of two of what the values exceed `m` by. -/
noncomputable def Sm (m : ℝ) : ℝ := ∑ i ∈ A, (2 : ℝ) ^ (f i - m)
/-- The same sum with each power times its exponent. -/
noncomputable def Tm (m : ℝ) : ℝ := ∑ i ∈ A, (2 : ℝ) ^ (f i - m) * (f i - m)

/-- The first sum, moved from one maximum to another. -/
theorem Sm_move (m m' : ℝ) : Sm A f m * (2 : ℝ) ^ (m - m') = Sm A f m' := by
  unfold Sm
  rw [Finset.sum_mul]
  refine Finset.sum_congr rfl fun i _ => ?_
  rw [← Real.rpow_add (by norm_num)]
  congr 1; ring

/-- The second sum, moved from one maximum to another. -/
theorem Tm_move (m m' : ℝ) : (Tm A f m + Sm A f m * (m - m')) * (2 : ℝ) ^ (m - m') = Tm A f m' := by
  unfold Sm Tm
  rw [Finset.sum_mul, ← Finset.sum_add_distrib, Finset.sum_mul]
  refine Finset.sum_congr rfl fun i _ => ?_
  rw [show (2 : ℝ) ^ (f i - m') = (2 : ℝ) ^ (f i - m) * (2 : ℝ) ^ (m - m') by
    rw [← Real.rpow_add (by norm_num)]; congr 1; ring]
  ring

theorem Sm_pos (h : A.Nonempty) (m : ℝ) : 0 < Sm A f m :=
  Finset.sum_pos (fun i _ => Real.rpow_pos_of_pos (by norm_num) _) h

theorem two_rpow (x c : ℝ) : (2 : ℝ) ^ (x / Real.log 2 - c) = Real.exp (x - c * Real.log 2) := by
  rw [Real.rpow_def_of_pos (by norm_num)]
  congr 1
  have : Real.log 2 ≠ 0 := (Real.log_pos (by norm_num)).ne'
  field_simp

/-- The entropy of the softmax of `g`, from the base-2 sums of `g / log 2` at any `m`, is the one from the
    log-probabilities at any `c`. -/
theorem entropy_eq (h : A.Nonempty) (g : ι → ℝ) (m c : ℝ) :
    Real.log 2 * (Real.log (Sm A (fun i => g i / Real.log 2) m) * (Real.log 2)⁻¹
        - Tm A (fun i => g i / Real.log 2) m / Sm A (fun i => g i / Real.log 2) m)
      = 0 - ∑ i ∈ A, Real.exp (g i - c - Real.log (∑ j ∈ A, Real.exp (g j - c)))
          * (g i - c - Real.log (∑ j ∈ A, Real.exp (g j - c))) := by
  have hl : Real.log 2 ≠ 0 := (Real.log_pos (by norm_num)).ne'
  have hS := Sm_pos A (fun i => g i / Real.log 2) h m
  have e1 : Sm A (fun i => g i / Real.log 2) m = ∑ i ∈ A, Real.exp (g i - m * Real.log 2) :=
    Finset.sum_congr rfl fun i _ => two_rpow _ _
  have e0 : ∑ j ∈ A, Real.exp (g j - c) = Sm A (fun i => g i / Real.log 2) m * Real.exp (m * Real.log 2 - c) := by
    rw [e1, Finset.sum_mul]
    refine Finset.sum_congr rfl fun i _ => ?_
    rw [← Real.exp_add]; congr 1; ring
  have e2 : Tm A (fun i => g i / Real.log 2) m = ∑ i ∈ A, Real.exp (g i - m * Real.log 2) * (g i / Real.log 2 - m) :=
    Finset.sum_congr rfl fun i _ => by rw [two_rpow]
  have e3 : Real.log (∑ j ∈ A, Real.exp (g j - c)) = Real.log (Sm A (fun i => g i / Real.log 2) m) + (m * Real.log 2 - c) := by
    rw [e0, Real.log_mul hS.ne' (Real.exp_pos _).ne', Real.log_exp]
  rw [e3]
  generalize Sm A (fun i => g i / Real.log 2) m = s at *
  have e4 : ∀ i, Real.exp (g i - c - (Real.log s + (m * Real.log 2 - c))) = Real.exp (g i - m * Real.log 2) / s := by
    intro i
    rw [show g i - c - (Real.log s + (m * Real.log 2 - c)) = (g i - m * Real.log 2) - Real.log s by ring, Real.exp_sub, Real.exp_log hS]
  simp only [e4]
  have e5 : ∑ i ∈ A, Real.exp (g i - m * Real.log 2) / s * (g i - c - (Real.log s + (m * Real.log 2 - c)))
      = Real.log 2 * (∑ i ∈ A, Real.exp (g i - m * Real.log 2) * (g i / Real.log 2 - m)) / s
        - Real.log s * ((∑ i ∈ A, Real.exp (g i - m * Real.log 2)) / s) := by
    rw [Finset.mul_sum, Finset.sum_div, Finset.sum_div, Finset.mul_sum, ← Finset.sum_sub_distrib]
    refine Finset.sum_congr rfl fun i _ => ?_
    field_simp
    ring
  rw [e5, e2, ← e1, div_self hS.ne']
  field_simp
  ring

/-- The logit over the temperature, of real factors. -/
noncomputable def logitR {K V : Type*} [Fintype K] (X : K → ℝ) (W : V → K → ℝ) (s : ℝ) (ω : V → ℝ) (v : V) : ℝ :=
  (∑ d, X d * W v d) * s * ω v / (11744051 / 16777216)
/-- The entropy of the softmax of real logits, the logits moved by `M` first. -/
noncomputable def entR {V : Type*} [Fintype V] (g : V → ℝ) (M : ℝ) : ℝ :=
  0 - ∑ v, Real.exp (g v - M - Real.log (∑ u, Real.exp (g u - M))) * (g v - M - Real.log (∑ u, Real.exp (g u - M)))

end Cert.Proof.Reals
-- ==== Proof.RefValue.lean ====
/-
  The reference at one element: the entropy of the softmax of real logits.
-/
module

public import proofs.«01_k».proof.Proof.Gen.ReferenceIdeal.Value
public import proofs.«01_k».proof.Proof.Reals
public import proofs.«01_k».proof.Proof.Ext
public import Idealize.ShloMosaic.Lib.Claim
public import Idealize.ShloMosaic.Lib.StableHlo.ReadAt
public import Idealize.ShloMosaic.Lib.Pointwise

@[expose] public section

set_option maxRecDepth 16384

noncomputable section
namespace Cert.Proof.ReferenceIdeal
open Cert.ReferenceIdeal Cert.ReferenceIdeal.Gen
open Idealize.ShloMosaic
open Idealize.ShloMosaic.TcCoe
open Idealize.ShloMosaic.Pipeline (Dat)
open Cert.Proof.Ext Cert.Proof.Reals
open scoped BigOperators

/-- The logit over the temperature, before anything is known of it. -/
def zRef (x : Vec Ideal S208x8192 .fp8e4m3) (w : Vec Ideal S32000x8192 .fp8e4m3) (xs : Vec Ideal S8x26 .f32) (ws : Vec Ideal S32000 .f32)
    (b : Fin 8) (j : Fin 26) (v : Fin 32000) : EReal :=
  Ideal.div ((∑ d : Fin 8192, (x (ix2 (⟨b.val * 26 + j.val, by omega⟩ : Fin 208) d) : EReal) * w (ix2 v d)) * xs (ix2 b j) * ws (ix1 v))
    ((11744051 / 16777216 : ℝ) : EReal)

def scaleV (p : FVec Ideal S208x32000 .f32) (v6 : Vec Ideal S8x26 .f32) (v10 : Vec Ideal S32000 .f32) : FVec Ideal S8x26x32000 .f32 :=
  divf (mulf (mulf (shapeCast S8x26x32000 p shapeCasts_S208x32000_S8x26x32000)
      (broadcastTo S8x26x32000 (shapeCast S8x26x1 v6 shapeCasts_S8x26_S8x26x1) broadcasts_S8x26x1_S8x26x32000))
      (broadcastTo S8x26x32000 (shapeCast S1x1x32000 v10 shapeCasts_S32000_S1x1x32000) broadcasts_S1x1x32000_S8x26x32000))
    (broadcast S8x26x32000 (Scalar.ofBits .f32 0x3F333333#32))
def prodV (v0 : Vec Ideal S208x8192 .fp8e4m3) (v2 : Vec Ideal S32000x8192 .fp8e4m3) : FVec Ideal S208x32000 .f32 :=
  matmul (φ₁ := .fp8e4m3) (φ₂ := .fp8e4m3) dot_S208x8192_S32000x8192_S208x32000_1_1_0_0_n_n none (shapeCast S208x8192 v0 shapeCasts_S208x8192_S208x8192) (shapeCast S32000x8192 v2 shapeCasts_S32000x8192_S32000x8192) (constant S208x32000 .f32 0x00000000#32)
def topV (z : FVec Ideal S8x26x32000 .f32) : FVec Ideal S8x26 .f32 :=
  multiReduction .maximumf [2] S8x26 z 0xFF800000#32 reduces_S8x26x32000_S8x26 (.inl rfl) rfl
def belowV (z : FVec Ideal S8x26x32000 .f32) (t : FVec Ideal S8x26 .f32) : FVec Ideal S8x26x32000 .f32 :=
  subf z (broadcastTo S8x26x32000 (shapeCast S8x26x1 (maximumf (broadcast S8x26 (Scalar.ofBits .f32 0xFF800000#32)) t) shapeCasts_S8x26_S8x26x1) broadcasts_S8x26x1_S8x26x32000)
def subV (z : FVec Ideal S8x26x32000 .f32) : FVec Ideal S8x26x32000 .f32 :=
  belowV z (topV z)
def logpV (s : FVec Ideal S8x26x32000 .f32) : FVec Ideal S8x26x32000 .f32 :=
  subf s (broadcastTo S8x26x32000 (log (shapeCast S8x26x1 (multiReduction .add [2] S8x26 (exp s) 0x00000000#32 reduces_S8x26x32000_S8x26 (.inl rfl) rfl) shapeCasts_S8x26_S8x26x1)) broadcasts_S8x26x1_S8x26x32000)
def outV (p : FVec Ideal S8x26x32000 .f32) : FVec Ideal S8x26 .f32 :=
  subf (broadcast S8x26 (Scalar.ofBits .f32 0x00000000#32)) (multiReduction .add [2] S8x26 (mulf (exp p) p) 0x00000000#32 reduces_S8x26x32000_S8x26 (.inl rfl) rfl)

theorem pay1_eq (x w xs ws) : k0_pay1 (F := Ideal) x w xs ws = outV (logpV (subV (scaleV (prodV x w) xs ws))) := by
  unfold k0_pay1 outV logpV subV belowV topV scaleV prodV
  rfl

theorem scaleV_at (p : FVec Ideal S208x32000 .f32) (xs ws) (b : Fin 8) (j : Fin 26) (v : Fin 32000) :
    scaleV p xs ws (ix3 b j v) = Ideal.div (p (ix2 (⟨b.val * 26 + j.val, by omega⟩ : Fin 208) v) * xs (ix2 b j) * ws (ix1 v)) ((11744051 / 16777216 : ℝ) : EReal) := by
  pointwise [scaleV, temperature]
theorem prodV_at (x w) (r : Fin 208) (v : Fin 32000) : prodV x w (ix2 r v) = ∑ d : Fin 8192, (x (ix2 r d) : EReal) * w (ix2 v d) := by
  pointwise [prodV]
theorem z_at (x w xs ws) (b : Fin 8) (j : Fin 26) (v : Fin 32000) : scaleV (prodV x w) xs ws (ix3 b j v) = zRef x w xs ws b j v := by
  rw [scaleV_at, prodV_at, zRef]
theorem topV_at (z : FVec Ideal S8x26x32000 .f32) (b : Fin 8) (j : Fin 26) :
    topV z (ix2 b j) = Finset.univ.fold max ⊥ fun u => z (ix3 b j u) := by
  pointwise [topV, negInf]
theorem belowV_at (z : FVec Ideal S8x26x32000 .f32) (t : FVec Ideal S8x26 .f32) (b : Fin 8) (j : Fin 26) (v : Fin 32000) :
    belowV z t (ix3 b j v) = z (ix3 b j v) - max ⊥ (t (ix2 b j)) := by
  pointwise [belowV, negInf]
theorem subV_at (z : FVec Ideal S8x26x32000 .f32) (b : Fin 8) (j : Fin 26) (v : Fin 32000) :
    subV z (ix3 b j v) = z (ix3 b j v) - max ⊥ (Finset.univ.fold max ⊥ fun u => z (ix3 b j u)) := by
  rw [subV, belowV_at, topV_at]
theorem logpV_at (s : FVec Ideal S8x26x32000 .f32) (b : Fin 8) (j : Fin 26) (v : Fin 32000) :
    logpV s (ix3 b j v) = s (ix3 b j v) - Ideal.log (∑ u, Ideal.exp (s (ix3 b j u))) := by
  pointwise [logpV]
theorem outV_at (p : FVec Ideal S8x26x32000 .f32) (b : Fin 8) (j : Fin 26) :
    outV p (ix2 b j) = 0 - ∑ u, Ideal.exp (p (ix3 b j u)) * p (ix3 b j u) := by
  pointwise [outV]

theorem pay1_at (x : Vec Ideal S208x8192 .fp8e4m3) (w : Vec Ideal S32000x8192 .fp8e4m3) (xs : Vec Ideal S8x26 .f32) (ws : Vec Ideal S32000 .f32)
    (b : Fin 8) (j : Fin 26) (g : Fin 32000 → ℝ) (hg : ∀ v, zRef x w xs ws b j v = ((g v : ℝ) : EReal)) :
    ∃ M : ℝ, k0_pay1 x w xs ws (ix2 b j) = ((0 - ∑ v, Real.exp (g v - M - Real.log (∑ u, Real.exp (g u - M)))
      * (g v - M - Real.log (∑ u, Real.exp (g u - M))) : ℝ) : EReal) := by
  obtain ⟨M, hM⟩ := fold_max_real Finset.univ ⟨0, Finset.mem_univ _⟩ g
  refine ⟨M, ?_⟩
  have hS : 0 < ∑ u, Real.exp (g u - M) := Finset.sum_pos (fun _ _ => Real.exp_pos _) ⟨0, Finset.mem_univ _⟩
  have e1 : ∀ v, subV (scaleV (prodV x w) xs ws) (ix3 b j v) = ((g v - M : ℝ) : EReal) := fun v => by
    rw [subV_at]
    simp only [z_at, hg]
    rw [hM, max_comm, max_bot, ← EReal.coe_sub]
  have e2 : ∀ v, logpV (subV (scaleV (prodV x w) xs ws)) (ix3 b j v) = ((g v - M - Real.log (∑ u, Real.exp (g u - M)) : ℝ) : EReal) := fun v => by
    rw [logpV_at]
    simp only [e1, exp_real]
    rw [sum_coe, log_real _ hS, ← EReal.coe_sub]
  rw [pay1_eq, outV_at]
  simp only [e2, exp_real, ← EReal.coe_mul]
  rw [sum_coe, ← EReal.coe_zero, ← EReal.coe_sub]

end Cert.Proof.ReferenceIdeal
end
-- ==== Proof.RefRead.lean ====
/-
  What the reference reads, element by element.
-/
module

public import proofs.«01_k».proof.Proof.Gen.ReferenceIdeal.Value
public import proofs.«01_k».proof.Proof.Reals
public import proofs.«01_k».proof.Proof.RefValue
public import Idealize.ShloMosaic.Lib.Claim
public import Idealize.ShloMosaic.Lib.StableHlo.ReadAt
public import Idealize.ShloMosaic.Lib.Pointwise

@[expose] public section

set_option maxRecDepth 16384

noncomputable section
namespace Cert.Proof.ReferenceIdeal
open Cert.ReferenceIdeal Cert.ReferenceIdeal.Gen
open Idealize.ShloMosaic
open Idealize.ShloMosaic.TcCoe
open Idealize.ShloMosaic.Pipeline (Dat)
open Cert.Proof.Ext Cert.Proof.Reals
open scoped BigOperators

/-! ## What the reference reads -/

variable (m : (ℓ : Loc nD τ sig) → Buf (Elt Ideal) ℓ) (c : Dev nD)

theorem hz2 : (![0, 0] : Fin 2 → Nat) = fun _ => 0 := funext fun a => by fin_cases a <;> rfl
theorem hz1 : (![0] : Fin 1 → Nat) = fun _ => 0 := funext fun a => by fin_cases a; rfl

theorem out_eq (x0 : Vec Ideal S208x8192 .fp8e4m3) (x1 : Vec Ideal S8x26 .f32) (x2 : Vec Ideal S32000x8192 .fp8e4m3) (x3 : Vec Ideal S32000 .f32) :
    out0_4 x0 x1 x2 x3 = k0_pay1 x0 x2 x1 x3 := by
  unfold out0_4
  rw [View.canon_unit_zero hz2]
  simp only [View.ld_unit_zero (S := S208x8192) hz2, View.ld_unit_zero (S := S32000x8192) hz2, View.ld_unit_zero (S := S8x26) hz2, View.ld_unit_zero (S := S32000) hz1]

theorem V_x (b : Fin 8) (j : Fin 26) (d : Fin 8192) :
    (V m c main_v2 : Vec Ideal S208x8192 .fp8e4m3) (ix2 (⟨b.val * 26 + j.val, by omega⟩ : Fin 208) d)
      = Ideal.ofBits .fp8e4m3 ((m ((c : Thread nD τ).loc main_arg0) : IVec S8x26x8192 8) (ix3 b j d)) := by
  unfold V
  after_reads_at
theorem V_w (v : Fin 32000) (d : Fin 8192) :
    (V m c main_v1 : Vec Ideal S32000x8192 .fp8e4m3) (ix2 v d)
      = Ideal.ofBits .fp8e4m3 ((m ((c : Thread nD τ).loc main_arg4) : IVec S32000x8192 8) (ix2 v d)) := by
  unfold V
  after_reads_at

theorem blk0 : (iblk m c 0 t0_0 : Vec Ideal S208x8192 .fp8e4m3) = V m c main_v2 := by
  have hz : (fun a => win0_0.index t0_0 a * main_v2.ty.shape.size a) = fun _ => 0 := funext fun a => by fin_cases a <;> decide
  exact Memref.read_access_unit_zero (Elt Ideal) main_v2 hz (fun a => by rw [congrFun hz a]; simp) (V m c main_v2)
theorem blk1 : (iblk m c 1 t0_0 : Vec Ideal S8x26 .f32) = V m c main_arg1 := by
  have hz : (fun a => win0_1.index t0_0 a * main_arg1.ty.shape.size a) = fun _ => 0 := funext fun a => by fin_cases a <;> decide
  exact Memref.read_access_unit_zero (Elt Ideal) main_arg1 hz (fun a => by rw [congrFun hz a]; simp) (V m c main_arg1)
theorem blk2 : (iblk m c 2 t0_0 : Vec Ideal S32000x8192 .fp8e4m3) = V m c main_v1 := by
  have hz : (fun a => win0_2.index t0_0 a * main_v1.ty.shape.size a) = fun _ => 0 := funext fun a => by fin_cases a <;> decide
  exact Memref.read_access_unit_zero (Elt Ideal) main_v1 hz (fun a => by rw [congrFun hz a]; simp) (V m c main_v1)
theorem blk3 : (iblk m c 3 t0_0 : Vec Ideal S32000 .f32) = V m c main_arg5 := by
  have hz : (fun a => win0_3.index t0_0 a * main_arg5.ty.shape.size a) = fun _ => 0 := funext fun a => by fin_cases a; decide
  exact Memref.read_access_unit_zero (Elt Ideal) main_arg5 hz (fun a => by rw [congrFun hz a]; simp) (V m c main_arg5)

/-- The result array at the end: the one block written back. -/
theorem final_e : (Cert.ReferenceIdeal.Gen.dats m 0 c).arrAt 4 cfg0.N = k0_pay1 (F := Ideal) (V m c main_v2) (V m c main_v1) (V m c main_arg1) (V m c main_arg5) := by
  have hz : (fun a => win0_4.index t0_0 a * main_v3.ty.shape.size a) = fun _ => 0 := funext fun a => by fin_cases a <;> decide
  have h1 := Memref.read_access_unit_zero (Elt Ideal) main_v3 hz (fun a => by rw [congrFun hz a]; simp) ((Cert.ReferenceIdeal.Gen.dats m 0 c).arrAt 4 cfg0.N)
  have h2 := Cert.ReferenceIdeal.Value.blocks4 m c t0_0 (flush0_4 t0_0)
  rw [Cert.ReferenceIdeal.Value.flushed4, blk0, blk1, blk2, blk3, out_eq] at h2
  exact h1.symm.trans h2

theorem zRef_real (x : Vec Ideal S208x8192 .fp8e4m3) (w : Vec Ideal S32000x8192 .fp8e4m3) (xs : Vec Ideal S8x26 .f32) (ws : Vec Ideal S32000 .f32)
    (b : Fin 8) (j : Fin 26) (v : Fin 32000) (X : Fin 8192 → ℝ) (W : Fin 32000 → Fin 8192 → ℝ) (s : ℝ) (ω : Fin 32000 → ℝ)
    (hx : ∀ d, x (ix2 (⟨b.val * 26 + j.val, by omega⟩ : Fin 208) d) = ((X d : ℝ) : EReal)) (hw : ∀ d, w (ix2 v d) = ((W v d : ℝ) : EReal))
    (hs : xs (ix2 b j) = ((s : ℝ) : EReal)) (hω : ws (ix1 v) = ((ω v : ℝ) : EReal)) :
    zRef x w xs ws b j v = ((logitR X W s ω v : ℝ) : EReal) := by
  unfold zRef logitR
  rw [hs, hω, Finset.sum_congr rfl (fun d _ => (congrArg₂ (fun p q : EReal => p * q) (hx d) (hw d)).trans (EReal.coe_mul (X d) (W v d)).symm),
    sum_coe, ← EReal.coe_mul, ← EReal.coe_mul, div_real _ _ (by norm_num)]

/-- One element of the reference, over real arguments. -/
theorem ref_at (b : Fin 8) (j : Fin 26) (X : Fin 8192 → ℝ) (W : Fin 32000 → Fin 8192 → ℝ) (s : ℝ) (ω : Fin 32000 → ℝ)
    (hX : ∀ d, Ideal.ofBits .fp8e4m3 ((m ((c : Thread nD τ).loc main_arg0) : IVec S8x26x8192 8) (ix3 b j d)) = ((X d : ℝ) : EReal))
    (hW : ∀ v d, Ideal.ofBits .fp8e4m3 ((m ((c : Thread nD τ).loc main_arg4) : IVec S32000x8192 8) (ix2 v d)) = ((W v d : ℝ) : EReal))
    (hs : (m ((c : Thread nD τ).loc main_arg1) : FVec Ideal S8x26 .f32) (ix2 b j) = ((s : ℝ) : EReal))
    (hω : ∀ v, (m ((c : Thread nD τ).loc main_arg5) : FVec Ideal S32000 .f32) (ix1 v) = ((ω v : ℝ) : EReal)) :
    ∃ M : ℝ, ((Cert.ReferenceIdeal.Gen.dats m 0 c).arrAt 4 cfg0.N : Vec Ideal S8x26 .f32) (ix2 b j) = ((entR (logitR X W s ω) M : ℝ) : EReal) := by
  rw [final_e]
  refine pay1_at _ _ _ _ b j (logitR X W s ω) fun v => ?_
  exact zRef_real _ _ _ _ b j v X W s ω (fun d => (V_x m c b j d).trans (hX d)) (fun d => (V_w m c v d).trans (hW v d))
    ((congrFun (V_main_arg1 m c) (ix2 b j)).trans hs) ((congrFun (V_main_arg5 m c) (ix1 v)).trans (hω v))

end Cert.Proof.ReferenceIdeal
end
-- ==== Proof.Entry.lean ====
/-
  What the kernel finds in its inputs, element by element, in terms of the arguments.
-/
module

public import proofs.«01_k».proof.Proof.Gen.KernelIdeal.Frame
public import Idealize.ShloMosaic.Lib.Claim
public import Idealize.ShloMosaic.Lib.StableHlo.ReadAt
public import Idealize.ShloMosaic.Lib.Pointwise

@[expose] public section

set_option maxRecDepth 16384

noncomputable section
namespace Cert.Proof.KernelIdeal
open Cert.KernelIdeal Cert.KernelIdeal.Gen
open Idealize.ShloMosaic
open Idealize.ShloMosaic.TcCoe

variable (m : (ℓ : Loc nD τ sig) → Buf (Elt Ideal) ℓ) (c : Dev nD)

theorem V_head : V m c main_v1 = (bitcastToFloat .fp8e4m3 (m ((c : Thread nD τ).loc main_arg4) : IVec S32000x8192 8) : FVec Ideal S32000x8192 .fp8e4m3) := by
  unfold V
  simp only [hostOps0, hostOps0_1, hostOps0_2, hostOps0_3, hostOps0_4, hostOps0_5, hostOps0_6, List.flatten_cons, List.flatten_nil, List.append_nil, List.cons_append, List.nil_append]
  after_reads_simp
theorem V_x (b : Fin 8) (j : Fin 26) (d : Fin 8192) :
    (V m c main_v4 : Vec Ideal S256x8192 .fp8e4m3) (ix2 (⟨b.val * 32 + j.val, by omega⟩ : Fin 256) d)
      = Ideal.ofBits .fp8e4m3 ((m ((c : Thread nD τ).loc main_arg0) : IVec S8x26x8192 8) (ix3 b j d)) := by
  unfold V
  simp only [hostOps0, hostOps0_1, hostOps0_2, hostOps0_3, hostOps0_4, hostOps0_5, hostOps0_6, List.flatten_cons, List.flatten_nil, List.append_nil, List.cons_append, List.nil_append]
  after_reads_at
  have h : (b.val * 32 + j.val) % 32 = j.val := by omega
  simp only [h]
  rw [dif_pos j.isLt]
theorem V_xs (b : Fin 8) (j : Fin 26) :
    (V m c main_v6 : Vec Ideal S1x256 .f32) (ix2 0 (⟨b.val * 32 + j.val, by omega⟩ : Fin 256))
      = (m ((c : Thread nD τ).loc main_arg1) : FVec Ideal S8x26 .f32) (ix2 b j) := by
  unfold V
  simp only [hostOps0, hostOps0_1, hostOps0_2, hostOps0_3, hostOps0_4, hostOps0_5, hostOps0_6, List.flatten_cons, List.flatten_nil, List.append_nil, List.cons_append, List.nil_append]
  after_reads_at
  have h : (b.val * 32 + j.val) % 32 = j.val := by omega
  simp only [h]
  rw [dif_pos j.isLt]
theorem V_ws (v : Fin 32000) :
    (V m c main_v16 : Vec Ideal S125x2x128 .f32) (ix3 (⟨v.val / 256, by omega⟩ : Fin 125) (⟨v.val % 256 / 128, by omega⟩ : Fin 2) (⟨v.val % 128, by omega⟩ : Fin 128))
      = (m ((c : Thread nD τ).loc main_arg5) : FVec Ideal S32000 .f32) (ix1 v) := by
  unfold V
  simp only [hostOps0, hostOps0_1, hostOps0_2, hostOps0_3, hostOps0_4, hostOps0_5, hostOps0_6, List.flatten_cons, List.flatten_nil, List.append_nil, List.cons_append, List.nil_append]
  after_reads_at

theorem iblk_x (t : Fin cfg0.N) (l : Fin 256) (d : Fin 8192) :
    (iblk m c 0 t : Vec Ideal S256x8192 .fp8e4m3) (ix2 l d) = (V m c main_v4 : Vec Ideal S256x8192 .fp8e4m3) (ix2 l d) := by
  have hi : win0_0.index t 0 = 0 ∧ win0_0.index t 1 = 0 := by
    rcases fin_N0 t with rfl; decide
  unfold iblk
  rw [View.read_apply]
  show (V m c main_v4 : Vec Ideal S256x8192 .fp8e4m3) _ = (V m c main_v4 : Vec Ideal S256x8192 .fp8e4m3) _
  congr 1
  funext a
  apply Fin.ext
  match a with
  | ⟨0, _⟩ => show win0_0.index t 0 * 256 + 1 * l.val = l.val; rw [hi.1]; omega
  | ⟨1, _⟩ => show win0_0.index t 1 * 8192 + 1 * d.val = d.val; rw [hi.2]; omega
theorem iblk_xs (t : Fin cfg0.N) (l : Fin 256) :
    (iblk m c 1 t : Vec Ideal S1x256 .f32) (ix2 0 l) = (V m c main_v6 : Vec Ideal S1x256 .f32) (ix2 0 l) := by
  have hi : win0_1.index t 0 = 0 ∧ win0_1.index t 1 = 0 := by
    rcases fin_N0 t with rfl; decide
  unfold iblk
  rw [View.read_apply]
  show (V m c main_v6 : Vec Ideal S1x256 .f32) _ = (V m c main_v6 : Vec Ideal S1x256 .f32) _
  congr 1
  funext a
  apply Fin.ext
  match a with
  | ⟨0, _⟩ => show win0_1.index t 0 * 1 + 1 * 0 = 0; rw [hi.1]
  | ⟨1, _⟩ => show win0_1.index t 1 * 256 + 1 * l.val = l.val; rw [hi.2]; omega
theorem iblk_ws (t : Fin cfg0.N) (b : Fin 125) (h : Fin 2) (j : Fin 128) :
    (iblk m c 4 t : Vec Ideal S125x2x128 .f32) (ix3 b h j) = (V m c main_v16 : Vec Ideal S125x2x128 .f32) (ix3 b h j) := by
  have hi : win0_4.index t 0 = 0 ∧ win0_4.index t 1 = 0 ∧ win0_4.index t 2 = 0 := by
    rcases fin_N0 t with rfl; decide
  unfold iblk
  rw [View.read_apply]
  show (V m c main_v16 : Vec Ideal S125x2x128 .f32) _ = (V m c main_v16 : Vec Ideal S125x2x128 .f32) _
  congr 1
  funext a
  apply Fin.ext
  match a with
  | ⟨0, _⟩ => show win0_4.index t 0 * 125 + 1 * b.val = b.val; rw [hi.1]; omega
  | ⟨1, _⟩ => show win0_4.index t 1 * 2 + 1 * h.val = h.val; rw [hi.2.1]; omega
  | ⟨2, _⟩ => show win0_4.index t 2 * 128 + 1 * j.val = j.val; rw [hi.2.2]; omega

end Cert.Proof.KernelIdeal
end
-- ==== Proof.Lane.lean ====
/-
  What the loop's arithmetic does to one element of the carried values, over the extended reals: one tile of scaled
  logits is one step of a running softmax sum in base 2, and folding the sublanes gives the entropy.
-/
module

public import proofs.«01_k».proof.Proof.Trip
public import proofs.«01_k».proof.Proof.Reals
public import proofs.«01_k».proof.Proof.Ext
public import Idealize.ShloMosaic.Lib.Pointwise

@[expose] public section

set_option maxRecDepth 16384

noncomputable section
namespace Cert.Proof.KernelIdeal
open Cert.KernelIdeal Cert.KernelIdeal.Gen
open Idealize.ShloMosaic

open Cert.Proof.Ext Cert.Proof.Reals
open scoped BigOperators

theorem nm_min : (Named.named κ "min_exponent" (φ := .f32) 3323740160#32 : Ideal .f32) = (⊥ : EReal) := rfl
theorem nm_l2e : (Named.named κ "log2_e" (φ := .f32) 1069066811#32 : Ideal .f32) = (((Real.log 2)⁻¹ : ℝ) : EReal) := rfl
theorem nm_ln2 : (Named.named κ "ln_2" (φ := .f32) 1060205080#32 : Ideal .f32) = ((Real.log 2 : ℝ) : EReal) := rfl
theorem nm_l2et : (Named.named κ "log2_e_over_temperature" (φ := .f32) 1073997647#32 : Ideal .f32)
    = ((((11744051 / 16777216 : ℝ) * Real.log 2)⁻¹ : ℝ) : EReal) := rfl

/-- Row `8 a + q` of a tile. -/
abbrev rw8 (a : Fin 32) (q : Fin 8) : Fin 256 := ⟨a.val * 8 + q.val, by omega⟩

theorem pay8_at (z : FVec Ideal S256x256 .f32) (a : Fin 32) (q : Fin 8) (l : Fin 256) :
    k0_pay8 z (ix3 a q l) = z (ix2 (rw8 a q) l) := by
  pointwise [k0_pay8]

theorem pay9_at (m : FVec Ideal S8x256 .f32) (z : FVec Ideal S256x256 .f32) (q : Fin 8) (l : Fin 256) :
    k0_pay9 m z (ix2 q l) = max (m (ix2 q l)) (Finset.univ.fold max ⊥ fun a => z (ix2 (rw8 a q) l)) := by
  pointwise [k0_pay9, pay8_at, negInf]

theorem pay10_at (m : FVec Ideal S8x256 .f32) (z : FVec Ideal S256x256 .f32) (q : Fin 8) (l : Fin 256) :
    k0_pay10 m z (ix2 q l) = max (m (ix2 q l) - k0_pay9 m z (ix2 q l)) ⊥ := by
  pointwise [k0_pay10, nm_min]

theorem pay11_at (m : FVec Ideal S8x256 .f32) (z : FVec Ideal S256x256 .f32) (q : Fin 8) (l : Fin 256) :
    k0_pay11 m z (ix2 q l) = Ideal.exp2 (k0_pay10 m z (ix2 q l)) := by
  pointwise [k0_pay11]
  rfl

theorem pay12_at (m : FVec Ideal S8x256 .f32) (z : FVec Ideal S256x256 .f32) (a : Fin 32) (q : Fin 8) (l : Fin 256) :
    k0_pay12 m z (ix3 a q l) = z (ix2 (rw8 a q) l) - k0_pay9 m z (ix2 q l) := by
  pointwise [k0_pay12, pay8_at]

theorem pay13_at (m : FVec Ideal S8x256 .f32) (z : FVec Ideal S256x256 .f32) (a : Fin 32) (q : Fin 8) (l : Fin 256) :
    k0_pay13 m z (ix3 a q l) = Ideal.exp2 (k0_pay12 m z (ix3 a q l)) := by
  pointwise [k0_pay13]
  rfl

theorem pay14_at (m s t : FVec Ideal S8x256 .f32) (z : FVec Ideal S256x256 .f32) (q : Fin 8) (l : Fin 256) :
    k0_pay14 m s t z (ix2 q l) = (t (ix2 q l) + s (ix2 q l) * k0_pay10 m z (ix2 q l)) * k0_pay11 m z (ix2 q l)
      + ∑ a : Fin 32, k0_pay13 m z (ix3 a q l) * k0_pay12 m z (ix3 a q l) := by
  pointwise [k0_pay14]

theorem pay15_at (m s : FVec Ideal S8x256 .f32) (z : FVec Ideal S256x256 .f32) (q : Fin 8) (l : Fin 256) :
    k0_pay15 m s z (ix2 q l) = s (ix2 q l) * k0_pay11 m z (ix2 q l) + ∑ a : Fin 32, k0_pay13 m z (ix3 a q l) := by
  pointwise [k0_pay15]

theorem pay73_at (m : FVec Ideal S8x256 .f32) (l : Fin 256) :
    k0_pay73 m (ix2 0 l) = Finset.univ.fold max ⊥ fun q : Fin 8 => m (ix2 q l) := by
  pointwise [k0_pay73, negInf]

theorem pay74_at (m : FVec Ideal S8x256 .f32) (q : Fin 8) (l : Fin 256) :
    k0_pay74 m (ix2 q l) = max (m (ix2 q l) - k0_pay73 m (ix2 0 l)) ⊥ := by
  pointwise [k0_pay74, nm_min]

theorem pay75_at (m : FVec Ideal S8x256 .f32) (q : Fin 8) (l : Fin 256) :
    k0_pay75 m (ix2 q l) = Ideal.exp2 (k0_pay74 m (ix2 q l)) := by
  pointwise [k0_pay75]
  rfl

theorem pay76_at (m s : FVec Ideal S8x256 .f32) (l : Fin 256) :
    k0_pay76 m s (ix2 0 l) = ∑ q : Fin 8, s (ix2 q l) * k0_pay75 m (ix2 q l) := by
  pointwise [k0_pay76]

theorem pay77_at (m s : FVec Ideal S8x256 .f32) (l : Fin 256) :
    k0_pay77 m s (ix2 0 l) = Ideal.log (k0_pay76 m s (ix2 0 l)) * ((Real.log 2)⁻¹ : ℝ) := by
  pointwise [k0_pay77, nm_l2e]

theorem pay78_at (m s t : FVec Ideal S8x256 .f32) (l : Fin 256) :
    k0_pay78 m s t (ix2 0 l) = ((Real.log 2 : ℝ) : EReal) * (k0_pay77 m s (ix2 0 l)
      - Ideal.div (∑ q : Fin 8, (t (ix2 q l) + s (ix2 q l) * k0_pay74 m (ix2 q l)) * k0_pay75 m (ix2 q l)) (k0_pay76 m s (ix2 0 l))) := by
  pointwise [k0_pay78, nm_ln2]

theorem pay69_at (v : Vec Ideal S1x256 .f32) (l : Fin 256) :
    k0_pay69 v (ix2 0 l) = v (ix2 0 l) * ((((11744051 / 16777216 : ℝ) * Real.log 2)⁻¹ : ℝ) : EReal) := by
  pointwise [k0_pay69, nm_l2et]

theorem pay4_at (v28 : FVec Ideal S1x256 .f32) (w : Vec Ideal S1x256x8192 .fp8e4m3) (x : Vec Ideal S256x8192 .fp8e4m3)
    (ws : Vec Ideal S1x2x128 .f32) (r l : Fin 256) :
    k0_pay4 v28 w x ws (ix2 r l) = (∑ d : Fin 8192, w (ix3 0 r d) * x (ix2 l d))
      * ws (ix3 0 ⟨r.val / 128, by omega⟩ ⟨r.val % 128, by omega⟩) * v28 (ix2 0 l) := by
  pointwise [k0_pay4]
  split
  · rename_i h
    rw [show (⟨r.val / 128, by omega⟩ : Fin 2) = 0 from Fin.ext (Nat.div_eq_of_lt h), show (⟨r.val % 128, by omega⟩ : Fin 128) = ⟨r.val, h⟩ from Fin.ext (Nat.mod_eq_of_lt h)]
  · rename_i h
    rw [show (⟨r.val / 128, by omega⟩ : Fin 2) = 1 from Fin.ext (show r.val / 128 = 1 by omega), show (⟨r.val % 128, by omega⟩ : Fin 128) = ⟨r.val - 128, by omega⟩ from Fin.ext (show r.val % 128 = r.val - 128 by omega)]

/-! ## One step, and all of them -/

/-- The carried values at one element, after the values `f` at `A`: any real maximum and the two sums at it. -/
def Lane {ι : Type} (A : Finset ι) (f : ι → ℝ) (a : Acc Ideal) (q : Fin 8) (l : Fin 256) : Prop :=
  ∃ μ : ℝ, a.1 (ix2 q l) = ((μ : ℝ) : EReal) ∧ a.2.1 (ix2 q l) = ((Sm A f μ : ℝ) : EReal) ∧ a.2.2 (ix2 q l) = ((Tm A f μ : ℝ) : EReal)

theorem Sm_range (n : ℕ) (f : ℕ → ℝ) (μ : ℝ) : Sm (Finset.range (n + 32)) f μ = Sm (Finset.range n) f μ + ∑ a : Fin 32, (2 : ℝ) ^ (f (n + a.val) - μ) := by
  unfold Sm; rw [Finset.sum_range_add, Finset.sum_range (n := 32)]
theorem Tm_range (n : ℕ) (f : ℕ → ℝ) (μ : ℝ) : Tm (Finset.range (n + 32)) f μ = Tm (Finset.range n) f μ
    + ∑ a : Fin 32, (2 : ℝ) ^ (f (n + a.val) - μ) * (f (n + a.val) - μ) := by
  unfold Tm; rw [Finset.sum_range_add, Finset.sum_range (n := 32)]

/-- One tile is one step. -/
theorem lane_step (n : ℕ) (f : ℕ → ℝ) (a : Acc Ideal) (z : FVec Ideal S256x256 .f32) (q : Fin 8) (l : Fin 256)
    (h : Lane (Finset.range n) f a q l) (hz : ∀ b : Fin 32, z (ix2 (rw8 b q) l) = ((f (n + b.val) : ℝ) : EReal)) :
    Lane (Finset.range (n + 32)) f (stepG a z) q l := by
  obtain ⟨μ, h1, h2, h3⟩ := h
  obtain ⟨M, hM⟩ := fold_max_real Finset.univ ⟨0, Finset.mem_univ _⟩ (fun b : Fin 32 => f (n + b.val))
  obtain ⟨μ', hμ'⟩ := max_real μ M
  have e9 : k0_pay9 a.1 z (ix2 q l) = (μ' : EReal) := by
    rw [pay9_at, h1]; simp only [hz]; rw [hM, hμ']
  have e10 : k0_pay10 a.1 z (ix2 q l) = ((μ - μ' : ℝ) : EReal) := by
    rw [pay10_at, e9, h1, max_bot, ← EReal.coe_sub]
  have e11 : k0_pay11 a.1 z (ix2 q l) = (((2 : ℝ) ^ (μ - μ') : ℝ) : EReal) := by rw [pay11_at, e10, exp2_real]
  have e12 : ∀ b, k0_pay12 a.1 z (ix3 b q l) = ((f (n + b.val) - μ' : ℝ) : EReal) := fun b => by rw [pay12_at, e9, hz, ← EReal.coe_sub]
  have e13 : ∀ b, k0_pay13 a.1 z (ix3 b q l) = (((2 : ℝ) ^ (f (n + b.val) - μ') : ℝ) : EReal) := fun b => by rw [pay13_at, e12, exp2_real]
  refine ⟨μ', e9, ?_, ?_⟩
  · show k0_pay15 a.1 a.2.1 z (ix2 q l) = _
    rw [pay15_at, h2, e11]
    simp only [e13]
    rw [sum_coe, ← EReal.coe_mul, ← EReal.coe_add, Sm_move, Sm_range]
  · show k0_pay14 a.1 a.2.1 a.2.2 z (ix2 q l) = _
    rw [pay14_at, h2, h3, e11, e10]
    simp only [e12, e13, ← EReal.coe_mul]
    rw [sum_coe, ← EReal.coe_add, ← EReal.coe_mul, ← EReal.coe_add, Tm_move, Tm_range]

/-- A trip is five steps. -/
theorem lane_trip (k : ℕ) (f : ℕ → ℝ) (a : Acc Ideal) (z : Fin 5 → FVec Ideal S256x256 .f32) (q : Fin 8) (l : Fin 256)
    (h : Lane (Finset.range (160 * k)) f a q l)
    (hz : ∀ (u : Fin 5) (b : Fin 32), z u (ix2 (rw8 b q) l) = ((f (32 * (5 * k + u.val) + b.val) : ℝ) : EReal)) :
    Lane (Finset.range (160 * (k + 1))) f (tripAcc z a) q l := by
  unfold tripAcc
  have s0 := lane_step _ f a (z 0) q l h (fun b => by rw [hz]; congr 3; simp; ring)
  have s1 := lane_step _ f _ (z 1) q l s0 (fun b => by rw [hz]; congr 3; simp; ring)
  have s2 := lane_step _ f _ (z 2) q l s1 (fun b => by rw [hz]; congr 3; simp; ring)
  have s3 := lane_step _ f _ (z 3) q l s2 (fun b => by rw [hz]; congr 3; simp; ring)
  have s4 := lane_step _ f _ (z 4) q l s3 (fun b => by rw [hz]; congr 3; simp; ring)
  exact s4

/-- Before the first trip no value has been seen. -/
theorem lane_init (f : ℕ → ℝ) (q : Fin 8) (l : Fin 256) :
    Lane (Finset.range (160 * 0)) f (k0_pay70 (F := Ideal), k0_pay71 (F := Ideal), k0_pay72 (F := Ideal)) q l := by
  obtain ⟨μ, hμ⟩ := lowest
  refine ⟨μ, hμ, ?_, ?_⟩
  · show Ideal.ofBits .f32 0x00000000#32 = _
    rw [Ideal.ofBits_zero_f32]; simp [Sm]
  · show Ideal.ofBits .f32 0x00000000#32 = _
    rw [Ideal.ofBits_zero_f32]; simp [Tm]

theorem sum_rows (n : ℕ) (g : ℕ → ℝ) : ∑ q : Fin 8, ∑ j ∈ Finset.range n, g (8 * j + q.val) = ∑ v ∈ Finset.range (8 * n), g v := by
  rw [Finset.sum_comm]
  induction n with
  | zero => simp
  | succ n ih => rw [Finset.sum_range_succ, ih, show 8 * (n + 1) = 8 * n + 8 by ring, Finset.sum_range_add, Finset.sum_range (n := 8)]

/-- The folded sublanes: the entropy from the two sums over every row. -/
theorem lane_fold (n : ℕ) (hn : 0 < n) (g : ℕ → ℝ) (a : Acc Ideal) (l : Fin 256)
    (h : ∀ q : Fin 8, Lane (Finset.range n) (fun j => g (8 * j + q.val)) a q l) :
    ∃ M : ℝ, k0_pay78 a.1 a.2.1 a.2.2 (ix2 0 l) = ((Real.log 2 * (Real.log (Sm (Finset.range (8 * n)) g M) * (Real.log 2)⁻¹
      - Tm (Finset.range (8 * n)) g M / Sm (Finset.range (8 * n)) g M) : ℝ) : EReal) := by
  choose μ h1 h2 h3 using h
  obtain ⟨M, hM⟩ := fold_max_real Finset.univ ⟨0, Finset.mem_univ _⟩ μ
  have e73 : k0_pay73 a.1 (ix2 0 l) = (M : EReal) := by rw [pay73_at]; simp only [h1]; exact hM
  have e74 : ∀ q, k0_pay74 a.1 (ix2 q l) = ((μ q - M : ℝ) : EReal) := fun q => by rw [pay74_at, e73, h1, max_bot, ← EReal.coe_sub]
  have e75 : ∀ q, k0_pay75 a.1 (ix2 q l) = (((2 : ℝ) ^ (μ q - M) : ℝ) : EReal) := fun q => by rw [pay75_at, e74, exp2_real]
  have e76 : k0_pay76 a.1 a.2.1 (ix2 0 l) = ((Sm (Finset.range (8 * n)) g M : ℝ) : EReal) := by
    rw [pay76_at]
    simp only [h2, e75, ← EReal.coe_mul, Sm_move]
    rw [sum_coe]
    congr 1
    exact sum_rows n (fun v => (2 : ℝ) ^ (g v - M))
  have eT : ∑ q : Fin 8, (a.2.2 (ix2 q l) + a.2.1 (ix2 q l) * k0_pay74 a.1 (ix2 q l)) * k0_pay75 a.1 (ix2 q l)
      = ((Tm (Finset.range (8 * n)) g M : ℝ) : EReal) := by
    simp only [h2, h3, e74, e75, ← EReal.coe_mul, ← EReal.coe_add, Tm_move]
    rw [sum_coe]
    congr 1
    exact sum_rows n (fun v => (2 : ℝ) ^ (g v - M) * (g v - M))
  have hS : 0 < Sm (Finset.range (8 * n)) g M := Sm_pos _ _ ⟨0, Finset.mem_range.mpr (by omega)⟩ _
  refine ⟨M, ?_⟩
  rw [pay78_at, eT, pay77_at, e76, log_real _ hS, div_real _ _ hS.ne', ← EReal.coe_mul, ← EReal.coe_sub, ← EReal.coe_mul]

end Cert.Proof.KernelIdeal
end
-- ==== Proof.Reads.lean ====
/-
  What the loop reads, element by element, and so what one element of the entropies is: the entropy from the two sums
  over the rows of the head.
-/
module

public import proofs.«01_k».proof.Proof.Lane
public import proofs.«01_k».proof.Proof.Part

@[expose] public section

set_option maxRecDepth 16384

noncomputable section
namespace Cert.Proof.KernelIdeal
open Cert.KernelIdeal Cert.KernelIdeal.Gen
open Idealize.ShloMosaic
open Idealize.ShloMosaic.TcCoe
open Cert.Proof.Ext Cert.Proof.Reals
open scoped BigOperators

variable (c : Dev nD) (XA : Buf (Elt Ideal) (headM.view.loc (c : Thread nD τ)))
  (arg1 : Memref sig .tc .vmem S256x8192 .fp8e4m3) (arg2 : Memref sig .tc .vmem S1x256 .f32) (arg5 : Memref sig .tc .vmem S125x2x128 .f32)
  (fx : Buf (Elt Ideal) (arg1.view.loc (c : Thread nD τ))) (fs : Buf (Elt Ideal) (arg2.view.loc (c : Thread nD τ)))
  (fw : Buf (Elt Ideal) (arg5.view.loc (c : Thread nD τ)))

theorem hz2 : (![0, 0] : Fin 2 → Nat) = fun _ => 0 := funext fun a => by fin_cases a <;> rfl

theorem payload_at (b : Fin 125) (r : Fin 256) (d : Fin 8192) (h : b.val * 256 + r.val < 32000) :
    payload c XA b (ix2 r d) = XA (ix2 (⟨b.val * 256 + r.val, h⟩ : Fin 32000) d) := by
  show XA ((tile b).view.emb (ix2 r d)) = XA _
  congr 1
  funext a
  apply Fin.ext
  match a with
  | ⟨0, _⟩ => show b.val * 256 + 1 * r.val = b.val * 256 + r.val; omega
  | ⟨1, _⟩ => show 0 + 1 * d.val = d.val; omega

theorem slotRead_at (u : Fin 5) (b : Fin 125) (r : Fin 256) (d : Fin 8192) (h : b.val * 256 + r.val < 32000) :
    slotRead c XA u b (ix3 0 r d) = XA (ix2 (⟨b.val * 256 + r.val, h⟩ : Fin 32000) d) := by
  have e : shapeCast S256x8192 (slotRead c XA u b) shapeCasts_S1x256x8192_S256x8192 = payload c XA b := by
    refine Eq.trans ?_ (View.read_writes_whole (slot u).view (slot u).view.junk (payload c XA b))
    exact (Memref.read_squeeze_slice bufM _ (fun _ => rfl) squeezes_S1x256x8192_S256x8192 shapeCasts_S1x256x8192_S256x8192 _).symm
  refine Eq.trans ?_ ((congrFun e (ix2 r d)).trans (payload_at c XA b r d h))
  pointwise

theorem xRead_eq : xRead c arg1 fx = arg1.view.read (Elt Ideal) fx := by
  unfold xRead
  rw [View.readAt_eq_ld, View.ld_unit_zero (S := S256x8192) hz2]
theorem sRead_eq : sRead c arg2 fs = arg2.view.read (Elt Ideal) fs := by
  unfold sRead
  rw [View.readAt_eq_ld, View.ld_unit_zero (S := S1x256) hz2]
theorem wsRead_at (k : Fin k0_t1_loop.trips) (u : Fin 5) (h : Fin 2) (j : Fin 128) :
    wsRead c arg5 fw k u (ix3 0 h j) = arg5.view.read (Elt Ideal) fw (ix3 (tl k.val u) h j) := by
  unfold wsRead
  rw [View.readAt_apply]
  congr 1
  have e := off2_eq k u
  funext a
  apply Fin.ext
  match a with
  | ⟨0, _⟩ => show k0_off2 k (BitVec.ofNat 32 u.val) 0 + 1 * 0 = (tl k.val u).val; rw [e]; rfl
  | ⟨1, _⟩ => show k0_off2 k (BitVec.ofNat 32 u.val) 1 + 1 * h.val = h.val; rw [e]; show 0 + 1 * h.val = h.val; omega
  | ⟨2, _⟩ => show k0_off2 k (BitVec.ofNat 32 u.val) 2 + 1 * j.val = j.val; rw [e]; show 0 + 1 * j.val = j.val; omega

/-- The scaled logit of row `v` and column `l`, in base 2, as the kernel computes it. -/
def zAt (X : Vec Ideal S32000x8192 .fp8e4m3) (x : Vec Ideal S256x8192 .fp8e4m3) (s : Vec Ideal S1x256 .f32) (w : Vec Ideal S125x2x128 .f32)
    (v : Fin 32000) (l : Fin 256) : EReal :=
  (∑ d : Fin 8192, (X (ix2 v d) : EReal) * x (ix2 l d))
    * w (ix3 (⟨v.val / 256, by omega⟩ : Fin 125) (⟨v.val % 256 / 128, by omega⟩ : Fin 2) (⟨v.val % 128, by omega⟩ : Fin 128))
    * (s (ix2 0 l) * ((((11744051 / 16777216 : ℝ) * Real.log 2)⁻¹ : ℝ) : EReal))

theorem zRaw_at (k : Fin k0_t1_loop.trips) (u : Fin 5) (r l : Fin 256) (h : (tl k.val u).val * 256 + r.val < 32000) :
    zRaw c XA arg1 arg5 fx fw (sRead c arg2 fs) k u (ix2 r l)
      = zAt XA (arg1.view.read (Elt Ideal) fx) (arg2.view.read (Elt Ideal) fs) (arg5.view.read (Elt Ideal) fw)
          (⟨(tl k.val u).val * 256 + r.val, h⟩ : Fin 32000) l := by
  unfold zRaw zAt
  rw [pay4_at, pay69_at, sRead_eq, xRead_eq, wsRead_at]
  simp only [slotRead_at c XA u _ r _ h]
  have h1 : (⟨((tl k.val u).val * 256 + r.val) / 256, by omega⟩ : Fin 125) = tl k.val u := Fin.ext (by show (_ + _) / 256 = _; omega)
  have h2 : (⟨((tl k.val u).val * 256 + r.val) % 256 / 128, by omega⟩ : Fin 2) = ⟨r.val / 128, by omega⟩ := Fin.ext (by show ((tl k.val u).val * 256 + r.val) % 256 / 128 = r.val / 128; have := r.isLt; omega)
  have h3 : (⟨((tl k.val u).val * 256 + r.val) % 128, by omega⟩ : Fin 128) = ⟨r.val % 128, by omega⟩ := Fin.ext (by show ((tl k.val u).val * 256 + r.val) % 128 = r.val % 128; omega)
  rw [h1, h2, h3]

/-- One element of the entropies. -/
theorem ent_at (l : Fin 256) (g : ℕ → ℝ) (hg : ∀ v : Fin 32000, zAt XA (arg1.view.read (Elt Ideal) fx) (arg2.view.read (Elt Ideal) fs) (arg5.view.read (Elt Ideal) fw) v l = ((g v.val : ℝ) : EReal)) :
    ∃ M : ℝ, ent c XA arg1 arg2 arg5 fx fs fw (ix2 0 l) = ((Real.log 2 * (Real.log (Sm (Finset.range 32000) g M) * (Real.log 2)⁻¹
      - Tm (Finset.range 32000) g M / Sm (Finset.range 32000) g M) : ℝ) : EReal) := by
  have key : ∀ (q : Fin 8) (k : ℕ), k ≤ 25 →
      Lane (Finset.range (160 * k)) (fun j => g (8 * j + q.val)) (accR c XA arg1 arg5 fx fw (sRead c arg2 fs) k) q l := by
    intro q k
    induction k with
    | zero => intro _; exact lane_init _ q l
    | succ k ih =>
      intro hk
      have hk' : k < k0_t1_loop.trips := by rw [trips_eq]; omega
      have e : accR c XA arg1 arg5 fx fw (sRead c arg2 fs) (k + 1)
          = tripAcc (zRaw c XA arg1 arg5 fx fw (sRead c arg2 fs) ⟨k, hk'⟩) (accR c XA arg1 arg5 fx fw (sRead c arg2 fs) k) := by
        rw [accR, dif_pos hk']
      rw [e]
      refine lane_trip k _ _ _ q l (ih (by omega)) fun u b => ?_
      have ht : (tl k u).val = 5 * k + u.val := tl_val (by omega) u
      have := u.isLt
      have := b.isLt
      have := q.isLt
      refine (zRaw_at c XA arg1 arg2 arg5 fx fs fw ⟨k, hk'⟩ u (rw8 b q) l (by show (tl k u).val * 256 + (b.val * 8 + q.val) < 32000; omega)).trans ((hg _).trans ?_)
      congr 2
      show (tl k u).val * 256 + (b.val * 8 + q.val) = _
      omega
  exact lane_fold 4000 (by norm_num) g _ l (fun q => key q 25 le_rfl)

end Cert.Proof.KernelIdeal
end
-- ==== Proof.KValue.lean ====
/-
  The first result of the launch, element by element: the entropy of the softmax of the row's logits.
-/
module

public import proofs.«01_k».proof.Proof.Launch
public import proofs.«01_k».proof.Proof.Entry
public import proofs.«01_k».proof.Proof.Reads
public import Idealize.ShloMosaic.Lib.Pointwise
public import Idealize.ShloMosaic.Lib.Pipeline.ValueKit
public import proofs.«01_k».proof.Proof.Gen.KernelIdeal.Frame

@[expose] public section

set_option maxRecDepth 16384

noncomputable section
namespace Cert.Proof.KernelIdeal
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Ext Cert.Proof.Reals
open scoped BigOperators
open Idealize.ShloMosaic.Pipeline (Dat Cfg Window BodyObligation)

variable {F : FTy → Type} [FloatOps F] [Named F]

theorem row_lt (b : Fin 8) (j : Fin 26) : b.val * 32 + j.val < 256 := by omega
theorem entBlk_at (e : FVec F S1x256 .f32) (b : Fin 8) (j : Fin 26) :
    entBlk e (ix2 b j) = e (ix2 (0 : Fin 1) (⟨b.val * 32 + j.val, row_lt b j⟩ : Fin 256)) := by
  have q0 : ∀ j : Fin 26, k0_pay316 e (ix2 (0 : Fin 1) j) = e (ix2 (0 : Fin 1) (⟨0 * 32 + j.val, row_lt 0 j⟩ : Fin 256)) := fun j => by pointwise [k0_pay316]
  have q1 : ∀ j : Fin 26, k0_pay321 e (ix2 (0 : Fin 1) j) = e (ix2 (0 : Fin 1) (⟨1 * 32 + j.val, row_lt 1 j⟩ : Fin 256)) := fun j => by pointwise [k0_pay321]
  have q2 : ∀ j : Fin 26, k0_pay325 e (ix2 (0 : Fin 1) j) = e (ix2 (0 : Fin 1) (⟨2 * 32 + j.val, row_lt 2 j⟩ : Fin 256)) := fun j => by pointwise [k0_pay325]
  have q3 : ∀ j : Fin 26, k0_pay329 e (ix2 (0 : Fin 1) j) = e (ix2 (0 : Fin 1) (⟨3 * 32 + j.val, row_lt 3 j⟩ : Fin 256)) := fun j => by pointwise [k0_pay329]
  have q4 : ∀ j : Fin 26, k0_pay347 e (ix2 (0 : Fin 1) j) = e (ix2 (0 : Fin 1) (⟨4 * 32 + j.val, row_lt 4 j⟩ : Fin 256)) := fun j => by pointwise [k0_pay347]
  have q5 : ∀ j : Fin 26, k0_pay351 e (ix2 (0 : Fin 1) j) = e (ix2 (0 : Fin 1) (⟨5 * 32 + j.val, row_lt 5 j⟩ : Fin 256)) := fun j => by
    pointwise [k0_pay351]
    exact congrArg (fun k => e (ix2 (0 : Fin 1) k)) (Fin.ext (by show 128 + (32 + j.val) = 5 * 32 + j.val; omega))
  have q6 : ∀ j : Fin 26, k0_pay355 e (ix2 (0 : Fin 1) j) = e (ix2 (0 : Fin 1) (⟨6 * 32 + j.val, row_lt 6 j⟩ : Fin 256)) := fun j => by
    pointwise [k0_pay355]
    exact congrArg (fun k => e (ix2 (0 : Fin 1) k)) (Fin.ext (by show 128 + (64 + j.val) = 6 * 32 + j.val; omega))
  have q7 : ∀ j : Fin 26, k0_pay359 e (ix2 (0 : Fin 1) j) = e (ix2 (0 : Fin 1) (⟨7 * 32 + j.val, row_lt 7 j⟩ : Fin 256)) := fun j => by
    pointwise [k0_pay359]
    exact congrArg (fun k => e (ix2 (0 : Fin 1) k)) (Fin.ext (by show 128 + (96 + j.val) = 7 * 32 + j.val; omega))
  have key : ∀ (o : ℕ) (ho : o < 8) (w : (⟨2, S1x26.size⟩ : Shape).Idx → Elt F .f32),
      (∀ j : Fin 26, w (ix2 (0 : Fin 1) j) = e (ix2 (0 : Fin 1) (⟨o * 32 + j.val, row_lt ⟨o, ho⟩ j⟩ : Fin 256))) →
      View.TileAt (S := S8x26) (Val := Elt F) (e := .f32) (ix2 b j) ![o, 0] S1x26.size w (e (ix2 (0 : Fin 1) (⟨b.val * 32 + j.val, row_lt b j⟩ : Fin 256))) := by
    intro o ho w hw x hx
    have x0 : b.val = o + (x 0).val := hx 0
    have x1 : j.val = 0 + (x 1).val := hx 1
    have l0 : (x 0).val < 1 := (x 0).isLt
    have hj : x = ix2 (0 : Fin 1) j := by
      funext a; apply Fin.ext
      match a with
      | ⟨0, _⟩ => show (x 0).val = 0; omega
      | ⟨1, _⟩ => show (x 1).val = j.val; omega
    rw [hj, hw]
    have : o = b.val := by omega
    subst this
    rfl
  refine View.canon_eq_of_allAt _ _ _ (entPieces_cover e _) ?_
  exact View.allAt_cons_unit _ _ _ _ _ (key 7 (by omega) _ q7) (View.allAt_cons_unit _ _ _ _ _ (key 6 (by omega) _ q6)
    (View.allAt_cons_unit _ _ _ _ _ (key 5 (by omega) _ q5) (View.allAt_cons_unit _ _ _ _ _ (key 4 (by omega) _ q4)
    (View.allAt_cons_unit _ _ _ _ _ (key 3 (by omega) _ q3) (View.allAt_cons_unit _ _ _ _ _ (key 2 (by omega) _ q2)
    (View.allAt_cons_unit _ _ _ _ _ (key 1 (by omega) _ q1) (View.allAt_cons_unit _ _ _ _ _ (key 0 (by omega) _ q0) (View.allAt_nil _ _))))))))

variable (m : (ℓ : Loc nD τ sig) → Buf (Elt Ideal) ℓ) (ρ : Dev nD → PrngReg) (c : Dev nD)

/-- The first result array at the end: the one block written back. -/
theorem final_e : (dats m 0 c).arrAt 5 cfg0.N = entBlk (entStd m c t0_0) := by
  have hz : (fun a => win0_5.index t0_0 a * main_v17_0.ty.shape.size a) = fun _ => 0 := funext fun a => by fin_cases a <;> decide
  have one : ∀ t t' : Fin cfg0.N, t = t' := fun t t' => by rcases fin_N0 t with rfl; rcases fin_N0 t' with rfl; rfl
  have h1 := Memref.read_access_unit_zero (Elt Ideal) main_v17_0 hz (fun a => by rw [congrFun hz a]; simp) ((dats m 0 c).arrAt 5 cfg0.N)
  have h2 : ((cfg0.win 5).blk t0_0).view.read (Elt Ideal) ((dats m 0 c).arrAt 5 cfg0.N) = (dats m 0 c).flushed 5 t0_0 :=
    (dats m 0 c).read_blk_arrAt_eq_flushed 5 (fun t t' _ _ hne => absurd (one t t') hne) cfg0.N t0_0 t0_0.isLt (flush0_5 t0_0)
  have h3 : (dats m 0 c).flushed 5 t0_0 = entBlk (entStd m c t0_0) := by
    show (cfg0.win 5).cut (grid0.coords t0_0) (entBlk (entStd m c t0_0)) = _
    rfl
  exact h1.symm.trans (h2.trans h3)

/-- One element of the kernel's entropies, over real arguments: the logits may be moved by any `M`. -/
theorem kernel_at (b : Fin 8) (j : Fin 26) (X : Fin 8192 → ℝ) (W : Fin 32000 → Fin 8192 → ℝ) (s : ℝ) (ω : Fin 32000 → ℝ)
    (hX : ∀ d, Ideal.ofBits .fp8e4m3 ((m ((c : Thread nD τ).loc main_arg0) : IVec S8x26x8192 8) (ix3 b j d)) = ((X d : ℝ) : EReal))
    (hW : ∀ v d, Ideal.ofBits .fp8e4m3 ((m ((c : Thread nD τ).loc main_arg4) : IVec S32000x8192 8) (ix2 v d)) = ((W v d : ℝ) : EReal))
    (hs : (m ((c : Thread nD τ).loc main_arg1) : FVec Ideal S8x26 .f32) (ix2 b j) = ((s : ℝ) : EReal))
    (hω : ∀ v, (m ((c : Thread nD τ).loc main_arg5) : FVec Ideal S32000 .f32) (ix1 v) = ((ω v : ℝ) : EReal)) (M : ℝ) :
    ((dats m 0 c).arrAt 5 cfg0.N : Vec Ideal S8x26 .f32) (ix2 b j) = ((entR (logitR X W s ω) M : ℝ) : EReal) := by
  rw [final_e, entBlk_at]
  let gN : ℕ → ℝ := fun n => if h : n < 32000 then logitR X W s ω ⟨n, h⟩ else 0
  have hgN : ∀ v : Fin 32000, gN v.val = logitR X W s ω v := fun v => dif_pos v.isLt
  have hhead : ∀ v d, (XH m c : Vec Ideal S32000x8192 .fp8e4m3) (ix2 v d) = ((W v d : ℝ) : EReal) := fun v d =>
    (congrFun (V_head m c) (ix2 v d)).trans (hW v d)
  obtain ⟨M', hM⟩ := ent_at c (XH m c) (st0_0 t0_0) (st0_1 t0_0) (st0_4 t0_0) ((hstage0_0 0).unread (iblk m c 0 t0_0)) ((hstage0_1 0).unread (iblk m c 1 t0_0))
    ((hstage0_4 0).unread (iblk m c 4 t0_0)) (⟨b.val * 32 + j.val, row_lt b j⟩ : Fin 256) (fun n => gN n / Real.log 2) (fun v => by
      have r0 : (st0_0 t0_0).view.read (Elt Ideal) ((hstage0_0 0).unread (iblk m c 0 t0_0)) = iblk m c 0 t0_0 := Memref.IsWhole.read_unread _ _
      have r1 : (st0_1 t0_0).view.read (Elt Ideal) ((hstage0_1 0).unread (iblk m c 1 t0_0)) = iblk m c 1 t0_0 := Memref.IsWhole.read_unread _ _
      have r4 : (st0_4 t0_0).view.read (Elt Ideal) ((hstage0_4 0).unread (iblk m c 4 t0_0)) = iblk m c 4 t0_0 := Memref.IsWhole.read_unread _ _
      rw [r0, r1, r4]
      unfold zAt
      have a0 : ∀ d, (iblk m c 0 t0_0 : Vec Ideal S256x8192 .fp8e4m3) (ix2 (⟨b.val * 32 + j.val, row_lt b j⟩ : Fin 256) d) = ((X d : ℝ) : EReal) := fun d =>
        (iblk_x m c t0_0 _ d).trans ((V_x m c b j d).trans (hX d))
      have a1 : (iblk m c 1 t0_0 : Vec Ideal S1x256 .f32) (ix2 0 (⟨b.val * 32 + j.val, row_lt b j⟩ : Fin 256)) = ((s : ℝ) : EReal) :=
        (iblk_xs m c t0_0 _).trans ((V_xs m c b j).trans hs)
      have a4 : (iblk m c 4 t0_0 : Vec Ideal S125x2x128 .f32) (ix3 (⟨v.val / 256, by omega⟩ : Fin 125) (⟨v.val % 256 / 128, by omega⟩ : Fin 2) (⟨v.val % 128, by omega⟩ : Fin 128)) = ((ω v : ℝ) : EReal) :=
        (iblk_ws m c t0_0 _ _ _).trans ((V_ws m c v).trans (hω v))
      simp only [hhead, a0, a1, a4, ← EReal.coe_mul]
      rw [sum_coe, ← EReal.coe_mul, ← EReal.coe_mul, hgN]
      congr 1
      unfold logitR
      rw [Finset.sum_congr rfl fun d _ => mul_comm (W v d) (X d), mul_inv]
      ring)
  refine hM.trans ?_
  rw [entropy_eq (Finset.range 32000) ⟨0, Finset.mem_range.mpr (by norm_num)⟩ gN M' M]
  unfold entR
  simp only [Finset.sum_range, hgN]

/-- Every run ends with the first result the entropies and the arguments as they were. -/
theorem run_value (h : PreOK m) :
    θ_run defs (onTc (τ := τ) (main (F := Ideal))) ⟨m, fun _ => 0, ρ⟩ (fun r => ∀ c : Dev nD,
      r.2.mem ((c.tc : Thread nD τ).loc main_v17_0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hh c => ⟨((dats m 0 c).toRForget_arrAt_iff (fgt := forgets0) (w := 5) rfl _ _).mp ((hh.1 c).1 5),
      ((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      (((dats m 0 c).toRForget_arrAt_iff (fgt := forgets0) (w := 3) rfl _ _).mp ((hh.1 c).1 3)).trans (((dats m 0 c).arrAt_in 3 rfl _).trans (V_main_arg3 m c)),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩) (run_main m ρ h)

end Cert.Proof.KernelIdeal

end
-- ==== Proof.lean ====
/-
  The claim, put together: the kernel's and its idealization's frames from their launches, the reference's frame, and
  the idealization's four kinds of named constants; and that the idealized kernel and the reference compute one entropy.
-/
module

public import proofs.«01_k».proof.Proof.Pre
public import proofs.«01_k».proof.Proof.Gen.ReferenceIdeal.Frame
public import proofs.«01_k».proof.Proof.Gen.ReferenceIdeal.Value
public import proofs.«01_k».proof.Proof.PreReal
public import proofs.«01_k».proof.Proof.RefRead
public import proofs.«01_k».proof.Proof.KValue

@[expose] public section

noncomputable section

namespace Cert.Proof

open Idealize.ShloMosaic Idealize.SL.Sem Cert.Kernel

theorem frame_kernel : Cert.quiescent_Kernel := fun m ρ h =>
  Kernel.frame_run (F := Bits) m ρ fun c j => tok_of_valid _ _ _ _ _ _ (h c).1 j

theorem frame_ideal : Cert.quiescent_KernelIdeal := fun m ρ h =>
  KernelIdeal.frame_run (F := Ideal) m ρ fun c j => tok_of_valid _ _ _ _ _ _ (h c).1 j

theorem named : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The entropies of the idealized kernel and of the reference are equal. -/
theorem same : Cert.algebraic_KernelIdeal_ReferenceIdeal := by
  intro m g m' g' hpre hagree
  have ok : KernelIdeal.PreOK m := fun c j => tok_of_valid _ _ _ _ _ _ (hpre c).1 j
  refine ⟨fun c => (KernelIdeal.dats m 0 c).arrAt 5 Cert.KernelIdeal.cfg0.N, KernelIdeal.run_value m g ok, ?_⟩
  refine (θ_run Cert.ReferenceIdeal.defs _ _).mono (fun r hr c => ?_) (Cert.ReferenceIdeal.Value.run_blocks m' g')
  refine ⟨(hr c).1.trans ?_, (hr c).2⟩
  obtain ⟨a0, a1, a2, a3, a4, a5⟩ := hagree c
  obtain ⟨p2, p3, p4, p5, p6⟩ := hpre c
  have k0 := codes_of_valid _ _ _ _ _ _ p3
  have k4 := head_of_valid _ _ _ _ _ _ p4
  have k1 := xs_of_valid _ _ _ _ _ _ p5
  have k5 := ws_of_valid _ _ _ _ _ _ p6
  choose X hX using k0
  choose W hW using k4
  choose s hs using k1
  choose w hw using k5
  have key : ∀ (b : Fin 8) (j : Fin 26),
      ((Cert.ReferenceIdeal.Gen.dats m' 0 c).arrAt 4 Cert.ReferenceIdeal.cfg0.N : Vec Ideal Cert.ReferenceIdeal.S8x26 .f32) (ix2 b j)
        = ((KernelIdeal.dats m 0 c).arrAt 5 Cert.KernelIdeal.cfg0.N : Vec Ideal Cert.KernelIdeal.S8x26 .f32) (ix2 b j) := by
    intro b j
    obtain ⟨M, hM⟩ := ReferenceIdeal.ref_at m' c b j (fun d => X (ix3 b j d)) (fun v d => W (ix2 v d)) (s (ix2 b j)) (fun v => w (ix1 v))
      (fun d => (congrArg (Ideal.ofBits .fp8e4m3) (congrFun a0 (ix3 b j d))).trans (hX _))
      (fun v d => (congrArg (Ideal.ofBits .fp8e4m3) (congrFun a4 (ix2 v d))).trans (hW _))
      ((congrFun a1 (ix2 b j)).trans (hs _)) (fun v => (congrFun a5 (ix1 v)).trans (hw _))
    exact hM.trans (KernelIdeal.kernel_at m c b j (fun d => X (ix3 b j d)) (fun v d => W (ix2 v d)) (s (ix2 b j)) (fun v => w (ix1 v))
      (fun d => hX _) (fun v d => hW _) (hs _) (fun v => hw _) M).symm
  funext i
  have hi : i = ix2 (i 0) (i 1) := by funext a; fin_cases a <;> rfl
  rw [hi]
  exact key (i 0) (i 1)

theorem claim : Cert.Claim := ⟨Cert.Kernel.Gen.facts, Cert.KernelIdeal.Gen.facts, Cert.ReferenceIdeal.Gen.facts, Cert.Pre_valid.Gen.facts,
  frame_kernel, frame_ideal, fun m ρ _ => Cert.ReferenceIdeal.Gen.frame m ρ, fun m ρ _ => Cert.ReferenceIdeal.Gen.frame m ρ, named, same⟩

end Cert.Proof

end
